-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Experts [hPre_tokens : Cert.Pre_tokens.Facts] (m : (ℓ : Loc Cert.Experts.nD Cert.Experts.τ Cert.Experts.sig) → Buf (Elt Bits) ℓ) : Prop :=
  ∀ c : Dev Cert.Experts.nD,
    (Cert.Pre_tokens.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_tokens : Cert.Pre_tokens.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal [hPre_tokens : Cert.Pre_tokens.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tokens.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Combine [hPre_rows_in : Cert.Pre_rows_in.Facts] (m : (ℓ : Loc Cert.Combine.nD Cert.Combine.τ Cert.Combine.sig) → Buf (Elt Bits) ℓ) : Prop :=
  ∀ c : Dev Cert.Combine.nD,
    (Cert.Pre_rows_in.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_rows_in : Cert.Pre_rows_in.Facts] (m : (ℓ : Loc Cert.CombineIdeal.nD Cert.CombineIdeal.τ Cert.CombineIdeal.sig) → Buf (Elt Ideal) ℓ) : Prop :=
  ∀ c : Dev Cert.CombineIdeal.nD,
    (Cert.Pre_rows_in.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineRefIdeal [hPre_rows_in : Cert.Pre_rows_in.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_rows_in.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Experts [hExperts : Cert.Experts.Facts] [hPre_tokens : Cert.Pre_tokens.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_tokens : Cert.Pre_tokens.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] [hPre_tokens : Cert.Pre_tokens.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Combine [hCombine : Cert.Combine.Facts] [hPre_rows_in : Cert.Pre_rows_in.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_rows_in : Cert.Pre_rows_in.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] [hPre_rows_in : Cert.Pre_rows_in.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v4)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v17) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tokens : Cert.Pre_tokens.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v34)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v34) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v258) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Combine_CombineIdeal : Prop :=
  True

def algebraic_CombineIdeal_CombineRefIdeal [hCombineIdeal : Cert.CombineIdeal.Facts] [hCombineRefIdeal : Cert.CombineRefIdeal.Facts] [hPre_rows_in : Cert.Pre_rows_in.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v35) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v45) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def Claim : Prop :=
  ∃ (hMemKv : Cert.MemKv.Facts) (hMemKvIdeal : Cert.MemKvIdeal.Facts) (hMemKvRefIdeal : Cert.MemKvRefIdeal.Facts) (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hCombine : Cert.Combine.Facts) (hCombineIdeal : Cert.CombineIdeal.Facts) (hCombineRefIdeal : Cert.CombineRefIdeal.Facts) (hConv : Cert.Conv.Facts) (hConvIdeal : Cert.ConvIdeal.Facts) (hConvRefIdeal : Cert.ConvRefIdeal.Facts) (hOutProj : Cert.OutProj.Facts) (hOutProjIdeal : Cert.OutProjIdeal.Facts) (hOutProjRefIdeal : Cert.OutProjRefIdeal.Facts) (hPre_tokens : Cert.Pre_tokens.Facts) (hPre_rows_in : Cert.Pre_rows_in.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Attn (hAttn := hAttn)
    ∧ quiescent_AttnIdeal (hAttnIdeal := hAttnIdeal)
    ∧ quiescent_AttnRefIdeal (hAttnRefIdeal := hAttnRefIdeal)
    ∧ quiescent_Experts (hExperts := hExperts) (hPre_tokens := hPre_tokens)
    ∧ quiescent_ExpertsIdeal (hExpertsIdeal := hExpertsIdeal) (hPre_tokens := hPre_tokens)
    ∧ quiescent_ExpertsRefIdeal (hExpertsRefIdeal := hExpertsRefIdeal) (hPre_tokens := hPre_tokens)
    ∧ quiescent_Combine (hCombine := hCombine) (hPre_rows_in := hPre_rows_in)
    ∧ quiescent_CombineIdeal (hCombineIdeal := hCombineIdeal) (hPre_rows_in := hPre_rows_in)
    ∧ quiescent_CombineRefIdeal (hCombineRefIdeal := hCombineRefIdeal) (hPre_rows_in := hPre_rows_in)
    ∧ quiescent_Conv (hConv := hConv)
    ∧ quiescent_ConvIdeal (hConvIdeal := hConvIdeal)
    ∧ quiescent_ConvRefIdeal (hConvRefIdeal := hConvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_MemKv_MemKvIdeal
    ∧ algebraic_MemKvIdeal_MemKvRefIdeal (hMemKvIdeal := hMemKvIdeal) (hMemKvRefIdeal := hMemKvRefIdeal)
    ∧ preserves_Attn_AttnIdeal
    ∧ algebraic_AttnIdeal_AttnRefIdeal (hAttnIdeal := hAttnIdeal) (hAttnRefIdeal := hAttnRefIdeal)
    ∧ preserves_Experts_ExpertsIdeal
    ∧ algebraic_ExpertsIdeal_ExpertsRefIdeal (hExpertsIdeal := hExpertsIdeal) (hExpertsRefIdeal := hExpertsRefIdeal) (hPre_tokens := hPre_tokens)
    ∧ preserves_Combine_CombineIdeal
    ∧ algebraic_CombineIdeal_CombineRefIdeal (hCombineIdeal := hCombineIdeal) (hCombineRefIdeal := hCombineRefIdeal) (hPre_rows_in := hPre_rows_in)
    ∧ preserves_Conv_ConvIdeal
    ∧ algebraic_ConvIdeal_ConvRefIdeal (hConvIdeal := hConvIdeal) (hConvRefIdeal := hConvRefIdeal)
    ∧ preserves_OutProj_OutProjIdeal
    ∧ algebraic_OutProjIdeal_OutProjRefIdeal (hOutProjIdeal := hOutProjIdeal) (hOutProjRefIdeal := hOutProjRefIdeal)
-- ==== Pre_rows_in.lean ====
abbrev S65536 : Shape := ⟨1, ![65536]⟩
abbrev S32768x1024 : Shape := ⟨2, ![32768, 1024]⟩
abbrev S32768x2 : Shape := ⟨2, ![32768, 2]⟩
abbrev S557056x128 : Shape := ⟨2, ![557056, 128]⟩
abbrev S1024 : Shape := ⟨1, ![1024]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : IVec S65536 32) (main_arg1 : FVec F S32768x1024 .f32) (main_arg2 : FVec F S32768x2 .f32) (main_arg3 : FVec F S557056x128 .f32) (main_arg4 : FVec F S1024 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 1 := constantI S_ 1 1#1
  let main_v2 : IVec S_ 1 := (fun x v => Host.reduce IntOp.andi x v reducesTo_S65536_S_d0 h_S_) main_v1 main_c_0
  let main_c_1 : IVec S_ 32 := constantI S_ 32 69632#32
  let main_v3 : IVec S65536 32 := broadcastInDim S65536 ![] bcast_S_S65536 main_c_1
  let main_v4 : IVec S65536 1 := cmpi .slt main_arg0 main_v3
  let main_c_2 : IVec S_ 1 := constantI S_ 1 1#1
  let main_v5 : IVec S_ 1 := (fun x v => Host.reduce IntOp.andi x v reducesTo_S65536_S_d0 h_S_) main_v4 main_c_2
  let main_v6 : IVec S_ 1 := andi main_v2 main_v5
  main_v6
-- ==== Pre_tokens.lean ====
abbrev S16 : Shape := ⟨1, ![16]⟩
abbrev S559104x128 : Shape := ⟨2, ![559104, 128]⟩
abbrev S16x1024x512 : Shape := ⟨3, ![16, 1024, 512]⟩
abbrev S16x512x1024 : Shape := ⟨3, ![16, 512, 1024]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16 32) (main_arg1 : FVec F S559104x128 .f32) (main_arg2 : FVec F S16x1024x512 .f32) (main_arg3 : FVec F S16x1024x512 .f32) (main_arg4 : FVec F S16x512x1024 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 65536#32
  let main_v3 : IVec S16 32 := broadcastInDim S16 ![] bcast_S_S16 main_c_1
  let main_v4 : IVec S16 1 := cmpi .sle main_arg0 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S16_S_d0 h_S_) main_arg0 main_c_3
  let main_c_4 : IVec S_ 32 := constantI S_ 32 65536#32
  let main_v8 : IVec S_ 1 := cmpi .eq main_v7 main_c_4
  let main_v9 : IVec S_ 1 := andi main_v6 main_v8
  main_v9
-- ==== MemKv.lean ====
abbrev S8x256x1024 : Shape := ⟨3, ![8, 256, 1024]⟩
abbrev S1024 : Shape := ⟨1, ![1024]⟩
abbrev S1024x1024 : Shape := ⟨2, ![1024, 1024]⟩
abbrev S1024x2048 : Shape := ⟨2, ![1024, 2048]⟩
abbrev S2048x1024 : Shape := ⟨2, ![2048, 1024]⟩
abbrev S1x1024 : Shape := ⟨2, ![1, 1024]⟩
abbrev S2048x2048 : Shape := ⟨2, ![2048, 2048]⟩
abbrev S1024x1 : Shape := ⟨2, ![1024, 1]⟩

abbrev nBuf : Space → Nat
  | .hbm => 9
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x2048, .f32⟩
  | .hbm, ⟨5, _⟩ => ⟨S1024x2048, .bf16⟩
  | .hbm, ⟨6, _⟩ => ⟨S2048x1024, .f32⟩
  | .hbm, ⟨7, _⟩ => ⟨S1x1024, .f32⟩
  | .hbm, ⟨8, _⟩ => ⟨S2048x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩
abbrev S2048x2048 : Shape := ⟨2, ![2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S8x256x2048, .f32⟩
  | .hbm, ⟨23, _⟩ => ⟨S2048x2048, .f32⟩
  | .hbm, ⟨24, _⟩ => ⟨S2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Attn.lean ====
abbrev S32768x1024 : Shape := ⟨2, ![32768, 1024]⟩
abbrev S1024 : Shape := ⟨1, ![1024]⟩
abbrev S1024x1024 : Shape := ⟨2, ![1024, 1024]⟩
abbrev S2048x2048 : Shape := ⟨2, ![2048, 2048]⟩
abbrev S1x1024 : Shape := ⟨2, ![1, 1024]⟩
abbrev S256x2048 : Shape := ⟨2, ![256, 2048]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S2048x2048, .bf16⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .bf16⟩
  | .local _ .vmem, ⟨5, _⟩ => ⟨S256x2048, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S32768x1024 : Shape := ⟨2, ![32768, 1024]⟩
abbrev S1024 : Shape := ⟨1, ![1024]⟩
abbrev S1024x1024 : Shape := ⟨2, ![1024, 1024]⟩
abbrev S2048x2048 : Shape := ⟨2, ![2048, 2048]⟩
abbrev S8x4096x1024 : Shape := ⟨3, ![8, 4096, 1024]⟩
abbrev S8x256x2048 : Shape := ⟨3, ![8, 256, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x1024 : Shape := ⟨3, ![8, 256, 1024]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S2048x2048, .bf16⟩
  | .hbm, ⟨4, _⟩ => ⟨S1024x1024, .f32⟩
  | .hbm, ⟨5, _⟩ => ⟨S8x4096x1024, .f32⟩
  | .hbm, ⟨6, _⟩ => ⟨S2048x2048, .f32⟩
  | .hbm, ⟨7, _⟩ => ⟨S8x256x2048, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x4x256, .f32⟩
  | .hbm, ⟨26, _⟩ => ⟨S8x256x1024, .f32⟩
  | .hbm, ⟨27, _⟩ => ⟨S8x256x4x256, .f32⟩
  | .hbm, ⟨28, _⟩ => ⟨S8x256x1024, .f32⟩
  | .hbm, ⟨29, _⟩ => ⟨S8x256x4x256, .f32⟩
  | .hbm, ⟨30, _⟩ => ⟨S8x4x4096x256, .f32⟩
  | .hbm, ⟨31, _⟩ => ⟨S_, .f32⟩
  | .hbm, ⟨32, _⟩ => ⟨S8x4x4096x256, .f32⟩
  | .hbm, ⟨33, _⟩ => ⟨S8x4x4096x256, .f32⟩
  | .hbm, ⟨34, _⟩ => ⟨S_, .f32⟩
  | .hbm, ⟨35, _⟩ => ⟨S8x4x4096, .f32⟩
  | .hbm, ⟨36, _⟩ => ⟨S_, .f32⟩
  | .hbm, ⟨37, _⟩ => ⟨S8x4x4096, .f32⟩
  | .hbm, ⟨38, _⟩ => ⟨S8x4x4096, .f32⟩
  | .hbm, ⟨39, _⟩ => ⟨S8x4x4096x1, .f32⟩
  | .hbm, ⟨40, _⟩ => ⟨S8x4x4096x256, .f32⟩
  | .hbm, ⟨41, _⟩ => ⟨S8x4x4096x256, .f32⟩
  | .hbm, ⟨42, _⟩ => ⟨S8x4x4096x256, .f32⟩
  | .hbm, ⟨43, _⟩ => ⟨S_, .f32⟩
  | .hbm, ⟨44, _⟩ => ⟨S8x4x4096, .f32⟩
  | .hbm, ⟨45, _⟩ => ⟨S8x4x4096x1, .f32⟩
  | .hbm, ⟨46, _⟩ => ⟨S8x4x4096x256, .f32⟩
  | .hbm, ⟨47, _⟩ => ⟨S8x4x4096x256, .f32⟩
  | .hbm, ⟨48, _⟩ => ⟨S8x4x256x4096, .f32⟩
  | .hbm, ⟨49, _⟩ => ⟨S8x4096x4x256, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Experts.lean ====
abbrev S16 : Shape := ⟨1, ![16]⟩
abbrev S559104x128 : Shape := ⟨2, ![559104, 128]⟩
abbrev S16x1024x512 : Shape := ⟨3, ![16, 1024, 512]⟩
abbrev S16x512x1024 : Shape := ⟨3, ![16, 512, 1024]⟩
abbrev S_ : Shape := ⟨0, ![]⟩
abbrev S272 : Shape := ⟨1, ![272]⟩
abbrev S272x1 : Shape := ⟨2, ![272, 1]⟩
abbrev S1x16 : Shape := ⟨2, ![1, 16]⟩
abbrev S272x16 : Shape := ⟨2, ![272, 16]⟩
abbrev S1 : Shape := ⟨1, ![1]⟩
abbrev S557056x128 : Shape := ⟨2, ![557056, 128]⟩
abbrev S2048x128 : Shape := ⟨2, ![2048, 128]⟩
abbrev S1x1024x512 : Shape := ⟨3, ![1, 1024, 512]⟩
abbrev S1x512x1024 : Shape := ⟨3, ![1, 512, 1024]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 80
  | .vmem => 10
  | .smem => 3
  | _ => 0

abbrev bufTy : (tb : Table) → Fin (tcTables nBuf tb) → BufTy
  | .hbm, ⟨0, _⟩ => ⟨S16, .i32⟩
  | .hbm, ⟨1, _⟩ => ⟨S559104x128, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S_, .i32⟩
  | .hbm, ⟨34, _⟩ => ⟨S16, .i32⟩
  | .hbm, ⟨35, _⟩ => ⟨S272, .i32⟩
  | .hbm, ⟨36, _⟩ => ⟨S_, .i32⟩
  | .hbm, ⟨37, _⟩ => ⟨S272, .i32⟩
  | .hbm, ⟨38, _⟩ => ⟨S272, .i32⟩
  | .hbm, ⟨39, _⟩ => ⟨S272x1, .i32⟩
  | .hbm, ⟨40, _⟩ => ⟨S1x16, .i32⟩
  | .hbm, ⟨41, _⟩ => ⟨S272x16, .i32⟩
  | .hbm, ⟨42, _⟩ => ⟨S272x16, .i32⟩
  | .hbm, ⟨43, _⟩ => ⟨S272x16, .i1⟩
  | .hbm, ⟨44, _⟩ => ⟨S272x16, .i32⟩
  | .hbm, ⟨45, _⟩ => ⟨S_, .i32⟩
  | .hbm, ⟨46, _⟩ => ⟨S272, .i32⟩
  | .hbm, ⟨47, _⟩ => ⟨S_, .i32⟩
  | .hbm, ⟨48, _⟩ => ⟨S272, .i32⟩
  | .hbm, ⟨49, _⟩ => ⟨S1, .i32⟩
  | .hbm, ⟨50, _⟩ => ⟨S_, .i32⟩
  | .hbm, ⟨51, _⟩ => ⟨S272, .i32⟩
  | .hbm, ⟨52, _⟩ => ⟨S272, .i1⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S272, .i32⟩
  | .hbm, ⟨58, _⟩ => ⟨S272, .i32⟩
  | .hbm, ⟨59, _⟩ => ⟨S_, .i32⟩
  | .hbm, ⟨60, _⟩ => ⟨S_, .i32⟩
  | .hbm, ⟨61, _⟩ => ⟨S272, .i32⟩
  | .hbm, ⟨62, _⟩ => ⟨S272, .i32⟩
  | .hbm, ⟨63, _⟩ => ⟨S272, .i32⟩
  | .hbm, ⟨64, _⟩ => ⟨S_, .i32⟩
  | .hbm, ⟨65, _⟩ => ⟨S272, .i32⟩
  | .hbm, ⟨66, _⟩ => ⟨S272, .i1⟩
  | .hbm, ⟨67, _⟩ => ⟨S272, .i32⟩
  | .hbm, ⟨68, _⟩ => ⟨S272, .i32⟩
  | .hbm, ⟨69, _⟩ => ⟨S_, .i32⟩
  | .hbm, ⟨70, _⟩ => ⟨S272, .i32⟩
  | .hbm, ⟨71, _⟩ => ⟨S272, .i1⟩
  | .hbm, ⟨72, _⟩ => ⟨S272, .i1⟩
  | .hbm, ⟨73, _⟩ => ⟨S_, .i32⟩
  | .hbm, ⟨74, _⟩ => ⟨S272, .i32⟩
  | .hbm, ⟨75, _⟩ => ⟨S272, .i32⟩
  | .hbm, ⟨76, _⟩ => ⟨S16x1024x512, .bf16⟩
  | .hbm, ⟨77, _⟩ => ⟨S16x1024x512, .bf16⟩
  | .hbm, ⟨78, _⟩ => ⟨S16x512x1024, .bf16⟩
  | .hbm, ⟨79, _⟩ => ⟨S557056x128, .f32⟩
  | .local _ .vmem, ⟨0, _⟩ => ⟨S2048x128, .f32⟩
  | .local _ .vmem, ⟨1, _⟩ => ⟨S2048x128, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S2048x128, .f32⟩
  | .local _ .vmem, ⟨9, _⟩ => ⟨S2048x128, .f32⟩
  | .local _ .smem, ⟨0, _⟩ => ⟨S272, .i32⟩
  | .local _ .smem, ⟨1, _⟩ => ⟨S272, .i32⟩
  | .local _ .smem, ⟨2, _⟩ => ⟨S272, .i32⟩
  | _, _ => ⟨S16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v19 : Ref sig .tc := ⟨.smem, 0, rfl⟩
abbrev main_v24 : Ref sig .tc := ⟨.smem, 1, rfl⟩
abbrev main_v30 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![272], ![false]⟩

abbrev pre0 : Pipeline.Prefetch sig := ⟨3, ![main_v19.idx, main_v24.idx, main_v30.idx], fun | 0 => main_v19.names | 1 => main_v24.names | 2 => main_v30.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S272.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S272) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S272.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S16 : Shape := ⟨1, ![16]⟩
abbrev S559104x128 : Shape := ⟨2, ![559104, 128]⟩
abbrev S16x1024x512 : Shape := ⟨3, ![16, 1024, 512]⟩
abbrev S16x512x1024 : Shape := ⟨3, ![16, 512, 1024]⟩
abbrev S69888x1024 : Shape := ⟨2, ![69888, 1024]⟩
abbrev S69632x1024 : Shape := ⟨2, ![69632, 1024]⟩
abbrev S_ : Shape := ⟨0, ![]⟩
abbrev S69632 : Shape := ⟨1, ![69632]⟩
abbrev S69632x1 : Shape := ⟨2, ![69632, 1]⟩
abbrev S1x16 : Shape := ⟨2, ![1, 16]⟩
abbrev S69632x16 : Shape := ⟨2, ![69632, 16]⟩
abbrev S1x1024x512 : Shape := ⟨3, ![1, 1024, 512]⟩
abbrev S1024x512 : Shape := ⟨2, ![1024, 512]⟩
abbrev S69632x512 : Shape := ⟨2, ![69632, 512]⟩
abbrev S1x512x1024 : Shape := ⟨3, ![1, 512, 1024]⟩
abbrev S512x1024 : Shape := ⟨2, ![512, 1024]⟩
abbrev S557056x128 : Shape := ⟨2, ![557056, 128]⟩

abbrev nBuf : Space → Nat
  | .hbm => 420
  | .vmem => 0
  | .smem => 0
  | _ => 0

abbrev hbmTy0_0 (i : Nat) : BufTy := match i % 128 with
  | 0 => ⟨S16, .i32⟩
  | 1 => ⟨S559104x128, .f32⟩
  | 2 => ⟨S16x1024x512, .f32⟩
  | 3 => ⟨S16x1024x512, .f32⟩
  | 4 => ⟨S16x512x1024, .f32⟩
  | 5 => ⟨S69888x1024, .f32⟩
  | 6 => ⟨S69632x1024, .f32⟩
  | 7 => ⟨S_, .i32⟩
  | 8 => ⟨S16, .i32⟩
  | 9 => ⟨S16, .i32⟩
  | 10 => ⟨S_, .i32⟩
  | 11 => ⟨S_, .i32⟩
  | 12 => ⟨S16, .i32⟩
  | 13 => ⟨S16, .i32⟩
  | 14 => ⟨S16, .i32⟩
  | 15 => ⟨S_, .i32⟩
  | 16 => ⟨S16, .i32⟩
  | 17 => ⟨S16, .i1⟩
  | 18 => ⟨S16, .i32⟩
  | 19 => ⟨S16, .i32⟩
  | 20 => ⟨S_, .i32⟩
  | 21 => ⟨S16, .i32⟩
  | 22 => ⟨S16, .i1⟩
  | 23 => ⟨S16, .i1⟩
  | 24 => ⟨S_, .i32⟩
  | 25 => ⟨S16, .i32⟩
  | 26 => ⟨S16, .i32⟩
  | 27 => ⟨S16, .i32⟩
  | 28 => ⟨S_, .i32⟩
  | 29 => ⟨S16, .i32⟩
  | 30 => ⟨S16, .i32⟩
  | 31 => ⟨S_, .i32⟩
  | 32 => ⟨S_, .i32⟩
  | 33 => ⟨S16, .i32⟩
  | 34 => ⟨S69632, .i32⟩
  | 35 => ⟨S69632x1, .i32⟩
  | 36 => ⟨S1x16, .i32⟩
  | 37 => ⟨S69632x16, .i32⟩
  | 38 => ⟨S69632x16, .i32⟩
  | 39 => ⟨S69632x16, .i1⟩
  | 40 => ⟨S69632x16, .i32⟩
  | 41 => ⟨S_, .i32⟩
  | 42 => ⟨S69632, .i32⟩
  | 43 => ⟨S69632x1, .i32⟩
  | 44 => ⟨S1x16, .i32⟩
  | 45 => ⟨S69632x16, .i32⟩
  | 46 => ⟨S69632x16, .i32⟩
  | 47 => ⟨S69632x16, .i1⟩
  | 48 => ⟨S69632x16, .f32⟩
  | 49 => ⟨S_, .f32⟩
  | 50 => ⟨S69632x1024, .f32⟩
  | 51 => ⟨S1x1024x512, .f32⟩
  | 52 => ⟨S1024x512, .f32⟩
  | 53 => ⟨S69632x512, .f32⟩
  | 54 => ⟨S69632x512, .f32⟩
  | 55 => ⟨S69632x512, .f32⟩
  | 56 => ⟨S_, .f32⟩
  | 57 => ⟨S69632x512, .f32⟩
  | 58 => ⟨S69632x512, .f32⟩
  | 59 => ⟨S_, .f32⟩
  | 60 => ⟨S69632x512, .f32⟩
  | 61 => ⟨S69632x512, .f32⟩
  | 62 => ⟨S69632x512, .f32⟩
  | 63 => ⟨S1x1024x512, .f32⟩
  | 64 => ⟨S1024x512, .f32⟩
  | 65 => ⟨S69632x512, .f32⟩
  | 66 => ⟨S69632x512, .f32⟩
  | 67 => ⟨S69632x1, .f32⟩
  | 68 => ⟨S1x512x1024, .f32⟩
  | 69 => ⟨S512x1024, .f32⟩
  | 70 => ⟨S69632x1024, .f32⟩
  | 71 => ⟨S69632x1024, .f32⟩
  | 72 => ⟨S69632x1024, .f32⟩
  | 73 => ⟨S69632x1024, .f32⟩
  | 74 => ⟨S1x1024x512, .f32⟩
  | 75 => ⟨S1024x512, .f32⟩
  | 76 => ⟨S69632x512, .f32⟩
  | 77 => ⟨S69632x512, .f32⟩
  | 78 => ⟨S69632x512, .f32⟩
  | 79 => ⟨S_, .f32⟩
  | 80 => ⟨S69632x512, .f32⟩
  | 81 => ⟨S69632x512, .f32⟩
  | 82 => ⟨S_, .f32⟩
  | 83 => ⟨S69632x512, .f32⟩
  | 84 => ⟨S69632x512, .f32⟩
  | 85 => ⟨S69632x512, .f32⟩
  | 86 => ⟨S1x1024x512, .f32⟩
  | 87 => ⟨S1024x512, .f32⟩
  | 88 => ⟨S69632x512, .f32⟩
  | 89 => ⟨S69632x512, .f32⟩
  | 90 => ⟨S69632x1, .f32⟩
  | 91 => ⟨S1x512x1024, .f32⟩
  | 92 => ⟨S512x1024, .f32⟩
  | 93 => ⟨S69632x1024, .f32⟩
  | 94 => ⟨S69632x1024, .f32⟩
  | 95 => ⟨S69632x1024, .f32⟩
  | 96 => ⟨S69632x1024, .f32⟩
  | 97 => ⟨S1x1024x512, .f32⟩
  | 98 => ⟨S1024x512, .f32⟩
  | 99 => ⟨S69632x512, .f32⟩
  | 100 => ⟨S69632x512, .f32⟩
  | 101 => ⟨S69632x512, .f32⟩
  | 102 => ⟨S_, .f32⟩
  | 103 => ⟨S69632x512, .f32⟩
  | 104 => ⟨S69632x512, .f32⟩
  | 105 => ⟨S_, .f32⟩
  | 106 => ⟨S69632x512, .f32⟩
  | 107 => ⟨S69632x512, .f32⟩
  | 108 => ⟨S69632x512, .f32⟩
  | 109 => ⟨S1x1024x512, .f32⟩
  | 110 => ⟨S1024x512, .f32⟩
  | 111 => ⟨S69632x512, .f32⟩
  | 112 => ⟨S69632x512, .f32⟩
  | 113 => ⟨S69632x1, .f32⟩
  | 114 => ⟨S1x512x1024, .f32⟩
  | 115 => ⟨S512x1024, .f32⟩
  | 116 => ⟨S69632x1024, .f32⟩
  | 117 => ⟨S69632x1024, .f32⟩
  | 118 => ⟨S69632x1024, .f32⟩
  | 119 => ⟨S69632x1024, .f32⟩
  | 120 => ⟨S1x1024x512, .f32⟩
  | 121 => ⟨S1024x512, .f32⟩
  | 122 => ⟨S69632x512, .f32⟩
  | 123 => ⟨S69632x512, .f32⟩
  | 124 => ⟨S69632x512, .f32⟩
  | 125 => ⟨S_, .f32⟩
  | 126 => ⟨S69632x512, .f32⟩
  | 127 => ⟨S69632x512, .f32⟩
  | _ => ⟨S16, .i32⟩

abbrev hbmTy0_1 (i : Nat) : BufTy := match i % 128 with
  | 0 => ⟨S_, .f32⟩
  | 1 => ⟨S69632x512, .f32⟩
  | 2 => ⟨S69632x512, .f32⟩
  | 3 => ⟨S69632x512, .f32⟩
  | 4 => ⟨S1x1024x512, .f32⟩
  | 5 => ⟨S1024x512, .f32⟩
  | 6 => ⟨S69632x512, .f32⟩
  | 7 => ⟨S69632x512, .f32⟩
  | 8 => ⟨S69632x1, .f32⟩
  | 9 => ⟨S1x512x1024, .f32⟩
  | 10 => ⟨S512x1024, .f32⟩
  | 11 => ⟨S69632x1024, .f32⟩
  | 12 => ⟨S69632x1024, .f32⟩
  | 13 => ⟨S69632x1024, .f32⟩
  | 14 => ⟨S69632x1024, .f32⟩
  | 15 => ⟨S1x1024x512, .f32⟩
  | 16 => ⟨S1024x512, .f32⟩
  | 17 => ⟨S69632x512, .f32⟩
  | 18 => ⟨S69632x512, .f32⟩
  | 19 => ⟨S69632x512, .f32⟩
  | 20 => ⟨S_, .f32⟩
  | 21 => ⟨S69632x512, .f32⟩
  | 22 => ⟨S69632x512, .f32⟩
  | 23 => ⟨S_, .f32⟩
  | 24 => ⟨S69632x512, .f32⟩
  | 25 => ⟨S69632x512, .f32⟩
  | 26 => ⟨S69632x512, .f32⟩
  | 27 => ⟨S1x1024x512, .f32⟩
  | 28 => ⟨S1024x512, .f32⟩
  | 29 => ⟨S69632x512, .f32⟩
  | 30 => ⟨S69632x512, .f32⟩
  | 31 => ⟨S69632x1, .f32⟩
  | 32 => ⟨S1x512x1024, .f32⟩
  | 33 => ⟨S512x1024, .f32⟩
  | 34 => ⟨S69632x1024, .f32⟩
  | 35 => ⟨S69632x1024, .f32⟩
  | 36 => ⟨S69632x1024, .f32⟩
  | 37 => ⟨S69632x1024, .f32⟩
  | 38 => ⟨S1x1024x512, .f32⟩
  | 39 => ⟨S1024x512, .f32⟩
  | 40 => ⟨S69632x512, .f32⟩
  | 41 => ⟨S69632x512, .f32⟩
  | 42 => ⟨S69632x512, .f32⟩
  | 43 => ⟨S_, .f32⟩
  | 44 => ⟨S69632x512, .f32⟩
  | 45 => ⟨S69632x512, .f32⟩
  | 46 => ⟨S_, .f32⟩
  | 47 => ⟨S69632x512, .f32⟩
  | 48 => ⟨S69632x512, .f32⟩
  | 49 => ⟨S69632x512, .f32⟩
  | 50 => ⟨S1x1024x512, .f32⟩
  | 51 => ⟨S1024x512, .f32⟩
  | 52 => ⟨S69632x512, .f32⟩
  | 53 => ⟨S69632x512, .f32⟩
  | 54 => ⟨S69632x1, .f32⟩
  | 55 => ⟨S1x512x1024, .f32⟩
  | 56 => ⟨S512x1024, .f32⟩
  | 57 => ⟨S69632x1024, .f32⟩
  | 58 => ⟨S69632x1024, .f32⟩
  | 59 => ⟨S69632x1024, .f32⟩
  | 60 => ⟨S69632x1024, .f32⟩
  | 61 => ⟨S1x1024x512, .f32⟩
  | 62 => ⟨S1024x512, .f32⟩
  | 63 => ⟨S69632x512, .f32⟩
  | 64 => ⟨S69632x512, .f32⟩
  | 65 => ⟨S69632x512, .f32⟩
  | 66 => ⟨S_, .f32⟩
  | 67 => ⟨S69632x512, .f32⟩
  | 68 => ⟨S69632x512, .f32⟩
  | 69 => ⟨S_, .f32⟩
  | 70 => ⟨S69632x512, .f32⟩
  | 71 => ⟨S69632x512, .f32⟩
  | 72 => ⟨S69632x512, .f32⟩
  | 73 => ⟨S1x1024x512, .f32⟩
  | 74 => ⟨S1024x512, .f32⟩
  | 75 => ⟨S69632x512, .f32⟩
  | 76 => ⟨S69632x512, .f32⟩
  | 77 => ⟨S69632x1, .f32⟩
  | 78 => ⟨S1x512x1024, .f32⟩
  | 79 => ⟨S512x1024, .f32⟩
  | 80 => ⟨S69632x1024, .f32⟩
  | 81 => ⟨S69632x1024, .f32⟩
  | 82 => ⟨S69632x1024, .f32⟩
  | 83 => ⟨S69632x1024, .f32⟩
  | 84 => ⟨S1x1024x512, .f32⟩
  | 85 => ⟨S1024x512, .f32⟩
  | 86 => ⟨S69632x512, .f32⟩
  | 87 => ⟨S69632x512, .f32⟩
  | 88 => ⟨S69632x512, .f32⟩
  | 89 => ⟨S_, .f32⟩
  | 90 => ⟨S69632x512, .f32⟩
  | 91 => ⟨S69632x512, .f32⟩
  | 92 => ⟨S_, .f32⟩
  | 93 => ⟨S69632x512, .f32⟩
  | 94 => ⟨S69632x512, .f32⟩
  | 95 => ⟨S69632x512, .f32⟩
  | 96 => ⟨S1x1024x512, .f32⟩
  | 97 => ⟨S1024x512, .f32⟩
  | 98 => ⟨S69632x512, .f32⟩
  | 99 => ⟨S69632x512, .f32⟩
  | 100 => ⟨S69632x1, .f32⟩
  | 101 => ⟨S1x512x1024, .f32⟩
  | 102 => ⟨S512x1024, .f32⟩
  | 103 => ⟨S69632x1024, .f32⟩
  | 104 => ⟨S69632x1024, .f32⟩
  | 105 => ⟨S69632x1024, .f32⟩
  | 106 => ⟨S69632x1024, .f32⟩
  | 107 => ⟨S1x1024x512, .f32⟩
  | 108 => ⟨S1024x512, .f32⟩
  | 109 => ⟨S69632x512, .f32⟩
  | 110 => ⟨S69632x512, .f32⟩
  | 111 => ⟨S69632x512, .f32⟩
  | 112 => ⟨S_, .f32⟩
  | 113 => ⟨S69632x512, .f32⟩
  | 114 => ⟨S69632x512, .f32⟩
  | 115 => ⟨S_, .f32⟩
  | 116 => ⟨S69632x512, .f32⟩
  | 117 => ⟨S69632x512, .f32⟩
  | 118 => ⟨S69632x512, .f32⟩
  | 119 => ⟨S1x1024x512, .f32⟩
  | 120 => ⟨S1024x512, .f32⟩
  | 121 => ⟨S69632x512, .f32⟩
  | 122 => ⟨S69632x512, .f32⟩
  | 123 => ⟨S69632x1, .f32⟩
  | 124 => ⟨S1x512x1024, .f32⟩
  | 125 => ⟨S512x1024, .f32⟩
  | 126 => ⟨S69632x1024, .f32⟩
  | 127 => ⟨S69632x1024, .f32⟩
  | _ => ⟨S16, .i32⟩

abbrev hbmTy0_2 (i : Nat) : BufTy := match i % 128 with
  | 0 => ⟨S69632x1024, .f32⟩
  | 1 => ⟨S69632x1024, .f32⟩
  | 2 => ⟨S1x1024x512, .f32⟩
  | 3 => ⟨S1024x512, .f32⟩
  | 4 => ⟨S69632x512, .f32⟩
  | 5 => ⟨S69632x512, .f32⟩
  | 6 => ⟨S69632x512, .f32⟩
  | 7 => ⟨S_, .f32⟩
  | 8 => ⟨S69632x512, .f32⟩
  | 9 => ⟨S69632x512, .f32⟩
  | 10 => ⟨S_, .f32⟩
  | 11 => ⟨S69632x512, .f32⟩
  | 12 => ⟨S69632x512, .f32⟩
  | 13 => ⟨S69632x512, .f32⟩
  | 14 => ⟨S1x1024x512, .f32⟩
  | 15 => ⟨S1024x512, .f32⟩
  | 16 => ⟨S69632x512, .f32⟩
  | 17 => ⟨S69632x512, .f32⟩
  | 18 => ⟨S69632x1, .f32⟩
  | 19 => ⟨S1x512x1024, .f32⟩
  | 20 => ⟨S512x1024, .f32⟩
  | 21 => ⟨S69632x1024, .f32⟩
  | 22 => ⟨S69632x1024, .f32⟩
  | 23 => ⟨S69632x1024, .f32⟩
  | 24 => ⟨S69632x1024, .f32⟩
  | 25 => ⟨S1x1024x512, .f32⟩
  | 26 => ⟨S1024x512, .f32⟩
  | 27 => ⟨S69632x512, .f32⟩
  | 28 => ⟨S69632x512, .f32⟩
  | 29 => ⟨S69632x512, .f32⟩
  | 30 => ⟨S_, .f32⟩
  | 31 => ⟨S69632x512, .f32⟩
  | 32 => ⟨S69632x512, .f32⟩
  | 33 => ⟨S_, .f32⟩
  | 34 => ⟨S69632x512, .f32⟩
  | 35 => ⟨S69632x512, .f32⟩
  | 36 => ⟨S69632x512, .f32⟩
  | 37 => ⟨S1x1024x512, .f32⟩
  | 38 => ⟨S1024x512, .f32⟩
  | 39 => ⟨S69632x512, .f32⟩
  | 40 => ⟨S69632x512, .f32⟩
  | 41 => ⟨S69632x1, .f32⟩
  | 42 => ⟨S1x512x1024, .f32⟩
  | 43 => ⟨S512x1024, .f32⟩
  | 44 => ⟨S69632x1024, .f32⟩
  | 45 => ⟨S69632x1024, .f32⟩
  | 46 => ⟨S69632x1024, .f32⟩
  | 47 => ⟨S69632x1024, .f32⟩
  | 48 => ⟨S1x1024x512, .f32⟩
  | 49 => ⟨S1024x512, .f32⟩
  | 50 => ⟨S69632x512, .f32⟩
  | 51 => ⟨S69632x512, .f32⟩
  | 52 => ⟨S69632x512, .f32⟩
  | 53 => ⟨S_, .f32⟩
  | 54 => ⟨S69632x512, .f32⟩
  | 55 => ⟨S69632x512, .f32⟩
  | 56 => ⟨S_, .f32⟩
  | 57 => ⟨S69632x512, .f32⟩
  | 58 => ⟨S69632x512, .f32⟩
  | 59 => ⟨S69632x512, .f32⟩
  | 60 => ⟨S1x1024x512, .f32⟩
  | 61 => ⟨S1024x512, .f32⟩
  | 62 => ⟨S69632x512, .f32⟩
  | 63 => ⟨S69632x512, .f32⟩
  | 64 => ⟨S69632x1, .f32⟩
  | 65 => ⟨S1x512x1024, .f32⟩
  | 66 => ⟨S512x1024, .f32⟩
  | 67 => ⟨S69632x1024, .f32⟩
  | 68 => ⟨S69632x1024, .f32⟩
  | 69 => ⟨S69632x1024, .f32⟩
  | 70 => ⟨S69632x1024, .f32⟩
  | 71 => ⟨S1x1024x512, .f32⟩
  | 72 => ⟨S1024x512, .f32⟩
  | 73 => ⟨S69632x512, .f32⟩
  | 74 => ⟨S69632x512, .f32⟩
  | 75 => ⟨S69632x512, .f32⟩
  | 76 => ⟨S_, .f32⟩
  | 77 => ⟨S69632x512, .f32⟩
  | 78 => ⟨S69632x512, .f32⟩
  | 79 => ⟨S_, .f32⟩
  | 80 => ⟨S69632x512, .f32⟩
  | 81 => ⟨S69632x512, .f32⟩
  | 82 => ⟨S69632x512, .f32⟩
  | 83 => ⟨S1x1024x512, .f32⟩
  | 84 => ⟨S1024x512, .f32⟩
  | 85 => ⟨S69632x512, .f32⟩
  | 86 => ⟨S69632x512, .f32⟩
  | 87 => ⟨S69632x1, .f32⟩
  | 88 => ⟨S1x512x1024, .f32⟩
  | 89 => ⟨S512x1024, .f32⟩
  | 90 => ⟨S69632x1024, .f32⟩
  | 91 => ⟨S69632x1024, .f32⟩
  | 92 => ⟨S69632x1024, .f32⟩
  | 93 => ⟨S69632x1024, .f32⟩
  | 94 => ⟨S1x1024x512, .f32⟩
  | 95 => ⟨S1024x512, .f32⟩
  | 96 => ⟨S69632x512, .f32⟩
  | 97 => ⟨S69632x512, .f32⟩
  | 98 => ⟨S69632x512, .f32⟩
  | 99 => ⟨S_, .f32⟩
  | 100 => ⟨S69632x512, .f32⟩
  | 101 => ⟨S69632x512, .f32⟩
  | 102 => ⟨S_, .f32⟩
  | 103 => ⟨S69632x512, .f32⟩
  | 104 => ⟨S69632x512, .f32⟩
  | 105 => ⟨S69632x512, .f32⟩
  | 106 => ⟨S1x1024x512, .f32⟩
  | 107 => ⟨S1024x512, .f32⟩
  | 108 => ⟨S69632x512, .f32⟩
  | 109 => ⟨S69632x512, .f32⟩
  | 110 => ⟨S69632x1, .f32⟩
  | 111 => ⟨S1x512x1024, .f32⟩
  | 112 => ⟨S512x1024, .f32⟩
  | 113 => ⟨S69632x1024, .f32⟩
  | 114 => ⟨S69632x1024, .f32⟩
  | 115 => ⟨S69632x1024, .f32⟩
  | 116 => ⟨S69632x1024, .f32⟩
  | 117 => ⟨S1x1024x512, .f32⟩
  | 118 => ⟨S1024x512, .f32⟩
  | 119 => ⟨S69632x512, .f32⟩
  | 120 => ⟨S69632x512, .f32⟩
  | 121 => ⟨S69632x512, .f32⟩
  | 122 => ⟨S_, .f32⟩
  | 123 => ⟨S69632x512, .f32⟩
  | 124 => ⟨S69632x512, .f32⟩
  | 125 => ⟨S_, .f32⟩
  | 126 => ⟨S69632x512, .f32⟩
  | 127 => ⟨S69632x512, .f32⟩
  | _ => ⟨S16, .i32⟩

abbrev hbmTy0_3 (i : Nat) : BufTy := match i % 128 with
  | 0 => ⟨S69632x512, .f32⟩
  | 1 => ⟨S1x1024x512, .f32⟩
  | 2 => ⟨S1024x512, .f32⟩
  | 3 => ⟨S69632x512, .f32⟩
  | 4 => ⟨S69632x512, .f32⟩
  | 5 => ⟨S69632x1, .f32⟩
  | 6 => ⟨S1x512x1024, .f32⟩
  | 7 => ⟨S512x1024, .f32⟩
  | 8 => ⟨S69632x1024, .f32⟩
  | 9 => ⟨S69632x1024, .f32⟩
  | 10 => ⟨S69632x1024, .f32⟩
  | 11 => ⟨S69632x1024, .f32⟩
  | 12 => ⟨S1x1024x512, .f32⟩
  | 13 => ⟨S1024x512, .f32⟩
  | 14 => ⟨S69632x512, .f32⟩
  | 15 => ⟨S69632x512, .f32⟩
  | 16 => ⟨S69632x512, .f32⟩
  | 17 => ⟨S_, .f32⟩
  | 18 => ⟨S69632x512, .f32⟩
  | 19 => ⟨S69632x512, .f32⟩
  | 20 => ⟨S_, .f32⟩
  | 21 => ⟨S69632x512, .f32⟩
  | 22 => ⟨S69632x512, .f32⟩
  | 23 => ⟨S69632x512, .f32⟩
  | 24 => ⟨S1x1024x512, .f32⟩
  | 25 => ⟨S1024x512, .f32⟩
  | 26 => ⟨S69632x512, .f32⟩
  | 27 => ⟨S69632x512, .f32⟩
  | 28 => ⟨S69632x1, .f32⟩
  | 29 => ⟨S1x512x1024, .f32⟩
  | 30 => ⟨S512x1024, .f32⟩
  | 31 => ⟨S69632x1024, .f32⟩
  | 32 => ⟨S69632x1024, .f32⟩
  | 33 => ⟨S69632x1024, .f32⟩
  | 34 => ⟨S69632x1024, .f32⟩
  | 35 => ⟨S557056x128, .f32⟩
  | _ => ⟨S16, .i32⟩

abbrev hbmTy (i : Nat) : BufTy := match i / 128 with
  | 0 => hbmTy0_0 i
  | 1 => hbmTy0_1 i
  | 2 => hbmTy0_2 i
  | 3 => hbmTy0_3 i
  | _ => ⟨S16, .i32⟩

abbrev bufTy : (tb : Table) → Fin (tcTables nBuf tb) → BufTy
  | .hbm, ⟨i, _⟩ => hbmTy i
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v16 : Ref sig .tc := ⟨.hbm, 48, rfl⟩
abbrev main_cst : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_call4_v0 : Ref sig .tc := ⟨.hbm, 77, rfl⟩
abbrev main_call4_v1 : Ref sig .tc := ⟨.hbm, 78, rfl⟩
abbrev main_call4_cst : Ref sig .tc := ⟨.hbm, 79, rfl⟩
abbrev main_call4_v2 : Ref sig .tc := ⟨.hbm, 80, rfl⟩
abbrev main_call4_v3 : Ref sig .tc := ⟨.hbm, 81, rfl⟩
abbrev main_call4_cst_0 : Ref sig .tc := ⟨.hbm, 82, rfl⟩
abbrev main_call4_v4 : Ref sig .tc := ⟨.hbm, 83, rfl⟩
abbrev main_call4_v5 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_call5_v0 : Ref sig .tc := ⟨.hbm, 100, rfl⟩
abbrev main_call5_v1 : Ref sig .tc := ⟨.hbm, 101, rfl⟩
abbrev main_call5_cst : Ref sig .tc := ⟨.hbm, 102, rfl⟩
abbrev main_call5_v2 : Ref sig .tc := ⟨.hbm, 103, rfl⟩
abbrev main_call5_v3 : Ref sig .tc := ⟨.hbm, 104, rfl⟩
abbrev main_call5_cst_0 : Ref sig .tc := ⟨.hbm, 105, rfl⟩
abbrev main_call5_v4 : Ref sig .tc := ⟨.hbm, 106, rfl⟩
abbrev main_call5_v5 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_call7_v0 : Ref sig .tc := ⟨.hbm, 146, rfl⟩
abbrev main_call7_v1 : Ref sig .tc := ⟨.hbm, 147, rfl⟩
abbrev main_call7_cst : Ref sig .tc := ⟨.hbm, 148, rfl⟩
abbrev main_call7_v2 : Ref sig .tc := ⟨.hbm, 149, rfl⟩
abbrev main_call7_v3 : Ref sig .tc := ⟨.hbm, 150, rfl⟩
abbrev main_call7_cst_0 : Ref sig .tc := ⟨.hbm, 151, rfl⟩
abbrev main_call7_v4 : Ref sig .tc := ⟨.hbm, 152, rfl⟩
abbrev main_call7_v5 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_call8_v0 : Ref sig .tc := ⟨.hbm, 169, rfl⟩
abbrev main_call8_v1 : Ref sig .tc := ⟨.hbm, 170, rfl⟩
abbrev main_call8_cst : Ref sig .tc := ⟨.hbm, 171, rfl⟩
abbrev main_call8_v2 : Ref sig .tc := ⟨.hbm, 172, rfl⟩
abbrev main_call8_v3 : Ref sig .tc := ⟨.hbm, 173, rfl⟩
abbrev main_call8_cst_0 : Ref sig .tc := ⟨.hbm, 174, rfl⟩
abbrev main_call8_v4 : Ref sig .tc := ⟨.hbm, 175, rfl⟩
abbrev main_call8_v5 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_call9_v0 : Ref sig .tc := ⟨.hbm, 192, rfl⟩
abbrev main_call9_v1 : Ref sig .tc := ⟨.hbm, 193, rfl⟩
abbrev main_call9_cst : Ref sig .tc := ⟨.hbm, 194, rfl⟩
abbrev main_call9_v2 : Ref sig .tc := ⟨.hbm, 195, rfl⟩
abbrev main_call9_v3 : Ref sig .tc := ⟨.hbm, 196, rfl⟩
abbrev main_call9_cst_0 : Ref sig .tc := ⟨.hbm, 197, rfl⟩
abbrev main_call9_v4 : Ref sig .tc := ⟨.hbm, 198, rfl⟩
abbrev main_call9_v5 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_call10_v0 : Ref sig .tc := ⟨.hbm, 215, rfl⟩
abbrev main_call10_v1 : Ref sig .tc := ⟨.hbm, 216, rfl⟩
abbrev main_call10_cst : Ref sig .tc := ⟨.hbm, 217, rfl⟩
abbrev main_call10_v2 : Ref sig .tc := ⟨.hbm, 218, rfl⟩
abbrev main_call10_v3 : Ref sig .tc := ⟨.hbm, 219, rfl⟩
abbrev main_call10_cst_0 : Ref sig .tc := ⟨.hbm, 220, rfl⟩
abbrev main_call10_v4 : Ref sig .tc := ⟨.hbm, 221, rfl⟩
abbrev main_call10_v5 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_call11_v0 : Ref sig .tc := ⟨.hbm, 238, rfl⟩
abbrev main_call11_v1 : Ref sig .tc := ⟨.hbm, 239, rfl⟩
abbrev main_call11_cst : Ref sig .tc := ⟨.hbm, 240, rfl⟩
abbrev main_call11_v2 : Ref sig .tc := ⟨.hbm, 241, rfl⟩
abbrev main_call11_v3 : Ref sig .tc := ⟨.hbm, 242, rfl⟩
abbrev main_call11_cst_0 : Ref sig .tc := ⟨.hbm, 243, rfl⟩
abbrev main_call11_v4 : Ref sig .tc := ⟨.hbm, 244, rfl⟩
abbrev main_call11_v5 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_call12_v0 : Ref sig .tc := ⟨.hbm, 261, rfl⟩
abbrev main_call12_v1 : Ref sig .tc := ⟨.hbm, 262, rfl⟩
abbrev main_call12_cst : Ref sig .tc := ⟨.hbm, 263, rfl⟩
abbrev main_call12_v2 : Ref sig .tc := ⟨.hbm, 264, rfl⟩
abbrev main_call12_v3 : Ref sig .tc := ⟨.hbm, 265, rfl⟩
abbrev main_call12_cst_0 : Ref sig .tc := ⟨.hbm, 266, rfl⟩
abbrev main_call12_v4 : Ref sig .tc := ⟨.hbm, 267, rfl⟩
abbrev main_call12_v5 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_call13_v0 : Ref sig .tc := ⟨.hbm, 284, rfl⟩
abbrev main_call13_v1 : Ref sig .tc := ⟨.hbm, 285, rfl⟩
abbrev main_call13_cst : Ref sig .tc := ⟨.hbm, 286, rfl⟩
abbrev main_call13_v2 : Ref sig .tc := ⟨.hbm, 287, rfl⟩
abbrev main_call13_v3 : Ref sig .tc := ⟨.hbm, 288, rfl⟩
abbrev main_call13_cst_0 : Ref sig .tc := ⟨.hbm, 289, rfl⟩
abbrev main_call13_v4 : Ref sig .tc := ⟨.hbm, 290, rfl⟩
abbrev main_call13_v5 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_call14_v0 : Ref sig .tc := ⟨.hbm, 307, rfl⟩
abbrev main_call14_v1 : Ref sig .tc := ⟨.hbm, 308, rfl⟩
abbrev main_call14_cst : Ref sig .tc := ⟨.hbm, 309, rfl⟩
abbrev main_call14_v2 : Ref sig .tc := ⟨.hbm, 310, rfl⟩
abbrev main_call14_v3 : Ref sig .tc := ⟨.hbm, 311, rfl⟩
abbrev main_call14_cst_0 : Ref sig .tc := ⟨.hbm, 312, rfl⟩
abbrev main_call14_v4 : Ref sig .tc := ⟨.hbm, 313, rfl⟩
abbrev main_call14_v5 : Ref sig .tc := ⟨.hbm, 314, rfl⟩
abbrev main_v186 : Ref sig .tc := ⟨.hbm, 315, rfl⟩
abbrev main_v187 : Ref sig .tc := ⟨.hbm, 316, rfl⟩
abbrev main_v188 : Ref sig .tc := ⟨.hbm, 317, rfl⟩
abbrev main_v189 : Ref sig .tc := ⟨.hbm, 318, rfl⟩
abbrev main_v190 : Ref sig .tc := ⟨.hbm, 319, rfl⟩
abbrev main_v191 : Ref sig .tc := ⟨.hbm, 320, rfl⟩
abbrev main_v192 : Ref sig .tc := ⟨.hbm, 321, rfl⟩
abbrev main_v193 : Ref sig .tc := ⟨.hbm, 322, rfl⟩
abbrev main_v194 : Ref sig .tc := ⟨.hbm, 323, rfl⟩
abbrev main_v195 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_call15_v0 : Ref sig .tc := ⟨.hbm, 330, rfl⟩
abbrev main_call15_v1 : Ref sig .tc := ⟨.hbm, 331, rfl⟩
abbrev main_call15_cst : Ref sig .tc := ⟨.hbm, 332, rfl⟩
abbrev main_call15_v2 : Ref sig .tc := ⟨.hbm, 333, rfl⟩
abbrev main_call15_v3 : Ref sig .tc := ⟨.hbm, 334, rfl⟩
abbrev main_call15_cst_0 : Ref sig .tc := ⟨.hbm, 335, rfl⟩
abbrev main_call15_v4 : Ref sig .tc := ⟨.hbm, 336, rfl⟩
abbrev main_call15_v5 : Ref sig .tc := ⟨.hbm, 337, rfl⟩
abbrev main_v201 : Ref sig .tc := ⟨.hbm, 338, rfl⟩
abbrev main_v202 : Ref sig .tc := ⟨.hbm, 339, rfl⟩
abbrev main_v203 : Ref sig .tc := ⟨.hbm, 340, rfl⟩
abbrev main_v204 : Ref sig .tc := ⟨.hbm, 341, rfl⟩
abbrev main_v205 : Ref sig .tc := ⟨.hbm, 342, rfl⟩
abbrev main_v206 : Ref sig .tc := ⟨.hbm, 343, rfl⟩
abbrev main_v207 : Ref sig .tc := ⟨.hbm, 344, rfl⟩
abbrev main_v208 : Ref sig .tc := ⟨.hbm, 345, rfl⟩
abbrev main_v209 : Ref sig .tc := ⟨.hbm, 346, rfl⟩
abbrev main_v210 : Ref sig .tc := ⟨.hbm, 347, rfl⟩
abbrev main_v211 : Ref sig .tc := ⟨.hbm, 348, rfl⟩
abbrev main_v212 : Ref sig .tc := ⟨.hbm, 349, rfl⟩
abbrev main_v213 : Ref sig .tc := ⟨.hbm, 350, rfl⟩
abbrev main_v214 : Ref sig .tc := ⟨.hbm, 351, rfl⟩
abbrev main_v215 : Ref sig .tc := ⟨.hbm, 352, rfl⟩
abbrev main_call16_v0 : Ref sig .tc := ⟨.hbm, 353, rfl⟩
abbrev main_call16_v1 : Ref sig .tc := ⟨.hbm, 354, rfl⟩
abbrev main_call16_cst : Ref sig .tc := ⟨.hbm, 355, rfl⟩
abbrev main_call16_v2 : Ref sig .tc := ⟨.hbm, 356, rfl⟩
abbrev main_call16_v3 : Ref sig .tc := ⟨.hbm, 357, rfl⟩
abbrev main_call16_cst_0 : Ref sig .tc := ⟨.hbm, 358, rfl⟩
abbrev main_call16_v4 : Ref sig .tc := ⟨.hbm, 359, rfl⟩
abbrev main_call16_v5 : Ref sig .tc := ⟨.hbm, 360, rfl⟩
abbrev main_v216 : Ref sig .tc := ⟨.hbm, 361, rfl⟩
abbrev main_v217 : Ref sig .tc := ⟨.hbm, 362, rfl⟩
abbrev main_v218 : Ref sig .tc := ⟨.hbm, 363, rfl⟩
abbrev main_v219 : Ref sig .tc := ⟨.hbm, 364, rfl⟩
abbrev main_v220 : Ref sig .tc := ⟨.hbm, 365, rfl⟩
abbrev main_v221 : Ref sig .tc := ⟨.hbm, 366, rfl⟩
abbrev main_v222 : Ref sig .tc := ⟨.hbm, 367, rfl⟩
abbrev main_v223 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_v227 : Ref sig .tc := ⟨.hbm, 372, rfl⟩
abbrev main_v228 : Ref sig .tc := ⟨.hbm, 373, rfl⟩
abbrev main_v229 : Ref sig .tc := ⟨.hbm, 374, rfl⟩
abbrev main_v230 : Ref sig .tc := ⟨.hbm, 375, rfl⟩
abbrev main_call17_v0 : Ref sig .tc := ⟨.hbm, 376, rfl⟩
abbrev main_call17_v1 : Ref sig .tc := ⟨.hbm, 377, rfl⟩
abbrev main_call17_cst : Ref sig .tc := ⟨.hbm, 378, rfl⟩
abbrev main_call17_v2 : Ref sig .tc := ⟨.hbm, 379, rfl⟩
abbrev main_call17_v3 : Ref sig .tc := ⟨.hbm, 380, rfl⟩
abbrev main_call17_cst_0 : Ref sig .tc := ⟨.hbm, 381, rfl⟩
abbrev main_call17_v4 : Ref sig .tc := ⟨.hbm, 382, rfl⟩
abbrev main_call17_v5 : Ref sig .tc := ⟨.hbm, 383, rfl⟩
abbrev main_v231 : Ref sig .tc := ⟨.hbm, 384, rfl⟩
abbrev main_v232 : Ref sig .tc := ⟨.hbm, 385, rfl⟩
abbrev main_v233 : Ref sig .tc := ⟨.hbm, 386, rfl⟩
abbrev main_v234 : Ref sig .tc := ⟨.hbm, 387, rfl⟩
abbrev main_v235 : Ref sig .tc := ⟨.hbm, 388, rfl⟩
abbrev main_v236 : Ref sig .tc := ⟨.hbm, 389, rfl⟩
abbrev main_v237 : Ref sig .tc := ⟨.hbm, 390, rfl⟩
abbrev main_v238 : Ref sig .tc := ⟨.hbm, 391, rfl⟩
abbrev main_v239 : Ref sig .tc := ⟨.hbm, 392, rfl⟩
abbrev main_v240 : Ref sig .tc := ⟨.hbm, 393, rfl⟩
abbrev main_v241 : Ref sig .tc := ⟨.hbm, 394, rfl⟩
abbrev main_v242 : Ref sig .tc := ⟨.hbm, 395, rfl⟩
abbrev main_v243 : Ref sig .tc := ⟨.hbm, 396, rfl⟩
abbrev main_v244 : Ref sig .tc := ⟨.hbm, 397, rfl⟩
abbrev main_v245 : Ref sig .tc := ⟨.hbm, 398, rfl⟩
abbrev main_call18_v0 : Ref sig .tc := ⟨.hbm, 399, rfl⟩
abbrev main_call18_v1 : Ref sig .tc := ⟨.hbm, 400, rfl⟩
abbrev main_call18_cst : Ref sig .tc := ⟨.hbm, 401, rfl⟩
abbrev main_call18_v2 : Ref sig .tc := ⟨.hbm, 402, rfl⟩
abbrev main_call18_v3 : Ref sig .tc := ⟨.hbm, 403, rfl⟩
abbrev main_call18_cst_0 : Ref sig .tc := ⟨.hbm, 404, rfl⟩
abbrev main_call18_v4 : Ref sig .tc := ⟨.hbm, 405, rfl⟩
abbrev main_call18_v5 : Ref sig .tc := ⟨.hbm, 406, rfl⟩
abbrev main_v246 : Ref sig .tc := ⟨.hbm, 407, rfl⟩
abbrev main_v247 : Ref sig .tc := ⟨.hbm, 408, rfl⟩
abbrev main_v248 : Ref sig .tc := ⟨.hbm, 409, rfl⟩
abbrev main_v249 : Ref sig .tc := ⟨.hbm, 410, rfl⟩
abbrev main_v250 : Ref sig .tc := ⟨.hbm, 411, rfl⟩
abbrev main_v251 : Ref sig .tc := ⟨.hbm, 412, rfl⟩
abbrev main_v252 : Ref sig .tc := ⟨.hbm, 413, rfl⟩
abbrev main_v253 : Ref sig .tc := ⟨.hbm, 414, rfl⟩
abbrev main_v254 : Ref sig .tc := ⟨.hbm, 415, rfl⟩
abbrev main_v255 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩

abbrev nD : Nat := 1
abbrev τ : Topo := Topo.v7x

variable {F : FTy → Type} [FloatOps F]
-- ==== Combine.lean ====
abbrev S65536 : Shape := ⟨1, ![65536]⟩
abbrev S32768x1024 : Shape := ⟨2, ![32768, 1024]⟩
abbrev S32768x2 : Shape := ⟨2, ![32768, 2]⟩
abbrev S557056x128 : Shape := ⟨2, ![557056, 128]⟩
abbrev S1024 : Shape := ⟨1, ![1024]⟩
abbrev S_ : Shape := ⟨0, ![]⟩
abbrev S32768x128 : Shape := ⟨2, ![32768, 128]⟩
abbrev S1x1024 : Shape := ⟨2, ![1, 1024]⟩
abbrev S1024x1024 : Shape := ⟨2, ![1024, 1024]⟩
abbrev S1024x128 : Shape := ⟨2, ![1024, 128]⟩
abbrev S8192x128 : Shape := ⟨2, ![8192, 128]⟩
abbrev S1 : Shape := ⟨1, ![1]⟩
abbrev S8x128 : Shape := ⟨2, ![8, 128]⟩
abbrev S1024x1 : Shape := ⟨2, ![1024, 1]⟩

abbrev nBuf : Space → Nat
  | .hbm => 9
  | .vmem => 9
  | .smem => 1
  | _ => 0

abbrev bufTy : (tb : Table) → Fin (tcTables nBuf tb) → BufTy
  | .hbm, ⟨0, _⟩ => ⟨S32768x1024, .f32⟩
  | .hbm, ⟨1, _⟩ => ⟨S32768x2, .f32⟩
  | .hbm, ⟨2, _⟩ => ⟨S557056x128, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S32768x128, .f32⟩
  | .hbm, ⟨7, _⟩ => ⟨S1x1024, .f32⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S8192x128, .f32⟩
  | .local _ .vmem, ⟨8, _⟩ => ⟨S8192x128, .f32⟩
  | .local _ .smem, ⟨0, _⟩ => ⟨S65536, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c1024_i32 : BitVec 32 := 1024#32
  let v1 : BitVec 32 := Scalar.addi c0_i32 c1024_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c2048_i32 : BitVec 32 := 2048#32
  let v0 : BitVec 32 := Scalar.muli arg0 c2048_i32
  let c2_i32 : BitVec 32 := 2#32
  let c0_i32 : BitVec 32 := 0#32
  let c1_i32 : BitVec 32 := 1#32
  let arg10 : BitVec 32 := Scf.iv c0_i32 c1_i32 k0_t1
  let v48 : BitVec 32 := Scalar.muli c2_i32 arg10
  let v49 : BitVec 32 := Scalar.addi v0 v48
  let v50 : Index := Scalar.indexCast v49
  ![v50.toNat]
def k0_mult1 (v51 : BitVec 32) : BitVec 32 :=
  let c8_i32 : BitVec 32 := 8#32
  let v52 : BitVec 32 := Scalar.muli v51 c8_i32
  v52

def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_39 : BitVec 32 := 8#32
  let v54 : BitVec 32 := Scalar.muli arg10 c8_i32_39
  v54
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_39 : BitVec 32 := 8#32
  let v54 : BitVec 32 := Scalar.muli arg10 c8_i32_39
  let v55 : BitVec 32 := v54
  let c0_i32_40 : BitVec 32 := 0#32
  ![v55.toNat, 0]
def k0_off3 (v51 : BitVec 32) : Fin 2 → Nat :=
  let c8_i32 : BitVec 32 := 8#32
  let v52 : BitVec 32 := Scalar.muli v51 c8_i32
  let v53 : BitVec 32 := v52
  let c0_i32_41 : BitVec 32 := 0#32
  ![v53.toNat, 0]

def k0_chk1 (v51 : BitVec 32) : Prop :=
  (8 ∣ (k0_mult1 v51).toNat) ∧
  (∀ a, (k0_off3 v51) a + S8x128.size a ≤ S557056x128.size a)
theorem k0_mult1_dvd : ∀ (v51 : BitVec 32) (k0_hw1 : k0_chk1 v51), 8 ∣ (k0_mult1 v51).toNat := fun v51 k0_hw1 => k0_hw1.1
theorem k0_off3_inb : ∀ (v51 : BitVec 32) (k0_hw1 : k0_chk1 v51), ∀ a, (k0_off3 v51) a + S8x128.size a ≤ S557056x128.size a := fun v51 k0_hw1 => k0_hw1.2

def k0_off4 (i : grid0.Coords) (k0_t1 : Fin k0_t1_loop.trips) : Fin 1 → Nat :=
  let arg0 : BitVec 32 := BitVec.ofNat 32 (i 0).val
  let c2048_i32 : BitVec 32 := 2048#32
  let v0 : BitVec 32 := Scalar.muli arg0 c2048_i32
  let c2_i32_42 : BitVec 32 := 2#32
  let c0_i32 : BitVec 32 := 0#32
  let c1_i32 : BitVec 32 := 1#32
  let arg10 : BitVec 32 := Scf.iv c0_i32 c1_i32 k0_t1
  let v58 : BitVec 32 := Scalar.muli c2_i32_42 arg10
  let v59 : BitVec 32 := Scalar.addi v0 v58
  let c1_i32_43 : BitVec 32 := 1#32
  let v60 : BitVec 32 := Scalar.addi v59 c1_i32_43
  let v61 : Index := Scalar.indexCast v60
  ![v61.toNat]
def k0_mult3 (v62 : BitVec 32) : BitVec 32 :=
  let c8_i32_44 : BitVec 32 := 8#32
  let v63 : BitVec 32 := Scalar.muli v62 c8_i32_44
  v63

def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_45 : BitVec 32 := 8#32
  let v65 : BitVec 32 := Scalar.muli arg10 c8_i32_45
  v65
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_45 : BitVec 32 := 8#32
  let v65 : BitVec 32 := Scalar.muli arg10 c8_i32_45
  let v66 : BitVec 32 := v65
  let c0_i32_46 : BitVec 32 := 0#32
  ![v66.toNat, 0]
def k0_off6 (v62 : BitVec 32) : Fin 2 → Nat :=
  let c8_i32_44 : BitVec 32 := 8#32
  let v63 : BitVec 32 := Scalar.muli v62 c8_i32_44
  let v64 : BitVec 32 := v63
  let c0_i32_47 : BitVec 32 := 0#32
  ![v64.toNat, 0]

def k0_chk2 (v62 : BitVec 32) : Prop :=
  (8 ∣ (k0_mult3 v62).toNat) ∧
  (∀ a, (k0_off6 v62) a + S8x128.size a ≤ S557056x128.size a)
theorem k0_mult3_dvd : ∀ (v62 : BitVec 32) (k0_hw2 : k0_chk2 v62), 8 ∣ (k0_mult3 v62).toNat := fun v62 k0_hw2 => k0_hw2.1
theorem k0_off6_inb : ∀ (v62 : BitVec 32) (k0_hw2 : k0_chk2 v62), ∀ a, (k0_off6 v62) a + S8x128.size a ≤ S557056x128.size a := fun v62 k0_hw2 => k0_hw2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineRefIdeal.lean ====
abbrev S65536 : Shape := ⟨1, ![65536]⟩
abbrev S32768x1024 : Shape := ⟨2, ![32768, 1024]⟩
abbrev S32768x2 : Shape := ⟨2, ![32768, 2]⟩
abbrev S557056x128 : Shape := ⟨2, ![557056, 128]⟩
abbrev S1024 : Shape := ⟨1, ![1024]⟩
abbrev S69632x1024 : Shape := ⟨2, ![69632, 1024]⟩
abbrev S_ : Shape := ⟨0, ![]⟩
abbrev S65536x1 : Shape := ⟨2, ![65536, 1]⟩
abbrev S65536x1024 : Shape := ⟨2, ![65536, 1024]⟩
abbrev S32768x2x1024 : Shape := ⟨3, ![32768, 2, 1024]⟩
abbrev S32768x1 : Shape := ⟨2, ![32768, 1]⟩
abbrev S32768x1x1024 : Shape := ⟨3, ![32768, 1, 1024]⟩
abbrev S32768 : Shape := ⟨1, ![32768]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S65536, .i32⟩
  | .hbm, ⟨1, _⟩ => ⟨S32768x1024, .f32⟩
  | .hbm, ⟨2, _⟩ => ⟨S32768x2, .f32⟩
  | .hbm, ⟨3, _⟩ => ⟨S557056x128, .f32⟩
  | .hbm, ⟨4, _⟩ => ⟨S1024, .f32⟩
  | .hbm, ⟨5, _⟩ => ⟨S69632x1024, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536x1024, .f32⟩
  | .hbm, ⟨15, _⟩ => ⟨S32768x2x1024, .f32⟩
  | .hbm, ⟨16, _⟩ => ⟨S_, .f32⟩
  | .hbm, ⟨17, _⟩ => ⟨S32768x1024, .f32⟩
  | .hbm, ⟨18, _⟩ => ⟨S32768x1, .f32⟩
  | .hbm, ⟨19, _⟩ => ⟨S32768x1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1, .f32⟩
  | .hbm, ⟨25, _⟩ => ⟨S32768x1x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Conv.lean ====
abbrev S32768x1024 : Shape := ⟨2, ![32768, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S8x1024 : Shape := ⟨2, ![8, 1024]⟩
abbrev S1024x1 : Shape := ⟨2, ![1024, 1]⟩
abbrev S1032x1024 : Shape := ⟨2, ![1032, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1x1024, .f32⟩
  | .hbm, ⟨6, _⟩ => ⟨S1024x3072, .bf16⟩
  | .hbm, ⟨7, _⟩ => ⟨S1024x1024, .bf16⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S32768x1024 : Shape := ⟨2, ![32768, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4098x1024 : Shape := ⟨3, ![8, 4098, 1024]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x3072, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .i32⟩
  | .hbm, ⟨28, _⟩ => ⟨S_, .f32⟩
  | .hbm, ⟨29, _⟩ => ⟨S8x4098x1024, .f32⟩
  | .hbm, ⟨30, _⟩ => ⟨S1x1024, .f32⟩
  | .hbm, ⟨31, _⟩ => ⟨S1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S1x1024, .f32⟩
  | .hbm, ⟨40, _⟩ => ⟨S1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S1x1024, .f32⟩
  | .hbm, ⟨47, _⟩ => ⟨S1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== OutProj.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S32768x512, .f32⟩
  | .hbm, ⟨5, _⟩ => ⟨S32768x512, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Mem.Pure.lean ====
/-
  The memory projection at an index. `rms` is one entry of the RMS-normalised memory, as both programs compute it;
  the kernel's payload of one point and the reference's result are then products of such rows with a weight column.
-/
module

public import proofs.«01_k».proof.Proof.Gen.MemKvIdeal.Value
public import proofs.«01_k».proof.Proof.Gen.MemKvRefIdeal.Read
public import Idealize.ShloMosaic.Lib.Pointwise

@[expose] public section

set_option maxRecDepth 16384

noncomputable section

namespace Cert.Proof.Mem

open Idealize.ShloMosaic Idealize.ShloMosaic.TcCoe Idealize.SL.Sem

/-- The reciprocal root mean square of a row of length 1024. -/
def scale (x : Fin 1024 → EReal) : EReal :=
  Ideal.rsqrt (Ideal.div (∑ k, x k * x k) (Ideal.ofBits .f32 0x44800000#32) + Ideal.ofBits .f32 0x358637BD#32)

/-- What one grid point stores, at an index: the normalised row times the weight column. -/
theorem pay_apply (x : FVec Ideal Cert.MemKvIdeal.S1024x1024 .f32) (g : FVec Ideal Cert.MemKvIdeal.S1x1024 .f32)
    (w : FVec Ideal Cert.MemKvIdeal.S1024x1024 .bf16) (r l : Fin 1024) :
    (Cert.MemKvIdeal.Gen.k0_pay1 (F := Ideal) x g w (ix2 r l) : EReal)
      = ∑ k : Fin 1024, ((x (ix2 r k) : EReal) * scale (fun k => x (ix2 r k)) * g (ix2 0 k)) * w (ix2 k l) := by
  pointwise [Cert.MemKvIdeal.Gen.k0_pay1, scale]

/-- The reference's result at an index: row `R` of the memory is row `R % 256` of batch `R / 256`, and the columns from
    1024 on take the second weight. -/
theorem ref_apply (x : FVec Ideal Cert.MemKvIdeal.S8x256x1024 .f32) (g : FVec Ideal Cert.MemKvIdeal.S1024 .f32)
    (wk wv : FVec Ideal Cert.MemKvIdeal.S1024x1024 .f32) (R C : Fin 2048) :
    (Cert.MemKvRefIdeal.Read.val_main_v17 (F := Ideal) x g wk wv (ix2 R C) : EReal)
      = ∑ k : Fin 1024, ((x (ix3 ⟨R.val / 256, by omega⟩ ⟨R.val % 256, by omega⟩ k) : EReal)
          * scale (fun k => x (ix3 ⟨R.val / 256, by omega⟩ ⟨R.val % 256, by omega⟩ k)) * g (ix1 k))
          * (if h : C.val < 1024 then wk (ix2 k ⟨C.val, h⟩) else wv (ix2 k ⟨C.val - 1024, by omega⟩)) := by
  pointwise [Cert.MemKvRefIdeal.Read.val_main_v17, Cert.MemKvRefIdeal.Read.val_main_v16, Cert.MemKvRefIdeal.Read.val_main_v15,
    Cert.MemKvRefIdeal.Read.val_main_v14, Cert.MemKvRefIdeal.Read.val_main_v13, Cert.MemKvRefIdeal.Read.val_main_v12,
    Cert.MemKvRefIdeal.Read.val_main_v11, Cert.MemKvRefIdeal.Read.val_main_v10, Cert.MemKvRefIdeal.Read.val_main_v9,
    Cert.MemKvRefIdeal.Read.val_main_v8, Cert.MemKvRefIdeal.Read.val_main_v7, Cert.MemKvRefIdeal.Read.val_main_v6,
    Cert.MemKvRefIdeal.Read.val_main_v5, Cert.MemKvRefIdeal.Read.val_main_v4, Cert.MemKvRefIdeal.Read.val_main_v3,
    Cert.MemKvRefIdeal.Read.val_main_v2, Cert.MemKvRefIdeal.Read.val_main_v1, Cert.MemKvRefIdeal.Read.val_main_v0,
    Cert.MemKvRefIdeal.Read.val_main_cst, Cert.MemKvRefIdeal.Read.val_main_cst_0, Cert.MemKvRefIdeal.Read.val_main_cst_1, scale]
  split <;> rfl

/-- The two weights side by side, rounded to the storage format: over the extended reals nothing but the two pieces. -/
theorem weights_apply (wk wv : FVec Ideal Cert.MemKvIdeal.S1024x1024 .f32) (k : Fin 1024) (C : Fin 2048) :
    ((truncf .bf16 (concatenate Cert.MemKvIdeal.S1024x2048 1 [⟨Cert.MemKvIdeal.S1024x1024, wk⟩, ⟨Cert.MemKvIdeal.S1024x1024, wv⟩]
        Cert.MemKvIdeal.Gen.facts.concatenates_S1024x1024_S1024x1024_S1024x2048_d1 : FVec Ideal Cert.MemKvIdeal.S1024x2048 .f32)
        Cert.MemKvIdeal.Gen.facts.bitsLt_bf16_f32 : FVec Ideal Cert.MemKvIdeal.S1024x2048 .bf16) (ix2 k C) : EReal)
      = if h : C.val < 1024 then wk (ix2 k ⟨C.val, h⟩) else wv (ix2 k ⟨C.val - 1024, by omega⟩) := by
  pointwise

/-- The memory laid out as one matrix. -/
theorem flat_apply (x : FVec Ideal Cert.MemKvIdeal.S8x256x1024 .f32) (R : Fin 2048) (k : Fin 1024) :
    shapeCast Cert.MemKvIdeal.S2048x1024 x Cert.MemKvIdeal.Gen.facts.shapeCasts_S8x256x1024_S2048x1024 (ix2 R k)
      = x (ix3 ⟨R.val / 256, by omega⟩ ⟨R.val % 256, by omega⟩ k) := by
  pointwise

/-- The norm's gain as a row. -/
theorem gain_apply (g : FVec Ideal Cert.MemKvIdeal.S1024 .f32) (k : Fin 1024) :
    broadcastInDim Cert.MemKvIdeal.S1x1024 ![1] Cert.MemKvIdeal.Gen.facts.bcast_S1024_S1x1024_1 g (ix2 0 k) = g (ix1 k) := by
  pointwise

end Cert.Proof.Mem

end
-- ==== Proof.Mem.Entry.lean ====
/-
  The arrays the memory projection's region finds, as the host's lines leave them.
-/
module

public import proofs.«01_k».proof.Proof.Mem.Pure

@[expose] public section

set_option maxRecDepth 16384

noncomputable section

namespace Cert.Proof.Mem

open Idealize.ShloMosaic Idealize.ShloMosaic.TcCoe Idealize.SL.Sem
open Cert.MemKvIdeal Cert.MemKvIdeal.Gen

variable {F : FTy → Type} [FloatOps F]
variable (m : (ℓ : Loc nD τ sig) → Buf (Elt F) ℓ)

theorem V2 (c : Dev nD) : V m c main_v2 = shapeCast S2048x1024 (m ((c : Thread nD τ).loc main_arg0)) shapeCasts_S8x256x1024_S2048x1024 := by
  dsimp only [V, hostOps0]
  after_results <;> rfl

theorem V3 (c : Dev nD) : V m c main_v3 = broadcastInDim S1x1024 ![1] bcast_S1024_S1x1024_1 (m ((c : Thread nD τ).loc main_arg1)) := by
  dsimp only [V, hostOps0]
  after_results <;> rfl

theorem V1 (c : Dev nD) : V m c main_v1 = truncf .bf16 (concatenate S1024x2048 1 [⟨S1024x1024, m ((c : Thread nD τ).loc main_arg2)⟩, ⟨S1024x1024, m ((c : Thread nD τ).loc main_arg3)⟩] concatenates_S1024x1024_S1024x1024_S1024x2048_d1) bitsLt_bf16_f32 := by
  dsimp only [V, hostOps0]
  after_results <;> rfl

theorem idx_facts : ∀ t : Fin grid0.N, (win0_0.index t = ![t.val / 2, 0]) ∧ (win0_1.index t = ![0, 0])
    ∧ (win0_2.index t = ![0, t.val % 2]) ∧ (win0_3.index t = ![t.val / 2, t.val % 2]) := by decide +kernel

end Cert.Proof.Mem

end
-- ==== Proof.Mem.Value.lean ====
/-
  The memory projection's result array: every grid point writes its block of the reference's result, and the four
  blocks tile the array.
-/
module

public import proofs.«01_k».proof.Proof.Mem.Entry

@[expose] public section

set_option maxRecDepth 16384

noncomputable section

namespace Cert.Proof.Mem

open Idealize.ShloMosaic Idealize.ShloMosaic.TcCoe Idealize.SL.Sem
open Idealize.ShloMosaic.Pipeline (Dat)
open Cert.MemKvIdeal Cert.MemKvIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-- The reference's result of the launch contents of the arguments. -/
abbrev G (c : Dev nD) : FVec Ideal S2048x2048 .bf16 :=
  Cert.MemKvRefIdeal.Read.val_main_v17 (F := Ideal) (m ((c : Thread nD τ).loc main_arg0)) (m ((c : Thread nD τ).loc main_arg1))
    (m ((c : Thread nD τ).loc main_arg2)) (m ((c : Thread nD τ).loc main_arg3))

theorem t_lt (t : Fin cfg0.N) : t.val < 4 := t.isLt

theorem iblk0_apply (c : Dev nD) (t : Fin cfg0.N) (r k : Fin 1024) :
    iblk m c 0 t (ix2 r k) = V m c main_v2 (ix2 ⟨t.val / 2 * 1024 + r.val, by have := t_lt t; omega⟩ k) := by
  show V m c main_v2 _ = V m c main_v2 _
  refine congrArg (V m c main_v2) (funext fun a => Fin.ext ?_)
  match a with
  | ⟨0, _⟩ => show win0_0.index t 0 * 1024 + 1 * r.val = _; rw [(idx_facts t).1, Nat.one_mul]; rfl
  | ⟨1, _⟩ => show win0_0.index t 1 * 1024 + 1 * k.val = _; rw [(idx_facts t).1, Nat.one_mul]; exact Nat.zero_add _

theorem iblk1_apply (c : Dev nD) (t : Fin cfg0.N) (k : Fin 1024) :
    iblk m c 1 t (ix2 0 k) = V m c main_v3 (ix2 0 k) := by
  show V m c main_v3 _ = V m c main_v3 _
  refine congrArg (V m c main_v3) (funext fun a => Fin.ext ?_)
  match a with
  | ⟨0, _⟩ => show win0_1.index t 0 * 1 + 1 * 0 = _; rw [(idx_facts t).2.1]; rfl
  | ⟨1, _⟩ => show win0_1.index t 1 * 1024 + 1 * k.val = _; rw [(idx_facts t).2.1, Nat.one_mul]; exact Nat.zero_add _

theorem iblk2_apply (c : Dev nD) (t : Fin cfg0.N) (k l : Fin 1024) :
    iblk m c 2 t (ix2 k l) = V m c main_v1 (ix2 k ⟨t.val % 2 * 1024 + l.val, by have := t_lt t; omega⟩) := by
  show V m c main_v1 _ = V m c main_v1 _
  refine congrArg (V m c main_v1) (funext fun a => Fin.ext ?_)
  match a with
  | ⟨0, _⟩ => show win0_2.index t 0 * 1024 + 1 * k.val = _; rw [(idx_facts t).2.2.1, Nat.one_mul]; exact Nat.zero_add _
  | ⟨1, _⟩ => show win0_2.index t 1 * 1024 + 1 * l.val = _; rw [(idx_facts t).2.2.1, Nat.one_mul]; rfl

theorem out_idx (t : Fin cfg0.N) (r l : Fin 1024) :
    ((cfg0.win 3).blk t).view.emb (ix2 r l)
      = ix2 (n0 := 2048) (n1 := 2048) ⟨t.val / 2 * 1024 + r.val, by have := t_lt t; omega⟩ ⟨t.val % 2 * 1024 + l.val, by have := t_lt t; omega⟩ := by
  refine funext fun a => Fin.ext ?_
  match a with
  | ⟨0, _⟩ => show win0_3.index t 0 * 1024 + 1 * r.val = _; rw [(idx_facts t).2.2.2, Nat.one_mul]; rfl
  | ⟨1, _⟩ => show win0_3.index t 1 * 1024 + 1 * l.val = _; rw [(idx_facts t).2.2.2, Nat.one_mul]; rfl

/-- The rows of a point's block lie in one batch of the memory per 256 rows; the payload of its blocks is the
    reference's value there. -/
theorem block_eq (c : Dev nD) (t : Fin cfg0.N) (r l : Fin 1024) :
    k0_pay1 (F := Ideal) (iblk m c 0 t) (iblk m c 1 t) (iblk m c 2 t) (ix2 r l)
      = G m c (ix2 ⟨t.val / 2 * 1024 + r.val, by have := t_lt t; omega⟩ ⟨t.val % 2 * 1024 + l.val, by have := t_lt t; omega⟩) := by
  have hx (k : Fin 1024) : iblk m c 0 t (ix2 r k) = (m ((c : Thread nD τ).loc main_arg0) : FVec Ideal S8x256x1024 .f32)
      (ix3 ⟨(t.val / 2 * 1024 + r.val) / 256, by have := t_lt t; omega⟩ ⟨(t.val / 2 * 1024 + r.val) % 256, by omega⟩ k) := by
    rw [iblk0_apply, V2]; exact flat_apply _ _ _
  have hg (k : Fin 1024) : iblk m c 1 t (ix2 0 k) = (m ((c : Thread nD τ).loc main_arg1) : FVec Ideal S1024 .f32) (ix1 k) := by
    rw [iblk1_apply, V3]; exact gain_apply _ _
  have hw (k : Fin 1024) : iblk m c 2 t (ix2 k l) = if h : t.val % 2 * 1024 + l.val < 1024
      then (m ((c : Thread nD τ).loc main_arg2) : FVec Ideal S1024x1024 .f32) (ix2 k ⟨t.val % 2 * 1024 + l.val, h⟩)
      else (m ((c : Thread nD τ).loc main_arg3) : FVec Ideal S1024x1024 .f32) (ix2 k ⟨t.val % 2 * 1024 + l.val - 1024, by omega⟩) := by
    rw [iblk2_apply, V1]; exact weights_apply _ _ _ _
  refine (pay_apply _ _ _ r l).trans ?_
  simp only [hx, hg, hw]
  exact (ref_apply (m ((c : Thread nD τ).loc main_arg0)) (m ((c : Thread nD τ).loc main_arg1)) (m ((c : Thread nD τ).loc main_arg2))
    (m ((c : Thread nD τ).loc main_arg3)) ⟨t.val / 2 * 1024 + r.val, by have := t_lt t; omega⟩
    ⟨t.val % 2 * 1024 + l.val, by have := t_lt t; omega⟩).symm

theorem flushed_eq (c : Dev nD) (t : Fin cfg0.N) :
    (dats m 0 c).flushed 3 t = ((cfg0.win 3).blk t).view.read (Elt Ideal) (G m c) := by
  rw [Cert.MemKvIdeal.Value.flushed3]
  unfold out0_3
  rw [View.canon_unit_zero hz2, View.ld_unit_zero (S := S1024x1024) hz2, View.ld_unit_zero (S := S1x1024) hz2, View.ld_unit_zero (S := S1024x1024) hz2]
  funext y
  obtain ⟨r, l, rfl⟩ : ∃ (r l : Fin 1024), y = ix2 r l := ⟨y 0, y 1, eq_ix2 (n0 := 1024) (n1 := 1024) y⟩
  show k0_pay1 (F := Ideal) (iblk m c 0 t) (iblk m c 1 t) (iblk m c 2 t) (ix2 r l) = G m c (((cfg0.win 3).blk t).view.emb (ix2 r l))
  rw [out_idx, block_eq]

theorem cover (i : S2048x2048.Idx) :
    ∃ t : Fin cfg0.N, (cfg0.win 3).flush t = true ∧ i ∈ ((cfg0.win 3).blk t).view.set := by
  have h0 : (i 0 : Nat) < 2048 := (i 0).isLt
  have h1 : (i 1 : Nat) < 2048 := (i 1).isLt
  have ht : (i 0 : Nat) / 1024 * 2 + (i 1 : Nat) / 1024 < cfg0.N := by have : cfg0.N = 4 := N_0; omega
  refine ⟨⟨_, ht⟩, flush0_3 _, ?_⟩
  refine Eq.subst (motive := fun j => j ∈ _) ?_
    (View.emb_mem_set _ (ix2 (n0 := 1024) (n1 := 1024) ⟨(i 0 : Nat) % 1024, by omega⟩ ⟨(i 1 : Nat) % 1024, by omega⟩))
  rw [out_idx]
  funext a
  apply Fin.ext
  match a with
  | ⟨0, _⟩ => show ((i 0 : Nat) / 1024 * 2 + (i 1 : Nat) / 1024) / 2 * 1024 + (i 0 : Nat) % 1024 = (i 0 : Nat); omega
  | ⟨1, _⟩ => show ((i 0 : Nat) / 1024 * 2 + (i 1 : Nat) / 1024) % 2 * 1024 + (i 1 : Nat) % 1024 = (i 1 : Nat); omega

theorem final (c : Dev nD) : (dats m 0 c).arrAt 3 cfg0.N = G m c :=
  (dats m 0 c).arrAt_eq_of_cover 3 (G m c) (fun t _ => flushed_eq m c t) cover

end Cert.Proof.Mem

end
-- ==== Proof.Mem.Claims.lean ====
/-
  The claims about the memory projection, assembled from its runs.
-/
module

public import proofs.«01_k».proof.Defs
public import proofs.«01_k».proof.Proof.Gen.MemKv.Frame
public import proofs.«01_k».proof.Proof.Gen.MemKvRefIdeal.Run
public import proofs.«01_k».proof.Proof.Mem.Value
public import Idealize.ShloMosaic.Lib.Quiescent

@[expose] public section

noncomputable section

namespace Cert.Proof.Mem

open Idealize.ShloMosaic Idealize.ShloMosaic.TcCoe Idealize.SL.Sem

theorem frame : Cert.quiescent_MemKv := fun m ρ _ => Cert.MemKv.Gen.frame m ρ

theorem frame_ideal : Cert.quiescent_MemKvIdeal := fun m ρ _ => Cert.MemKvIdeal.Gen.frame m ρ

theorem frame_ref : Cert.quiescent_MemKvRefIdeal := fun m ρ _ =>
  (θ_run Cert.MemKvRefIdeal.defs _ _).mono (fun r h => ⟨fun c => (h c).2,
      Idealize.ShloMosaic.sem_eq_zero_of_no_sems (by decide) r.2⟩)
    (Cert.MemKvRefIdeal.Value.run (F := Ideal) m ρ)

/-- Both programs end with the reference's function of the arguments. -/
theorem algebraic : Cert.algebraic_MemKvIdeal_MemKvRefIdeal := by
  intro m ρ m' ρ' _ hagree
  refine ⟨fun c => G m c, ?_, ?_⟩
  · exact (θ_run Cert.MemKvIdeal.defs _ _).mono (fun _ h c => ⟨(h c).1.trans (final m c), (h c).2⟩)
      (Cert.MemKvIdeal.Value.run_blocks (F := Ideal) m ρ)
  refine (θ_run Cert.MemKvRefIdeal.defs _ _).mono (fun _ h c => ⟨(h c).1.trans ?_, (h c).2⟩)
    (Cert.MemKvRefIdeal.Value.run (F := Ideal) m' ρ')
  rw [(hagree c).1, (hagree c).2.1, (hagree c).2.2.1, (hagree c).2.2.2]
  exact Cert.MemKvRefIdeal.Read.val_main_v17_eq _ _ _ _

end Cert.Proof.Mem

end
-- ==== Proof.Attn.Pure.lean ====
/-
  The attention step of one grid point at an index. `soft` is the softmax of a row of 256 scores as both programs
  compute it, subtracting the row's maximum; the four heads' payloads are each a row of such weights times the values.
-/
module

public import proofs.«01_k».proof.Proof.Mem.Pure
public import proofs.«01_k».proof.Proof.Gen.AttnIdeal.Value

@[expose] public section

set_option maxRecDepth 16384

noncomputable section

namespace Cert.Proof.Attn

open Idealize.ShloMosaic Idealize.ShloMosaic.TcCoe Idealize.SL.Sem
open Cert.AttnIdeal Cert.AttnIdeal.Gen
open Cert.Proof.Mem (scale)

/-- The maximum of a row of scores. -/
def top (s : Fin 256 → EReal) : EReal := Finset.univ.fold max (Ideal.ofBits .f32 0xFF800000#32) s

/-- The softmax of a row of scores. -/
def soft (s : Fin 256 → EReal) (j : Fin 256) : EReal :=
  Ideal.div (Ideal.exp (s j - top s)) (∑ k, Ideal.exp (s k - top s))

/-- The scaled query of a row. -/
theorem query_apply (x : FVec Ideal S1024x1024 .f32) (g : FVec Ideal S1x1024 .f32) (w : FVec Ideal S1024x1024 .bf16) (r l : Fin 1024) :
    (k0_pay2 (F := Ideal) x g w (ix2 r l) : EReal)
      = (∑ k : Fin 1024, ((x (ix2 r k) : EReal) * scale (fun k => x (ix2 r k)) * g (ix2 0 k)) * w (ix2 k l)) * Ideal.ofBits .f32 0x3D800000#32 := by
  pointwise [k0_pay2, scale]

theorem head0_apply (x : FVec Ideal S1024x1024 .f32) (g : FVec Ideal S1x1024 .f32) (w : FVec Ideal S1024x1024 .bf16)
    (k v : FVec Ideal S256x256 .bf16) (r : Fin 1024) (e : Fin 256) :
    (k0_pay3 (F := Ideal) x g w k v (ix2 r e) : EReal)
      = ∑ j : Fin 256, soft (fun j => ∑ d : Fin 256, (k0_pay2 (F := Ideal) x g w (ix2 r ⟨d.val, by omega⟩) : EReal) * k (ix2 j d)) j * v (ix2 j e) := by
  pointwise [k0_pay3, soft, top]

theorem head1_apply (x : FVec Ideal S1024x1024 .f32) (g : FVec Ideal S1x1024 .f32) (w : FVec Ideal S1024x1024 .bf16)
    (k v : FVec Ideal S256x256 .bf16) (r : Fin 1024) (e : Fin 256) :
    (k0_pay5 (F := Ideal) (k0_pay4 (F := Ideal) x g w) k v (ix2 r e) : EReal)
      = ∑ j : Fin 256, soft (fun j => ∑ d : Fin 256, (k0_pay2 (F := Ideal) x g w (ix2 r ⟨256 + d.val, by omega⟩) : EReal) * k (ix2 j d)) j * v (ix2 j e) := by
  pointwise [k0_pay5, k0_pay4, soft, top]

theorem head2_apply (q : FVec Ideal S1024x1024 .bf16) (k v : FVec Ideal S256x256 .bf16) (r : Fin 1024) (e : Fin 256) :
    (k0_pay6 (F := Ideal) q k v (ix2 r e) : EReal)
      = ∑ j : Fin 256, soft (fun j => ∑ d : Fin 256, (q (ix2 r ⟨512 + d.val, by omega⟩) : EReal) * k (ix2 j d)) j * v (ix2 j e) := by
  pointwise [k0_pay6, soft, top]

/-- One entry of head `h`'s output for a scaled query row `Q` and the packed keys and values `KV` of a batch. -/
def headOut (Q : Fin 1024 → EReal) (KV : Fin 256 → Fin 2048 → EReal) (h : Fin 4) (e : Fin 256) : EReal :=
  ∑ j : Fin 256, soft (fun j => ∑ d : Fin 256, Q ⟨h.val * 256 + d.val, by omega⟩ * KV j ⟨h.val * 256 + d.val, by omega⟩) j
    * KV j ⟨1024 + h.val * 256 + e.val, by omega⟩

/-- The last head and the output weight: the four heads' outputs side by side, times the weight, on top of the row. -/
theorem out_apply (x : FVec Ideal S1024x1024 .f32) (o0 o1 o2 : FVec Ideal S1024x256 .f32) (q : FVec Ideal S1024x1024 .bf16)
    (k v : FVec Ideal S256x256 .bf16) (w : FVec Ideal S1024x1024 .bf16) (r l : Fin 1024) :
    (k0_pay1 (F := Ideal) x o0 o1 o2 (k0_pay7 (F := Ideal) q k) (k0_pay8 (F := Ideal) q k) v w (ix2 r l) : EReal)
      = x (ix2 r l) + ∑ i : Fin 1024, ((if h : i.val < 256 then o0 (ix2 r ⟨i.val, h⟩)
          else if h : i.val - 256 < 256 then o1 (ix2 r ⟨i.val - 256, h⟩)
          else if h : i.val - 256 - 256 < 256 then o2 (ix2 r ⟨i.val - 256 - 256, h⟩)
          else ∑ j : Fin 256, soft (fun j => ∑ d : Fin 256, (q (ix2 r ⟨768 + d.val, by omega⟩) : EReal) * k (ix2 j d)) j
            * v (ix2 j ⟨i.val - 256 - 256 - 256, by omega⟩)) : EReal) * w (ix2 i l) := by
  pointwise [k0_pay1, k0_pay7, k0_pay8, soft, top]

/-- A load of 256 columns of the packed keys and values, from column `off` on. -/
theorem ld_apply (x : FVec Ideal S256x2048 .bf16) (off : Nat) (h : off + 256 ≤ 2048)
    (inb : ∀ a, (![0, off] : Fin 2 → Nat) a + S256x256.size a ≤ S256x2048.size a) (j d : Fin 256) :
    (View.ld (Val := Elt Ideal) (e' := .bf16) x (Rect.unit (s := S256x2048) ![0, off] S256x256.size inb)) (ix2 j d)
      = x (ix2 j ⟨off + d.val, by omega⟩) := by
  refine congrArg x (funext fun a => Fin.ext ?_)
  match a with
  | ⟨0, _⟩ => show 0 + 1 * j.val = j.val; omega
  | ⟨1, _⟩ => show off + 1 * d.val = off + d.val; omega

/-- What one grid point stores, as a function of its blocks: the row plus its attention output. -/
theorem body_apply (x0 : FVec Ideal S1024x1024 .f32) (x1 : FVec Ideal S1x1024 .f32) (x2 : FVec Ideal S1024x1024 .bf16)
    (x3 : FVec Ideal S256x2048 .bf16) (x4 : FVec Ideal S1024x1024 .bf16) (r l : Fin 1024) :
    (k0_pay1 (F := Ideal) x0 (k0_pay3 (F := Ideal) x0 x1 x2 (View.ld x3 r0_2) (View.ld x3 r0_3))
      (k0_pay5 (F := Ideal) (k0_pay4 (F := Ideal) x0 x1 x2) (View.ld x3 r0_4) (View.ld x3 r0_5))
      (k0_pay6 (F := Ideal) (k0_pay2 (F := Ideal) x0 x1 x2) (View.ld x3 r0_6) (View.ld x3 r0_7))
      (k0_pay7 (F := Ideal) (k0_pay2 (F := Ideal) x0 x1 x2) (View.ld x3 r0_8))
      (k0_pay8 (F := Ideal) (k0_pay2 (F := Ideal) x0 x1 x2) (View.ld x3 r0_8)) (View.ld x3 r0_9) x4 (ix2 r l) : EReal)
      = x0 (ix2 r l) + ∑ i : Fin 1024, headOut (fun a => k0_pay2 (F := Ideal) x0 x1 x2 (ix2 r a)) (fun j a => x3 (ix2 j a))
          ⟨i.val / 256, by omega⟩ ⟨i.val % 256, by omega⟩ * x4 (ix2 i l) := by
  refine (out_apply _ _ _ _ _ _ _ _ r l).trans (congrArg (x0 (ix2 r l) + ·) (Finset.sum_congr rfl fun i _ => ?_))
  refine congrArg (fun z : EReal => z * x4 (ix2 i l)) ?_
  split
  · next h =>
    have e1 : (⟨i.val / 256, by omega⟩ : Fin 4) = 0 := Fin.ext (by show i.val / 256 = 0; omega)
    have e2 : (⟨i.val % 256, by omega⟩ : Fin 256) = ⟨i.val, h⟩ := Fin.ext (by show i.val % 256 = i.val; omega)
    rw [e1, e2]
    refine (head0_apply _ _ _ _ _ r _).trans ?_
    simp only [ld_apply x3 0 (by omega), ld_apply x3 1024 (by omega), headOut]
    simp only [Fin.val_zero, Nat.zero_mul, Nat.zero_add, Nat.add_zero]
  split
  · next h0 h =>
    have e1 : (⟨i.val / 256, by omega⟩ : Fin 4) = 1 := Fin.ext (by show i.val / 256 = 1; omega)
    have e2 : (⟨i.val % 256, by omega⟩ : Fin 256) = ⟨i.val - 256, h⟩ := Fin.ext (by show i.val % 256 = i.val - 256; omega)
    rw [e1, e2]
    refine (head1_apply _ _ _ _ _ r _).trans ?_
    simp only [ld_apply x3 256 (by omega), ld_apply x3 1280 (by omega), headOut]
    rfl
  split
  · next h0 h1 h =>
    have e1 : (⟨i.val / 256, by omega⟩ : Fin 4) = 2 := Fin.ext (by show i.val / 256 = 2; omega)
    have e2 : (⟨i.val % 256, by omega⟩ : Fin 256) = ⟨i.val - 256 - 256, h⟩ := Fin.ext (by show i.val % 256 = i.val - 256 - 256; omega)
    rw [e1, e2]
    refine (head2_apply _ _ _ r _).trans ?_
    simp only [ld_apply x3 512 (by omega), ld_apply x3 1536 (by omega), headOut]
    rfl
  · next h0 h1 h2 =>
    have e1 : (⟨i.val / 256, by omega⟩ : Fin 4) = 3 := Fin.ext (by show i.val / 256 = 3; omega)
    have e2 : (⟨i.val % 256, by omega⟩ : Fin 256) = ⟨i.val - 256 - 256 - 256, by omega⟩ := Fin.ext (by show i.val % 256 = i.val - 256 - 256 - 256; omega)
    rw [e1, e2]
    simp only [ld_apply x3 768 (by omega), ld_apply x3 1792 (by omega), headOut]
    rfl

end Cert.Proof.Attn

end
-- ==== Proof.Attn.Ref.lean ====
/-
  The reference's attention at an index, in the terms of `Pure`: row `R` is row `R % 4096` of batch `R / 4096`, and the
  scores are scaled after the product over the head's coordinates.
-/
module

public import proofs.«01_k».proof.Proof.Attn.Pure
public import proofs.«01_k».proof.Proof.Gen.AttnRefIdeal.Read

@[expose] public section

set_option maxRecDepth 16384

noncomputable section

namespace Cert.Proof.Attn

open Idealize.ShloMosaic Idealize.ShloMosaic.TcCoe Idealize.SL.Sem
open Cert.AttnRefIdeal Cert.AttnRefIdeal.Read
open Cert.Proof.Mem (scale)

variable (x : FVec Ideal S32768x1024 .f32) (g : FVec Ideal S1024 .f32) (wq : FVec Ideal S1024x1024 .f32)
  (kv : FVec Ideal S2048x2048 .bf16) (wo : FVec Ideal S1024x1024 .f32)

/-- The query row before scaling. -/
theorem q_apply (b : Fin 8) (t : Fin 4096) (h : Fin 4) (d : Fin 256) :
    (val_main_v17 (F := Ideal) x g wq (ix4 b t h d) : EReal)
      = ∑ k : Fin 1024, ((x (ix2 ⟨b.val * 4096 + t.val, by omega⟩ k) : EReal) * scale (fun k => x (ix2 ⟨b.val * 4096 + t.val, by omega⟩ k)) * g (ix1 k))
          * wq (ix2 k ⟨h.val * 256 + d.val, by omega⟩) := by
  pointwise [val_main_v17, val_main_v16, val_main_v15, val_main_v14, val_main_v13, val_main_v12, val_main_v11, val_main_v10,
    val_main_v9, val_main_v8, val_main_v7, val_main_v6, val_main_v5, val_main_v4, val_main_v3, val_main_v0, val_main_cst,
    val_main_cst_0, val_main_cst_1, scale]

theorem k_apply (b : Fin 8) (j : Fin 256) (h : Fin 4) (d : Fin 256) :
    (val_main_v19 (F := Ideal) kv (ix4 b j h d) : EReal) = kv (ix2 ⟨b.val * 256 + j.val, by omega⟩ ⟨h.val * 256 + d.val, by omega⟩) := by
  pointwise [val_main_v19, val_main_v18, val_main_v2, val_main_v1]

theorem v_apply (b : Fin 8) (j : Fin 256) (h : Fin 4) (d : Fin 256) :
    (val_main_v21 (F := Ideal) kv (ix4 b j h d) : EReal) = kv (ix2 ⟨b.val * 256 + j.val, by omega⟩ ⟨1024 + h.val * 256 + d.val, by omega⟩) := by
  pointwise [val_main_v21, val_main_v20, val_main_v2, val_main_v1]
  simp only [Nat.add_assoc]

theorem s_apply (b : Fin 8) (h : Fin 4) (t : Fin 4096) (j : Fin 256) :
    (val_main_v24 (F := Ideal) x g wq kv (ix4 b h t j) : EReal)
      = (∑ d : Fin 256, (val_main_v17 (F := Ideal) x g wq (ix4 b t h d) : EReal) * val_main_v19 (F := Ideal) kv (ix4 b j h d)) * Ideal.ofBits .f32 0x3D800000#32 := by
  pointwise [val_main_v24, val_main_v23, val_main_v22, val_main_cst_2]

theorem max_apply (y : FVec Ideal S8x4x4096x256 .f32) (z : FVec Ideal S_ .f32) (b : Fin 8) (h : Fin 4) (t : Fin 4096) :
    (Host.reduce (FloatOps.maximumf (F := Ideal) (φ := .f32)) y z Gen.facts.reducesTo_S8x4x4096x256_S8x4x4096_d3 Gen.facts.h_S_ (ix3 b h t) : EReal)
      = Finset.univ.fold max (z ix0 : EReal) fun k : Fin 256 => y (ix4 b h t k) := by
  pointwise
  exact congrArg (fun i => Finset.univ.fold max (z i : EReal) fun k : Fin 256 => y (ix4 b h t k)) (funext fun a => a.elim0)

theorem top_apply (b : Fin 8) (h : Fin 4) (t : Fin 4096) :
    (val_main_v27 (F := Ideal) x g wq kv (ix3 b h t) : EReal) = top (fun j => val_main_v24 (F := Ideal) x g wq kv (ix4 b h t j)) := by
  rw [val_main_v27_apply]
  unfold val_main_v25
  generalize val_main_v24 (F := Ideal) x g wq kv = y
  refine (congrArg (fun w : EReal => max (Ideal.ofBits .f32 0xFF800000#32) w) (max_apply y _ b h t)).trans ?_
  exact max_eq_right ((Finset.le_fold_max _).2 (Or.inl le_rfl))

theorem e_apply (b : Fin 8) (h : Fin 4) (t : Fin 4096) (j : Fin 256) :
    (val_main_v31 (F := Ideal) x g wq kv (ix4 b h t j) : EReal)
      = Ideal.exp ((val_main_v24 (F := Ideal) x g wq kv (ix4 b h t j) : EReal) - val_main_v27 (F := Ideal) x g wq kv (ix3 b h t)) := by
  unfold val_main_v31 val_main_v30 val_main_v29 val_main_v28
  generalize val_main_v24 (F := Ideal) x g wq kv = y
  generalize val_main_v27 (F := Ideal) x g wq kv = z
  pointwise

theorem p_apply (b : Fin 8) (h : Fin 4) (t : Fin 4096) (j : Fin 256) :
    (val_main_v35 (F := Ideal) x g wq kv (ix4 b h t j) : EReal)
      = soft (fun j => val_main_v24 (F := Ideal) x g wq kv (ix4 b h t j)) j := by
  have e : (val_main_v35 (F := Ideal) x g wq kv (ix4 b h t j) : EReal)
      = Ideal.div (val_main_v31 (F := Ideal) x g wq kv (ix4 b h t j)) (∑ k : Fin 256, val_main_v31 (F := Ideal) x g wq kv (ix4 b h t k)) := by
    unfold val_main_v35 val_main_v34 val_main_v33 val_main_v32
    generalize val_main_v31 (F := Ideal) x g wq kv = y
    pointwise [val_main_cst_5]
  rw [e]
  simp only [e_apply, top_apply]
  rfl

theorem o_apply (R : Fin 32768) (l : Fin 1024) :
    (val_main_v41 (F := Ideal) x g wq kv wo (ix2 R l) : EReal)
      = x (ix2 R l) + ∑ i : Fin 1024, (∑ j : Fin 256, (val_main_v21 (F := Ideal) kv (ix4 ⟨R.val / 4096, by omega⟩ j ⟨i.val / 256, by omega⟩ ⟨i.val % 256, by omega⟩) : EReal)
         * val_main_v35 (F := Ideal) x g wq kv (ix4 ⟨R.val / 4096, by omega⟩ ⟨i.val / 256, by omega⟩ ⟨R.val % 4096, by omega⟩ j)) * wo (ix2 i l) := by
  pointwise [val_main_v41, val_main_v40, val_main_v39, val_main_v38, val_main_v37, val_main_v36, val_main_v0]

/-- The scale of the scores is a non-negative real, -/
theorem sixteenth : Ideal.ofBits .f32 0x3D800000#32 = (((1 : ℝ) / 16 : ℝ) : EReal) := by
  simp [Ideal.ofBits, Ideal.ieee, -EReal.coe_mul]; norm_num

/-- so it may be taken into a sum, whatever the summands. -/
theorem sum_scaled {n : Nat} (f : Fin n → EReal) :
    (∑ d, f d) * Ideal.ofBits .f32 0x3D800000#32 = ∑ d, f d * Ideal.ofBits .f32 0x3D800000#32 := by
  have h0 : (0 : EReal) ≤ Ideal.ofBits .f32 0x3D800000#32 := by rw [sixteenth]; exact_mod_cast (by norm_num : (0 : ℝ) ≤ 1 / 16)
  have h1 : Ideal.ofBits .f32 0x3D800000#32 ≠ ⊤ := by rw [sixteenth]; exact EReal.coe_ne_top _
  have key : ∀ s : Finset (Fin n), (∑ d ∈ s, f d) * Ideal.ofBits .f32 0x3D800000#32 = ∑ d ∈ s, f d * Ideal.ofBits .f32 0x3D800000#32 := by
    intro s
    induction s using Finset.induction_on with
    | empty => simp
    | insert a s ha ih => rw [Finset.sum_insert ha, Finset.sum_insert ha, EReal.right_distrib_of_nonneg_of_ne_top h0 h1, ih]
  exact key Finset.univ

/-- The reference's result at an index, in the kernel's terms. -/
theorem ref_apply (R : Fin 32768) (l : Fin 1024) :
    (val_main_v41 (F := Ideal) x g wq kv wo (ix2 R l) : EReal)
      = x (ix2 R l) + ∑ i : Fin 1024, headOut
          (fun a => (∑ k : Fin 1024, ((x (ix2 R k) : EReal) * scale (fun k => x (ix2 R k)) * g (ix1 k)) * wq (ix2 k a)) * Ideal.ofBits .f32 0x3D800000#32)
          (fun j a => kv (ix2 ⟨R.val / 4096 * 256 + j.val, by omega⟩ a))
          ⟨i.val / 256, by omega⟩ ⟨i.val % 256, by omega⟩ * wo (ix2 i l) := by
  have hR : (⟨R.val / 4096 * 4096 + R.val % 4096, by omega⟩ : Fin 32768) = R := Fin.ext (by show R.val / 4096 * 4096 + R.val % 4096 = R.val; omega)
  refine (o_apply x g wq kv wo R l).trans (congrArg (x (ix2 R l) + ·) (Finset.sum_congr rfl fun i _ => ?_))
  refine congrArg (fun z : EReal => z * wo (ix2 i l)) ?_
  unfold headOut
  refine Finset.sum_congr rfl fun j _ => ?_
  rw [mul_comm]
  refine congrArg₂ (fun a b : EReal => a * b) ?_ (v_apply kv _ _ _ _)
  rw [p_apply]
  refine congrArg (fun s => soft s j) (funext fun j => ?_)
  rw [s_apply, sum_scaled]
  refine Finset.sum_congr rfl fun d _ => ?_
  rw [q_apply, k_apply]
  simp only [hR]
  rw [mul_assoc, mul_comm (kv _ : EReal), ← mul_assoc]

end Cert.Proof.Attn

end
-- ==== Proof.Attn.Value.lean ====
/-
  The attention step's result array: every grid point writes its 1024 rows of the reference's result, and the 32 blocks
  tile the array.
-/
module

public import proofs.«01_k».proof.Proof.Attn.Ref

@[expose] public section

set_option maxRecDepth 16384

noncomputable section

namespace Cert.Proof.Attn

open Idealize.ShloMosaic Idealize.ShloMosaic.TcCoe Idealize.SL.Sem
open Idealize.ShloMosaic.Pipeline (Dat)
open Cert.AttnIdeal Cert.AttnIdeal.Gen
open Cert.Proof.Mem (scale)

variable (m : (ℓ : Loc nD τ sig) → Buf (Elt Ideal) ℓ)

theorem hz2 : (![0, 0] : Fin 2 → Nat) = fun _ => 0 := funext fun a => by fin_cases a <;> rfl

/-! ## The arrays the region finds -/

theorem V_gain (c : Dev nD) : V m c main_v0 = broadcastInDim S1x1024 ![1] bcast_S1024_S1x1024_1 (m ((c : Thread nD τ).loc main_arg1)) := by
  dsimp only [V, hostOps0]
  after_results <;> rfl

theorem V_wq (c : Dev nD) : V m c main_v1 = (m ((c : Thread nD τ).loc main_arg2) : S1024x1024.Idx → EReal) := by
  dsimp only [V, hostOps0]
  after_results <;> rfl

theorem V_wo (c : Dev nD) : V m c main_v2 = (m ((c : Thread nD τ).loc main_arg4) : S1024x1024.Idx → EReal) := by
  dsimp only [V, hostOps0]
  after_results <;> rfl

theorem gain_apply (g : FVec Ideal S1024 .f32) (k : Fin 1024) :
    broadcastInDim S1x1024 ![1] bcast_S1024_S1x1024_1 g (ix2 0 k) = g (ix1 k) := by
  pointwise

/-! ## The blocks -/

theorem idx_facts : ∀ t : Fin grid0.N, (win0_0.index t = ![t.val, 0]) ∧ (win0_1.index t = ![0, 0]) ∧ (win0_2.index t = ![0, 0])
    ∧ (win0_3.index t = ![t.val / 4, 0]) ∧ (win0_4.index t = ![0, 0]) ∧ (win0_5.index t = ![t.val, 0]) := by decide +kernel

theorem t_lt (t : Fin cfg0.N) : t.val < 32 := t.isLt

theorem x_apply (c : Dev nD) (t : Fin cfg0.N) (r k : Fin 1024) :
    iblk m c 0 t (ix2 r k) = (m ((c : Thread nD τ).loc main_arg0) : S32768x1024.Idx → EReal)
      (ix2 ⟨t.val * 1024 + r.val, by have := t_lt t; omega⟩ k) := by
  rw [← V_main_arg0 m c]
  show V m c main_arg0 _ = V m c main_arg0 _
  refine congrArg (V m c main_arg0) (funext fun a => Fin.ext ?_)
  match a with
  | ⟨0, _⟩ => show win0_0.index t 0 * 1024 + 1 * r.val = _; rw [(idx_facts t).1, Nat.one_mul]; rfl
  | ⟨1, _⟩ => show win0_0.index t 1 * 1024 + 1 * k.val = _; rw [(idx_facts t).1, Nat.one_mul]; exact Nat.zero_add _

theorem g_apply (c : Dev nD) (t : Fin cfg0.N) (k : Fin 1024) :
    iblk m c 1 t (ix2 0 k) = (m ((c : Thread nD τ).loc main_arg1) : S1024.Idx → EReal) (ix1 k) := by
  refine Eq.trans ?_ ((congrFun (V_gain m c) _).trans (gain_apply _ k))
  show V m c main_v0 _ = V m c main_v0 _
  refine congrArg (V m c main_v0) (funext fun a => Fin.ext ?_)
  match a with
  | ⟨0, _⟩ => show win0_1.index t 0 * 1 + 1 * 0 = _; rw [(idx_facts t).2.1]; rfl
  | ⟨1, _⟩ => show win0_1.index t 1 * 1024 + 1 * k.val = _; rw [(idx_facts t).2.1, Nat.one_mul]; exact Nat.zero_add _

theorem wq_apply (c : Dev nD) (t : Fin cfg0.N) (k l : Fin 1024) :
    iblk m c 2 t (ix2 k l) = (m ((c : Thread nD τ).loc main_arg2) : S1024x1024.Idx → EReal) (ix2 k l) := by
  refine Eq.trans ?_ (congrFun (V_wq m c) _)
  show V m c main_v1 _ = V m c main_v1 _
  refine congrArg (V m c main_v1) (funext fun a => Fin.ext ?_)
  match a with
  | ⟨0, _⟩ => show win0_2.index t 0 * 1024 + 1 * k.val = _; rw [(idx_facts t).2.2.1, Nat.one_mul]; exact Nat.zero_add _
  | ⟨1, _⟩ => show win0_2.index t 1 * 1024 + 1 * l.val = _; rw [(idx_facts t).2.2.1, Nat.one_mul]; exact Nat.zero_add _

theorem kv_apply (c : Dev nD) (t : Fin cfg0.N) (j : Fin 256) (l : Fin 2048) :
    iblk m c 3 t (ix2 j l) = (m ((c : Thread nD τ).loc main_arg3) : S2048x2048.Idx → EReal)
      (ix2 ⟨t.val / 4 * 256 + j.val, by have := t_lt t; omega⟩ l) := by
  rw [← V_main_arg3 m c]
  show V m c main_arg3 _ = V m c main_arg3 _
  refine congrArg (V m c main_arg3) (funext fun a => Fin.ext ?_)
  match a with
  | ⟨0, _⟩ => show win0_3.index t 0 * 256 + 1 * j.val = _; rw [(idx_facts t).2.2.2.1, Nat.one_mul]; rfl
  | ⟨1, _⟩ => show win0_3.index t 1 * 2048 + 1 * l.val = _; rw [(idx_facts t).2.2.2.1, Nat.one_mul]; exact Nat.zero_add _

theorem wo_apply (c : Dev nD) (t : Fin cfg0.N) (k l : Fin 1024) :
    iblk m c 4 t (ix2 k l) = (m ((c : Thread nD τ).loc main_arg4) : S1024x1024.Idx → EReal) (ix2 k l) := by
  refine Eq.trans ?_ (congrFun (V_wo m c) _)
  show V m c main_v2 _ = V m c main_v2 _
  refine congrArg (V m c main_v2) (funext fun a => Fin.ext ?_)
  match a with
  | ⟨0, _⟩ => show win0_4.index t 0 * 1024 + 1 * k.val = _; rw [(idx_facts t).2.2.2.2.1, Nat.one_mul]; exact Nat.zero_add _
  | ⟨1, _⟩ => show win0_4.index t 1 * 1024 + 1 * l.val = _; rw [(idx_facts t).2.2.2.2.1, Nat.one_mul]; exact Nat.zero_add _

theorem out_idx (t : Fin cfg0.N) (r l : Fin 1024) :
    ((cfg0.win 5).blk t).view.emb (ix2 r l)
      = ix2 (n0 := 32768) (n1 := 1024) ⟨t.val * 1024 + r.val, by have := t_lt t; omega⟩ l := by
  refine funext fun a => Fin.ext ?_
  match a with
  | ⟨0, _⟩ => show win0_5.index t 0 * 1024 + 1 * r.val = _; rw [(idx_facts t).2.2.2.2.2, Nat.one_mul]; rfl
  | ⟨1, _⟩ => show win0_5.index t 1 * 1024 + 1 * l.val = _; rw [(idx_facts t).2.2.2.2.2, Nat.one_mul]; exact Nat.zero_add _

/-! ## The result array -/

/-- The reference's result of the launch contents of the arguments. -/
abbrev G (c : Dev nD) : FVec Ideal S32768x1024 .f32 :=
  Cert.AttnRefIdeal.Read.val_main_v41 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a point stores is its rows of the reference: row `t * 1024 + r` lies in batch `t / 4`. -/
theorem flushed_eq (c : Dev nD) (t : Fin cfg0.N) :
    (dats m 0 c).flushed 5 t = ((cfg0.win 5).blk t).view.read (Elt Ideal) (G m c) := by
  rw [Cert.AttnIdeal.Value.flushed5]
  unfold out0_5 k0_pay9
  rw [View.canon_unit_zero hz2, View.ld_unit_zero (S := S1024x1024) hz2, View.ld_unit_zero (S := S1x1024) hz2,
    View.ld_unit_zero (S := S1024x1024) hz2, View.ld_unit_zero (S := S1024x1024) hz2]
  funext y
  obtain ⟨r, l, rfl⟩ : ∃ (r l : Fin 1024), y = ix2 r l := ⟨y 0, y 1, eq_ix2 (n0 := 1024) (n1 := 1024) y⟩
  refine (body_apply (iblk m c 0 t) (iblk m c 1 t) (iblk m c 2 t) (iblk m c 3 t) (iblk m c 4 t) r l).trans ?_
  show _ = G m c (((cfg0.win 5).blk t).view.emb (ix2 r l))
  rw [out_idx]
  refine Eq.trans ?_ (ref_apply (m ((c : Thread nD τ).loc main_arg0)) (m ((c : Thread nD τ).loc main_arg1))
    (m ((c : Thread nD τ).loc main_arg2)) (m ((c : Thread nD τ).loc main_arg3)) (m ((c : Thread nD τ).loc main_arg4))
    ⟨t.val * 1024 + r.val, by have := t_lt t; omega⟩ l).symm
  have hb : (t.val * 1024 + r.val) / 4096 = t.val / 4 := by omega
  simp only [query_apply, x_apply, g_apply, wq_apply, kv_apply, wo_apply, hb]

theorem cover (i : S32768x1024.Idx) :
    ∃ t : Fin cfg0.N, (cfg0.win 5).flush t = true ∧ i ∈ ((cfg0.win 5).blk t).view.set := by
  have h0 : (i 0 : Nat) < 32768 := (i 0).isLt
  have h1 : (i 1 : Nat) < 1024 := (i 1).isLt
  have ht : (i 0 : Nat) / 1024 < cfg0.N := by have : cfg0.N = 32 := N_0; omega
  refine ⟨⟨_, ht⟩, flush0_5 _, ?_⟩
  refine Eq.subst (motive := fun j => j ∈ _) ?_
    (View.emb_mem_set _ (ix2 (n0 := 1024) (n1 := 1024) ⟨(i 0 : Nat) % 1024, by omega⟩ ⟨(i 1 : Nat), h1⟩))
  rw [out_idx]
  funext a
  apply Fin.ext
  match a with
  | ⟨0, _⟩ => show (i 0 : Nat) / 1024 * 1024 + (i 0 : Nat) % 1024 = (i 0 : Nat); omega
  | ⟨1, _⟩ => rfl

theorem final (c : Dev nD) : (dats m 0 c).arrAt 5 cfg0.N = G m c :=
  (dats m 0 c).arrAt_eq_of_cover 5 (G m c) (fun t _ => flushed_eq m c t) cover

end Cert.Proof.Attn

end
-- ==== Proof.Attn.Claims.lean ====
/-
  The claims about the attention step, assembled from its runs.
-/
module

public import proofs.«01_k».proof.Defs
public import proofs.«01_k».proof.Proof.Gen.Attn.Frame
public import proofs.«01_k».proof.Proof.Gen.AttnRefIdeal.Run
public import proofs.«01_k».proof.Proof.Attn.Value
public import Idealize.ShloMosaic.Lib.Quiescent

@[expose] public section

noncomputable section

namespace Cert.Proof.Attn

open Idealize.ShloMosaic Idealize.ShloMosaic.TcCoe Idealize.SL.Sem

theorem frame : Cert.quiescent_Attn := fun m ρ _ => Cert.Attn.Gen.frame m ρ

theorem frame_ideal : Cert.quiescent_AttnIdeal := fun m ρ _ => Cert.AttnIdeal.Gen.frame m ρ

theorem frame_ref : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- Both programs end with the reference's function of the arguments. -/
theorem algebraic : Cert.algebraic_AttnIdeal_AttnRefIdeal := by
  intro m ρ m' ρ' _ hagree
  refine ⟨fun c => G m c, ?_, ?_⟩
  · exact (θ_run Cert.AttnIdeal.defs _ _).mono (fun _ h c => ⟨(h c).1.trans (final m c), (h c).2⟩)
      (Cert.AttnIdeal.Value.run_blocks (F := Ideal) m ρ)
  refine (θ_run Cert.AttnRefIdeal.defs _ _).mono (fun _ h c => ⟨(h c).1.trans ?_, (h c).2⟩)
    (Cert.AttnRefIdeal.Value.run (F := Ideal) m' ρ')
  refine (Cert.AttnRefIdeal.Read.val_main_v41_eq (F := Ideal) m' c).trans ?_
  rw [(hagree c).1, (hagree c).2.1, (hagree c).2.2.1, (hagree c).2.2.2.1, (hagree c).2.2.2.2]

end Cert.Proof.Attn

end
-- ==== Proof.Exp.Runs.lean ====
/-
The experts' call, up to its region: what the host's lines leave in every buffer (`V`), the three prefetched
tables read off it (`tbl`: which expert a tile is of, whether it holds rows at all, which rows it reads), and
the blocks the pipeline stages at them.
-/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's lines -/

/-- What core `c`'s buffers hold once the host's lines have run. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_pure : (hostOps0 : List (HloOp τ sig (Elt F))).Forall fun op => op.fresh = ∅ := by
  simp only [List.Forall]; repeat' constructor
theorem hostOps0_1_pure : (hostOps0_1 : List (HloOp τ sig (Elt F))).Forall fun op => op.fresh = ∅ := by
  simp only [List.Forall]; repeat' constructor
theorem hostOps0_2_pure : (hostOps0_2 : List (HloOp τ sig (Elt F))).Forall fun op => op.fresh = ∅ := by
  simp only [List.Forall]; repeat' constructor
theorem hostOps0_3_pure : (hostOps0_3 : List (HloOp τ sig (Elt F))).Forall fun op => op.fresh = ∅ := by
  simp only [List.Forall]; repeat' constructor
theorem hostOps0_4_pure : (hostOps0_4 : List (HloOp τ sig (Elt F))).Forall fun op => op.fresh = ∅ := by
  simp only [List.Forall]; repeat' constructor
theorem hostOps0_5_pure : (hostOps0_5 : List (HloOp τ sig (Elt F))).Forall fun op => op.fresh = ∅ := by
  simp only [List.Forall]; repeat' constructor
theorem hostOps0_6_pure : (hostOps0_6 : List (HloOp τ sig (Elt F))).Forall fun op => op.fresh = ∅ := by
  simp only [List.Forall]; repeat' constructor

set_option maxHeartbeats 800000 in
/-- The program runs its host lines, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_pure, hostOps0_1_pure, hostOps0_2_pure, hostOps0_3_pure, hostOps0_4_pure, hostOps0_5_pure, hostOps0_6_pure⟩) main_chain

/-- No host line writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- No host line writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- No host line writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- No host line writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- No host line writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## The tables -/

/-- The tables as the region finds them. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- Every block the tables name lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tb0 : Memref sig .tc .smem S272 .i32 := Memref.whole main_v19
abbrev htb0 : tb0.IsWhole := Memref.isWhole_whole _
abbrev tb1 : Memref sig .tc .smem S272 .i32 := Memref.whole main_v24
abbrev htb1 : tb1.IsWhole := Memref.isWhole_whole _
abbrev tb2 : Memref sig .tc .smem S272 .i32 := Memref.whole main_v30
abbrev htb2 : tb2.IsWhole := Memref.isWhole_whole _

/-- A table's buffer on core `c`, -/
abbrev TbBuf (c : Dev nD) {S : Shape} {e : EltTy} (M : Memref sig .tc .smem S e) : Type := Buf (Elt F) (M.view.loc (c : Thread nD τ))
/-- and that buffer held for reading. -/
abbrev tbPt (c : Dev nD) {S : Shape} {e : EltTy} (M : Memref sig .tc .smem S e) (f : TbBuf (F := F) c M) : sProp 𝕄 :=
  M.view.loc (c : Thread nD τ) ↦{fullShare.right} f

/-- The tables' halves, one by one. -/
theorem PhiT_eq (c : Dev nD) : (Pipeline.ΦT pre0 (tbl m) c : sProp 𝕄) = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's staging buffer holds its block at every point. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's staging buffer holds its block at every point. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The staging buffers -/

abbrev ms0 (hO : Ok m) (t : Fin (cfgM m hO).N) : Memref sig .tc .vmem S2048x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x512 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x512 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x512x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S2048x128 .f32 := spec0_4.stage ((cfgM m hO).slots t 4)
abbrev hs4 (hO : Ok m) (t : Fin (cfgM m hO).N) : (ms4 m hO t).IsWhole := hstage0_4 (((cfgM m hO).slots t 4).cast nbuf0_4)

/-- The result's window is written back at every point. -/
theorem flush4 (a : (pcfg0 (F := F)).Adm) : ∀ t : Fin (cfg0 a).N, ((cfg0 a).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)

/-- The body at point `t`, as the pipeline calls it. -/
abbrev bodyAt (a : (pcfg0 (F := F)).Adm) (t : Fin (cfg0 a).N) : Prog (TpuEff nD τ sig (Elt F) Λ₀ .tc) PUnit :=
  cc0_experts (grid0.coords t) tb0 htb0 tb1 htb1 tb2 htb2 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.ExpertsIdeal.Exp

end
-- ==== Proof.Exp.Body.lean ====
/-
The body of the experts' call, run once for a tile that holds rows (eight strided loads, the three products, eight
strided stores) and once for a tile that holds none (a block of zeros).
-/
module

public import proofs.«01_k».proof.Proof.Exp.Runs

@[expose] public section

set_option maxRecDepth 16384

noncomputable section

namespace Cert.ExpertsIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of the second table at point `i`: whether the tile holds rows. -/
def word (c : Dev nD) (xt1 : TbBuf (F := F) c tb1) (i : grid0.Coords) : BitVec 32 :=
  let x : S272.Idx := fun a => ⟨k0_off1 i a, lt_of_lt_of_le (Nat.lt_of_lt_of_le (Nat.lt_succ_self _) (Nat.add_le_add_left (show 1 ≤ S1.size a from by fin_cases a; decide) _)) (k0_off1_inb i a)⟩
  xt1 x

set_option maxHeartbeats 1000000 in
/-- The body at a point whose tile holds rows. -/
noncomputable def runA (c : Dev nD) (i : grid0.Coords) (arg4 : Memref sig .tc .vmem S2048x128 .f32) (harg4 : arg4.IsWhole) (arg5 : Memref sig .tc .vmem S1x1024x512 .bf16) (harg5 : arg5.IsWhole)
    (arg6 : Memref sig .tc .vmem S1x1024x512 .bf16) (harg6 : arg6.IsWhole) (arg7 : Memref sig .tc .vmem S1x512x1024 .bf16) (harg7 : arg7.IsWhole)
    (arg8 : Memref sig .tc .vmem S2048x128 .f32) (harg8 : arg8.IsWhole)
    (x0 : Vec F S2048x128 .f32) (x1 : Vec F S1x1024x512 .bf16) (x2 : Vec F S1x1024x512 .bf16) (x3 : Vec F S1x512x1024 .bf16)
    (xt0 : TbBuf (F := F) c tb0) (xt1 : TbBuf (F := F) c tb1) (xt2 : TbBuf (F := F) c tb2) (hw : word c xt1 i = 1#32) :
    { L4 : List (View.Piece (Elt F) S2048x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d) ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3
              ∗ (∃ f, arg8.view.loc (c : Thread nD τ) ↦[arg8.view.set]{fullShare} arg8.view.writes (Elt F) f L4) ∗ tbPt c tb0 xt0 ∗ tbPt c tb1 xt1 ∗ tbPt c tb2 xt2) -∗ K ⟨⟩))
          ⊢ wp frame (wpE (defs₀ (F := F)) Variants.none c none) E (cc0_experts i tb0 htb0 tb1 htb1 tb2 htb2 arg4 harg4 arg5 harg5 arg6 harg6 arg7 harg7 arg8 harg8) K } := by
  refine ⟨?_, fun E K => ?run⟩
  case run =>
    simp only [cc0_experts_eq_skeleton]; unfold cc0_experts_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg4.eq_unread hf0; obtain rfl := harg5.eq_unread hf1; obtain rfl := harg6.eq_unread hf2; obtain rfl := harg7.eq_unread hf3
    sl_exec
    have e1 : runA.sl.r c i xt1 = 1#32 := hw
    have e2 : runA.sl.r_1 c i xt1 = 1#32 := hw
    rw [dif_neg (show ¬ k0_cond2 (runA.sl.r_1 c i xt1) = 1#1 from by rw [e2]; decide), dif_pos (show k0_cond1 (runA.sl.r c i xt1) = 1#1 from by rw [e1]; decide)]
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    iexact HT2

set_option maxHeartbeats 1000000 in
/-- The body at a point whose tile holds none. -/
noncomputable def runB (c : Dev nD) (i : grid0.Coords) (arg4 : Memref sig .tc .vmem S2048x128 .f32) (harg4 : arg4.IsWhole) (arg5 : Memref sig .tc .vmem S1x1024x512 .bf16) (harg5 : arg5.IsWhole)
    (arg6 : Memref sig .tc .vmem S1x1024x512 .bf16) (harg6 : arg6.IsWhole) (arg7 : Memref sig .tc .vmem S1x512x1024 .bf16) (harg7 : arg7.IsWhole)
    (arg8 : Memref sig .tc .vmem S2048x128 .f32) (harg8 : arg8.IsWhole)
    (x0 : Vec F S2048x128 .f32) (x1 : Vec F S1x1024x512 .bf16) (x2 : Vec F S1x1024x512 .bf16) (x3 : Vec F S1x512x1024 .bf16)
    (xt0 : TbBuf (F := F) c tb0) (xt1 : TbBuf (F := F) c tb1) (xt2 : TbBuf (F := F) c tb2) (hw : word c xt1 i = 0#32) :
    { L4 : List (View.Piece (Elt F) S2048x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3
            ∗ (∃ d, owns (c : Thread nD τ) arg8 fullShare d) ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3
              ∗ (∃ f, arg8.view.loc (c : Thread nD τ) ↦[arg8.view.set]{fullShare} arg8.view.writes (Elt F) f L4) ∗ tbPt c tb0 xt0 ∗ tbPt c tb1 xt1 ∗ tbPt c tb2 xt2) -∗ K ⟨⟩))
          ⊢ wp frame (wpE (defs₀ (F := F)) Variants.none c none) E (cc0_experts i tb0 htb0 tb1 htb1 tb2 htb2 arg4 harg4 arg5 harg5 arg6 harg6 arg7 harg7 arg8 harg8) K } := by
  refine ⟨?_, fun E K => ?run⟩
  case run =>
    simp only [cc0_experts_eq_skeleton]; unfold cc0_experts_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg4.eq_unread hf0; obtain rfl := harg5.eq_unread hf1; obtain rfl := harg6.eq_unread hf2; obtain rfl := harg7.eq_unread hf3
    sl_exec
    have e1 : runB.sl.r c i xt1 = 0#32 := hw
    have e2 : runB.sl.r_1 c i xt1 = 0#32 := hw
    rw [dif_pos (show k0_cond2 (runB.sl.r_1 c i xt1) = 1#1 from by rw [e2]; decide), dif_neg (show ¬ k0_cond1 (runB.sl.r c i xt1) = 1#1 from by rw [e1]; decide)]
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HT0]; · iexact HT0
    isplitl [HT1]; · iexact HT1
    iexact HT2

end Cert.ExpertsIdeal.Exp

end
-- ==== Proof.Exp.Out.lean ====
/-
What the body leaves in the result's block: a tile's 256 rows of 1024, laid out as 2048 rows of 128 (row `8 r + c` holds
columns `128 c …` of the tile's row `r`), or zeros.
-/
module

public import proofs.«01_k».proof.Proof.Exp.Body

public import Idealize.ShloMosaic.Lib.Pipeline.Value
public import Idealize.ShloMosaic.Lib.WholeRead

@[expose] public section

set_option maxRecDepth 16384

noncomputable section

namespace Cert.ExpertsIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every eighth row of a block, from row `k`. -/
def rowsOf (k : Nat) (hk : k < 8) (x0 : Vec F S2048x128 .f32) : Vec F S256x128 .f32 := fun j =>
  x0 (fun a => match a with
    | ⟨0, _⟩ => ⟨k + 8 * (j 0).val, by have h : (j 0).val < 256 := (j 0).isLt; show k + 8 * (j 0).val < 2048; omega⟩
    | ⟨1, _⟩ => ⟨(j 1).val, (j 1).isLt⟩)

/-- The expert's rows for a tile, from its block of inputs and the expert's weights. -/
def tile (x0 : Vec F S2048x128 .f32) (x1 : Vec F S1x1024x512 .bf16) (x2 : Vec F S1x1024x512 .bf16) (x3 : Vec F S1x512x1024 .bf16) : FVec F S256x1024 .f32 :=
  k0_pay8 (rowsOf 0 (by omega) x0) (rowsOf 1 (by omega) x0) (rowsOf 2 (by omega) x0) (rowsOf 3 (by omega) x0) (rowsOf 4 (by omega) x0)
    (rowsOf 5 (by omega) x0) (rowsOf 6 (by omega) x0) (rowsOf 7 (by omega) x0) x1 x2 x3

/-- The tile laid out in rows of 128. -/
def spread (T : FVec F S256x1024 .f32) : Vec F S2048x128 .f32 := fun y =>
  T (fun a => match a with
    | ⟨0, _⟩ => ⟨(y 0).val / 8, by have h : (y 0).val < 2048 := (y 0).isLt; show (y 0).val / 8 < 256; omega⟩
    | ⟨1, _⟩ => ⟨128 * ((y 0).val % 8) + (y 1).val, by have h : (y 1).val < 128 := (y 1).isLt; show 128 * ((y 0).val % 8) + (y 1).val < 1024; omega⟩)

/-- The block the body leaves, at the table's word for the point. -/
def blkOut (w : BitVec 32) (x0 : Vec F S2048x128 .f32) (x1 : Vec F S1x1024x512 .bf16) (x2 : Vec F S1x1024x512 .bf16) (x3 : Vec F S1x512x1024 .bf16) : Vec F S2048x128 .f32 :=
  if w = 1#32 then spread (tile x0 x1 x2 x3) else k0_pay7

/-- A strided load of a whole block is its rows. -/
theorem load_rows {arg4 : Memref sig .tc .vmem S2048x128 .f32} (harg4 : arg4.IsWhole) (x0 : Vec F S2048x128 .f32) (k : Nat) (hk : k < 8)
    (h : ∀ a, S256x128.size a = 0 ∨ (![k, 0] : Fin 2 → Nat) a + (![8, 1] : Fin 2 → Nat) a * (S256x128.size a - 1) < S2048x128.size a) :
    View.readAt (Elt F) arg4.view (⟨![k, 0], S256x128.size, ![8, 1], h⟩ : LoadRect S2048x128) (harg4.unread x0) = rowsOf k hk x0 := by
  funext j
  rw [Memref.IsWhole.readAt_unread]
  refine congrArg x0 (funext fun a => Fin.ext ?_)
  match a with
  | ⟨0, _⟩ => rfl
  | ⟨1, _⟩ => show 0 + 1 * (j 1).val = (j 1).val; omega

/-- A load of a whole block is the block. -/
theorem load_all {s : Shape} {e : EltTy} {M : Memref sig .tc .vmem s e} (hM : M.IsWhole) (x : Vec F s e) (off : Fin s.rank → Nat) (ho : ∀ a, off a = 0)
    (h : ∀ a, off a + s.size a ≤ s.size a) :
    View.readAt (Elt F) M.view (Rect.unit (s := s) off s.size h).toLoadRect (hM.unread x) = x := by
  funext j
  rw [Memref.IsWhole.readAt_unread]
  refine congrArg x (funext fun a => Fin.ext ?_)
  show off a + 1 * (j a).val = (j a).val
  rw [ho a]; omega

/-- A column slice of the tile is what the layout has at the rows it is stored to. -/
theorem slice_spread (T : FVec F S256x1024 .f32) (k : Nat) (hk : k < 8) (hs : S256x1024.Slices (![0, 128 * k] : Fin 2 → Nat) S256x128)
    (h : ∀ a, (![256, 128] : Fin 2 → Nat) a = 0 ∨ (![k, 0] : Fin 2 → Nat) a + (![8, 1] : Fin 2 → Nat) a * ((![256, 128] : Fin 2 → Nat) a - 1) < S2048x128.size a)
    (hp : ∀ a, 0 < (![8, 1] : Fin 2 → Nat) a) (x : S256x128.Idx) :
    extractStridedSlice S256x128 ![0, 128 * k] T hs x = spread T ((⟨(⟨![k, 0], ![256, 128], ![8, 1], h⟩ : LoadRect S2048x128), hp⟩ : Rect S2048x128).emb x) := by
  have h0 : (x 0).val < 256 := (x 0).isLt
  have h1 : (x 1).val < 128 := (x 1).isLt
  refine congrArg T (funext fun a => Fin.ext ?_)
  match a with
  | ⟨0, _⟩ => show 0 + (x 0).val = (k + 8 * (x 0).val) / 8; omega
  | ⟨1, _⟩ => show 128 * k + (x 1).val = 128 * ((k + 8 * (x 0).val) % 8) + (0 + 1 * (x 1).val); omega

/-- Every index lies in the strided rectangle of its own residue. -/
theorem mem_rows (y : S2048x128.Idx) (k : Nat) (hk : (y 0).val % 8 = k)
    (h : ∀ a, (![256, 128] : Fin 2 → Nat) a = 0 ∨ (![k, 0] : Fin 2 → Nat) a + (![8, 1] : Fin 2 → Nat) a * ((![256, 128] : Fin 2 → Nat) a - 1) < S2048x128.size a) :
    y ∈ (⟨![k, 0], ![256, 128], ![8, 1], h⟩ : LoadRect S2048x128).set := by
  have h0 : (y 0).val < 2048 := (y 0).isLt
  rw [LoadRect.mem_set]
  intro a
  match a with
  | ⟨0, _⟩ => exact ⟨(y 0).val / 8, (by show (y 0).val / 8 < 256; omega), by show (y 0).val = k + 8 * ((y 0).val / 8); omega⟩
  | ⟨1, _⟩ => exact ⟨(y 1).val, (y 1).isLt, by show (y 1).val = 0 + 1 * (y 1).val; omega⟩

set_option maxHeartbeats 4000000 in
/-- The eight stores leave the tile, laid out. -/
theorem runA_out (c : Dev nD) (i : grid0.Coords) (arg4 : Memref sig .tc .vmem S2048x128 .f32) (harg4 : arg4.IsWhole) (arg5 : Memref sig .tc .vmem S1x1024x512 .bf16) (harg5 : arg5.IsWhole)
    (arg6 : Memref sig .tc .vmem S1x1024x512 .bf16) (harg6 : arg6.IsWhole) (arg7 : Memref sig .tc .vmem S1x512x1024 .bf16) (harg7 : arg7.IsWhole)
    (arg8 : Memref sig .tc .vmem S2048x128 .f32) (harg8 : arg8.IsWhole)
    (x0 : Vec F S2048x128 .f32) (x1 : Vec F S1x1024x512 .bf16) (x2 : Vec F S1x1024x512 .bf16) (x3 : Vec F S1x512x1024 .bf16)
    (xt0 : TbBuf (F := F) c tb0) (xt1 : TbBuf (F := F) c tb1) (xt2 : TbBuf (F := F) c tb2) (hw : word c xt1 i = 1#32)
    (f : arg8.view.ty.Contents (Elt F)) :
    arg8.view.read (Elt F) (arg8.view.writes (Elt F) f (runA c i arg4 harg4 arg5 harg5 arg6 harg6 arg7 harg7 arg8 harg8 x0 x1 x2 x3 xt0 xt1 xt2 hw).1) = spread (tile x0 x1 x2 x3) := by
  have hT : k0_pay8 (View.readAt (Elt F) arg4.view (⟨![0, 0], S256x128.size, ![8, 1], inb_S2048x128_S256x128_0_0_s_8_1⟩ : LoadRect S2048x128) (harg4.unread x0))
      (View.readAt (Elt F) arg4.view (⟨![1, 0], S256x128.size, ![8, 1], inb_S2048x128_S256x128_1_0_s_8_1⟩ : LoadRect S2048x128) (harg4.unread x0))
      (View.readAt (Elt F) arg4.view (⟨![2, 0], S256x128.size, ![8, 1], inb_S2048x128_S256x128_2_0_s_8_1⟩ : LoadRect S2048x128) (harg4.unread x0))
      (View.readAt (Elt F) arg4.view (⟨![3, 0], S256x128.size, ![8, 1], inb_S2048x128_S256x128_3_0_s_8_1⟩ : LoadRect S2048x128) (harg4.unread x0))
      (View.readAt (Elt F) arg4.view (⟨![4, 0], S256x128.size, ![8, 1], inb_S2048x128_S256x128_4_0_s_8_1⟩ : LoadRect S2048x128) (harg4.unread x0))
      (View.readAt (Elt F) arg4.view (⟨![5, 0], S256x128.size, ![8, 1], inb_S2048x128_S256x128_5_0_s_8_1⟩ : LoadRect S2048x128) (harg4.unread x0))
      (View.readAt (Elt F) arg4.view (⟨![6, 0], S256x128.size, ![8, 1], inb_S2048x128_S256x128_6_0_s_8_1⟩ : LoadRect S2048x128) (harg4.unread x0))
      (View.readAt (Elt F) arg4.view (⟨![7, 0], S256x128.size, ![8, 1], inb_S2048x128_S256x128_7_0_s_8_1⟩ : LoadRect S2048x128) (harg4.unread x0))
      (View.readAt (Elt F) arg5.view (Rect.unit (s := S1x1024x512) ![0, 0, 0] S1x1024x512.size inb_S1x1024x512_S1x1024x512_0_0_0).toLoadRect (harg5.unread x1))
      (View.readAt (Elt F) arg6.view (Rect.unit (s := S1x1024x512) ![0, 0, 0] S1x1024x512.size inb_S1x1024x512_S1x1024x512_0_0_0).toLoadRect (harg6.unread x2))
      (View.readAt (Elt F) arg7.view (Rect.unit (s := S1x512x1024) ![0, 0, 0] S1x512x1024.size inb_S1x512x1024_S1x512x1024_0_0_0).toLoadRect (harg7.unread x3)) = tile x0 x1 x2 x3 := by
    rw [load_all harg5 x1 _ (by decide), load_all harg6 x2 _ (by decide), load_all harg7 x3 _ (by decide),
      load_rows harg4 x0 0 (by omega),
      load_rows harg4 x0 1 (by omega),
      load_rows harg4 x0 2 (by omega),
      load_rows harg4 x0 3 (by omega),
      load_rows harg4 x0 4 (by omega),
      load_rows harg4 x0 5 (by omega),
      load_rows harg4 x0 6 (by omega),
      load_rows harg4 x0 7 (by omega)]
    rfl
  have hc : ∀ y : S2048x128.Idx, ∃ p ∈ (runA c i arg4 harg4 arg5 harg5 arg6 harg6 arg7 harg7 arg8 harg8 x0 x1 x2 x3 xt0 xt1 xt2 hw).1, y ∈ p.1.set := by
    intro y
    have h8 : (y 0).val % 8 < 8 := Nat.mod_lt _ (by omega)
    unfold runA
    simp only [List.exists_mem_cons_iff]
    rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7)
      with e | e | e | e | e | e | e | e
    · exact .inr (.inr (.inr (.inr (.inr (.inr (.inr (.inl (mem_rows y 0 e _))))))))
    · exact .inr (.inr (.inr (.inr (.inr (.inr (.inl (mem_rows y 1 e _)))))))
    · exact .inr (.inr (.inr (.inr (.inr (.inl (mem_rows y 2 e _))))))
    · exact .inr (.inr (.inr (.inr (.inl (mem_rows y 3 e _)))))
    · exact .inr (.inr (.inr (.inl (mem_rows y 4 e _))))
    · exact .inr (.inr (.inl (mem_rows y 5 e _)))
    · exact .inr (.inl (mem_rows y 6 e _))
    · exact .inl (mem_rows y 7 e _)
  rw [View.read_writes_eq_canon _ _ _ hc]
  funext y
  refine View.canon_apply_of_pieces (spread (tile x0 x1 x2 x3)) _ ?_ y (hc y)
  rw [← hT]
  unfold runA
  simp only [List.forall_mem_cons]
  refine ⟨?_, ?_, ?_, ?_, ?_, ?_, ?_, ?_, fun p hp => absurd hp List.not_mem_nil⟩
  · exact slice_spread _ 7 (by omega) slices_S256x1024_o0_896_S256x128 inb_S2048x128_S256x128_7_0_s_8_1 _
  · exact slice_spread _ 6 (by omega) slices_S256x1024_o0_768_S256x128 inb_S2048x128_S256x128_6_0_s_8_1 _
  · exact slice_spread _ 5 (by omega) slices_S256x1024_o0_640_S256x128 inb_S2048x128_S256x128_5_0_s_8_1 _
  · exact slice_spread _ 4 (by omega) slices_S256x1024_o0_512_S256x128 inb_S2048x128_S256x128_4_0_s_8_1 _
  · exact slice_spread _ 3 (by omega) slices_S256x1024_o0_384_S256x128 inb_S2048x128_S256x128_3_0_s_8_1 _
  · exact slice_spread _ 2 (by omega) slices_S256x1024_o0_256_S256x128 inb_S2048x128_S256x128_2_0_s_8_1 _
  · exact slice_spread _ 1 (by omega) slices_S256x1024_o0_128_S256x128 inb_S2048x128_S256x128_1_0_s_8_1 _
  · exact slice_spread _ 0 (by omega) slices_S256x1024_o0_0_S256x128 inb_S2048x128_S256x128_0_0_s_8_1 _

/-- The whole-block store leaves zeros. -/
theorem runB_out (c : Dev nD) (i : grid0.Coords) (arg4 : Memref sig .tc .vmem S2048x128 .f32) (harg4 : arg4.IsWhole) (arg5 : Memref sig .tc .vmem S1x1024x512 .bf16) (harg5 : arg5.IsWhole)
    (arg6 : Memref sig .tc .vmem S1x1024x512 .bf16) (harg6 : arg6.IsWhole) (arg7 : Memref sig .tc .vmem S1x512x1024 .bf16) (harg7 : arg7.IsWhole)
    (arg8 : Memref sig .tc .vmem S2048x128 .f32) (harg8 : arg8.IsWhole)
    (x0 : Vec F S2048x128 .f32) (x1 : Vec F S1x1024x512 .bf16) (x2 : Vec F S1x1024x512 .bf16) (x3 : Vec F S1x512x1024 .bf16)
    (xt0 : TbBuf (F := F) c tb0) (xt1 : TbBuf (F := F) c tb1) (xt2 : TbBuf (F := F) c tb2) (hw : word c xt1 i = 0#32)
    (f : arg8.view.ty.Contents (Elt F)) :
    arg8.view.read (Elt F) (arg8.view.writes (Elt F) f (runB c i arg4 harg4 arg5 harg5 arg6 harg6 arg7 harg7 arg8 harg8 x0 x1 x2 x3 xt0 xt1 xt2 hw).1) = k0_pay7 := by
  have hc : ∀ y : S2048x128.Idx, ∃ p ∈ (runB c i arg4 harg4 arg5 harg5 arg6 harg6 arg7 harg7 arg8 harg8 x0 x1 x2 x3 xt0 xt1 xt2 hw).1, y ∈ p.1.set := by
    intro y
    unfold runB
    exact ⟨_, List.mem_cons_self, View.mem_set_unit_zero (by funext a; fin_cases a <;> rfl) inb_S2048x128_S2048x128_0_0 y⟩
  rw [View.read_writes_eq_canon _ _ _ hc]
  unfold runB
  exact View.canon_unit_zero (by funext a; fin_cases a <;> rfl) inb_S2048x128_S2048x128_0_0 _

end Cert.ExpertsIdeal.Exp

end
-- ==== Proof.Exp.Frame.lean ====
/-
The experts' call runs: the pipeline's proof data (each input's buffer at its block, the result's at what the body
leaves there), the body's obligation at every point, and the run of the whole program.
-/
module

public import proofs.«01_k».proof.Proof.Exp.Out

@[expose] public section

set_option maxRecDepth 16384

noncomputable section

namespace Cert.ExpertsIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the tables must satisfy: the blocks they name lie in their arrays, and the second one's words are 0 or 1. -/
structure Good : Prop where
  ok : Ok m
  bit : ∀ i : grid0.Coords, word (0 : Dev nD) (tbl m 1) i = 1#32 ∨ word (0 : Dev nD) (tbl m 1) i = 0#32

/-- The result's block after point `t`. -/
def outAt (hO : Ok m) (c : Dev nD) (t : Fin (cfgM m hO).N) : Vec F S2048x128 .f32 :=
  blkOut (word c (tbl m 1) (grid0.coords t)) (iblk m hO c 0 t) (iblk m hO c 1 t) (iblk m hO c 2 t) (iblk m hO c 3 t)

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outAt m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outAt m hO c t := by dsimp only [dats]; try rfl
theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))
/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- The body at any point. -/
theorem sound_body (hG : Good m) (c : Dev nD) (t : Fin (cfgM m hG.ok).N) :
    bodyPre m hG.ok c t ⊢ wp frame (wpE (defs₀ (F := F)) Variants.none c none) Set.univ (bodyAt (adm m hG.ok) t) (fun _ => bodyPost m hG.ok c t) := by
  obtain ⟨hO, hbit⟩ := hG
  obtain rfl : c = 0 := Subsingleton.elim _ _
  unfold bodyPre bodyPost bodyAt
  simp only [before0, before1, before2, before3]
  rw [show (dats m hO 0 (0 : Dev nD)).Φ t.succ = (dats m hO 0 (0 : Dev nD)).Φ t.castSucc from rfl,
    show (dats m hO 0 (0 : Dev nD)).owesAt () t.succ = (dats m hO 0 (0 : Dev nD)).owesAt () t.castSucc from rfl,
    after0, after1, after2, after3, after4]
  rw [show (dats m hO 0 (0 : Dev nD)).Φ t.castSucc = iprop(Pipeline.ΦA spec0 (0 : Dev nD) ∗ Pipeline.ΦT pre0 (tbl m) (0 : Dev nD)) from rfl, PhiT_eq]
  unfold outAt blkOut
  iintro ⟨⟨HΦ, ⟨HT0, HT1, HT2⟩⟩, Ho, ⟨%d0, H0⟩, ⟨%d1, H1⟩, ⟨%d2, H2⟩, ⟨%d3, H3⟩, ⟨%d4, H4⟩⟩
  rcases hbit (grid0.coords t) with hw | hw
  · rw [if_pos hw]
    iapply ((runA 0 (grid0.coords t) _ _ _ _ _ _ _ _ _ _ (iblk m hO 0 0 t) (iblk m hO 0 1 t) (iblk m hO 0 2 t) (iblk m hO 0 3 t) (tbl m 0) (tbl m 1) (tbl m 2) hw).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, ⟨%e4, H4⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact runA_out 0 _ _ _ _ _ _ _ _ _ _ _ _ _ _ _ _ _ _ hw e4
  · rw [if_neg (show ¬ word (0 : Dev nD) (tbl m 1) (grid0.coords t) = 1#32 from by rw [hw]; decide)]
    iapply ((runB 0 (grid0.coords t) _ _ _ _ _ _ _ _ _ _ (iblk m hO 0 0 t) (iblk m hO 0 1 t) (iblk m hO 0 2 t) (iblk m hO 0 3 t) (tbl m 0) (tbl m 1) (tbl m 2) hw).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    isplitl [HT2]; · iexact HT2
    iintro ⟨H0, H1, H2, H3, ⟨%e4, H4⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact runB_out 0 _ _ _ _ _ _ _ _ _ _ _ _ _ _ _ _ _ _ hw e4

/-- The pipeline's call of the body is the body at the point's buffers. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- Where the second table's word is 0 or 1 the body stores into the result's window. -/
theorem not_idle (hG : Good m) (t : Fin (cfgM m hG.ok).N) : idle0 (tbl m) 4 (grid0.coords t) = false := by
  show (!(k0_cond1 ((tbl m).atD 1 (k0_off1 (grid0.coords t))) == 1#1) && !(k0_cond2 ((tbl m).atD 1 (k0_off2 (grid0.coords t))) == 1#1)) = false
  have hx : ∀ a, k0_off1 (grid0.coords t) a + 1 ≤ S272.size a := fun a => by fin_cases a; exact k0_off1_inb (grid0.coords t) 0
  have e1 : (tbl m).atD 1 (k0_off1 (grid0.coords t)) = word (0 : Dev nD) (tbl m 1) (grid0.coords t) := dif_pos hx
  have e2 : (tbl m).atD 1 (k0_off2 (grid0.coords t)) = word (0 : Dev nD) (tbl m 1) (grid0.coords t) := dif_pos hx
  rw [e1, e2]
  rcases hG.bit (grid0.coords t) with hw | hw <;> rw [hw] <;> decide

/-- Only the last of seven conjuncts changes. -/
theorem last_mono (A B C D E P : sProp 𝕄) {G G' : sProp 𝕄} (h : G ⊢ G') : iprop(A ∗ B ∗ C ∗ D ∗ E ∗ P ∗ G) ⊢ iprop(A ∗ B ∗ C ∗ D ∗ E ∗ P ∗ G') :=
  sep_mono_right (sep_mono_right (sep_mono_right (sep_mono_right (sep_mono_right (sep_mono_right h)))))

/-- A point that is not idle leaves the stated contents. -/
theorem pick (b fl : Bool) (P R : sProp 𝕄) (R' : sProp 𝕄) (hb : b = false) :
    R ⊢ (match (generalizing := false) b with
      | true => (match fl with | false => P | true => R')
      | false => R) := by subst hb; exact BIBase.Entails.rfl

/-- The library's body obligation, at every point. -/
theorem body_obligation (hG : Good m) (c : Dev nD) : BodyObligation (dats (F := F) m hG.ok 0 c) (defs₀ (F := F)) Variants.none () Set.univ := fun t => by
  rw [bigSep_W0, bigSep_W0, defs₀_row m hG.ok]
  have hid : (cfgM m hG.ok).idle 4 ((cfgM m hG.ok).grid.coords t) = false := not_idle m hG t
  refine triple_restated (sound_body m hG c t) rfl BIBase.Entails.rfl fun _ => ?_
  unfold bodyPost
  refine last_mono _ _ _ _ _ _ ?_
  exact pick (F := F) ((cfgM m hG.ok).idle 4 ((cfgM m hG.ok).grid.coords t)) (((cfgM m hG.ok).win 4).flush t) _ _ _ hid

set_option backward.isDefEq.respectTransparency.types false in
/-- The whole run, with the counters. -/
theorem run_quiescent (hG : Good m) : θ_run defs (onTc (τ := τ) (main (F := F))) (s₀ m ρ)
    (fun r => (Pipeline.FramePost (Pipeline.pin pcfgs fun _ => adm m hG.ok) (dats m hG.ok) 0 (V m)) r ∧ r.2.sem = fun _ => 0) :=
  Pipeline.θ_run_frameP (Q' := _) pcfgs (fun _ => adm m hG.ok) (dats m hG.ok) (0 : Fin 1) launch0 defs₀ Variants.none m ρ main
    (hbody := fun c => (body_obligation m hG c).loose) (hshare := fun c => (dats m hG.ok 0 c).share_full fun _ => rfl)
    (howed := fun _ _ => rfl) (V := V m) (hmain := hmain m Variants.none) (hA := A_eq m hG.ok) (hpf := V_pre m)
    (hΦ := fun _ _ => rfl)

/-- The run leaves the arguments unchanged. -/
theorem args_of (hG : Good m) {r : PUnit × MemSt nD τ sig (Elt F)}
    (h : Pipeline.FramePost (Pipeline.pin pcfgs fun _ => adm m hG.ok) (dats m hG.ok) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (V_arg0 m c),
      ((h c).1 0).trans (((dats m hG.ok 0 c).arrAt_in 0 rfl _).trans ((A_eq m hG.ok c 0).trans (V_arg1 m c))),
      ((h c).2 main_arg2 (by decide : main_arg2 ∈ Pipeline.restRefs sig spec0)).trans (V_arg2 m c),
      ((h c).2 main_arg3 (by decide : main_arg3 ∈ Pipeline.restRefs sig spec0)).trans (V_arg3 m c),
      ((h c).2 main_arg4 (by decide : main_arg4 ∈ Pipeline.restRefs sig spec0)).trans (V_arg4 m c)⟩

/-- The frame: the arguments end unchanged and the counters at zero. -/
theorem frame (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m hG h.1, h.2⟩) (run_quiescent m ρ hG)

end Cert.ExpertsIdeal.Exp

end
-- ==== Proof.Exp.Words.lean ====
/-
The experts' tables as words and as numbers. From the tokens of each expert come the ends of the experts' rows,
every expert's rows padded to a multiple of 256 (`E`); from the ends come, for tile `j` of 256 rows, the expert
it is of, whether it holds rows at all, and which rows it reads.
-/
module

public import Idealize.ShloMosaic.Lib.Routing.Ops
public import Idealize.ShloMosaic.Lib.Routing.Words

@[expose] public section

noncomputable section

namespace Cert.Proof.Exp

open Idealize.ShloMosaic Idealize.ShloMosaic.ValueIdx Idealize.ShloMosaic.Routing Idealize.SL.Sem

/-! ## The numbers -/

/-- The tokens of expert `e`. -/
def cnt (x : IVec (shape1 16) 32) (e : Nat) : Nat := if h : e < 16 then (x (ix1 ⟨e, h⟩)).toNat else 0
/-- They are at most 65536 each, and 65536 together. -/
structure Tok (x : IVec (shape1 16) 32) : Prop where
  le : ∀ e, cnt x e ≤ 65536
  sum : ((List.range 16).map (cnt x)).sum = 65536

/-- The rows of expert `e`, padded. -/
def pd (x : IVec (shape1 16) 32) (e : Nat) : Nat := (cnt x e + 255) / 256 * 256
/-- Where the rows of expert `e` end. -/
def E (x : IVec (shape1 16) 32) (e : Nat) : Nat := ((List.range (e + 1)).map (pd x)).sum
/-- The number of experts whose rows end at `p` or before: the expert row `p` is of, or 16 past the last. -/
def own (x : IVec (shape1 16) 32) (p : Nat) : Nat := Nat.count (fun e => E x e ≤ p) 16

theorem E_succ (x : IVec (shape1 16) 32) (e : Nat) : E x (e + 1) = E x e + pd x (e + 1) := by
  unfold E
  rw [List.range_succ (n := e + 1), List.map_append, List.sum_append]
  simp

theorem E_dvd (x : IVec (shape1 16) 32) (e : Nat) : 256 ∣ E x e := by
  induction e with
  | zero => exact ⟨(cnt x 0 + 255) / 256, by simp [E, pd]; omega⟩
  | succ e ih => rw [E_succ]; exact Dvd.dvd.add ih ⟨_, mul_comm _ _⟩

theorem E_mono (x : IVec (shape1 16) 32) {a b : Nat} (h : a ≤ b) : E x a ≤ E x b := by
  induction b, h using Nat.le_induction with
  | base => exact le_rfl
  | succ b _ ih => rw [E_succ]; omega

variable {x : IVec (shape1 16) 32}

theorem last_lo (hx : Tok x) : 65536 ≤ E x 15 := by
  have h := hx.sum
  simp only [E, pd, List.range_succ, List.range_zero, List.nil_append, List.map_append, List.sum_append, List.map_cons, List.map_nil,
    List.sum_cons, List.sum_nil] at h ⊢
  omega
theorem last_hi (hx : Tok x) : E x 15 ≤ 69616 := by
  have h := hx.sum
  simp only [E, pd, List.range_succ, List.range_zero, List.nil_append, List.map_append, List.sum_append, List.map_cons, List.map_nil,
    List.sum_cons, List.sum_nil] at h ⊢
  omega
theorem E_hi (hx : Tok x) {e : Nat} (h : e < 16) : E x e ≤ 69616 := (E_mono x (by omega)).trans (last_hi hx)

theorem own_le (x : IVec (shape1 16) 32) (p : Nat) : own x p ≤ 16 := Nat.count_le _
/-- A tile's rows are all of one expert. -/
theorem own_tile (j r : Nat) (hr : r < 256) : own x (256 * j + r) = own x (256 * j) := by
  unfold own
  rw [Nat.count_eq_card_filter_range, Nat.count_eq_card_filter_range]
  refine congrArg Finset.card (Finset.filter_congr fun e _ => ?_)
  obtain ⟨q, hq⟩ := E_dvd x e
  omega
/-- A tile before the last end is of an expert, -/
theorem own_active {p : Nat} (h : p < E x 15) : own x p < 16 := by
  unfold own
  rw [Nat.count_succ, if_neg (by omega)]
  exact Nat.lt_succ_of_le (Nat.count_le _)
/-- and one past it is of none. -/
theorem own_idle {p : Nat} (h : E x 15 ≤ p) : own x p = 16 := by
  unfold own
  refine Nat.count_iff_forall.2 fun e he => (E_mono x (by omega)).trans h
/-- Before the last end there is room for a whole tile. -/
theorem room {j : Nat} (h : 256 * j < E x 15) : 256 * j + 256 ≤ E x 15 := by
  obtain ⟨q, hq⟩ := E_dvd x 15
  omega

/-! ## The words -/

theorem word_cnt (e : Fin 16) : x (ix1 e) = BitVec.ofNat 32 (cnt x e.val) := by
  unfold cnt
  rw [dif_pos e.isLt, BitVec.ofNat_toNat, BitVec.setWidth_eq]

/-- The ends of the experts' rows. -/
theorem ends_ap (hx : Tok x) (hb : shape0.BroadcastsInDim (shape1 16) (![] : Fin 0 → Fin (shape1 16).rank)) (y : IVec (shape1 16) 32)
    (hy : ∀ e : Fin 16, y (ix1 e) = BitVec.ofNat 32 (cnt x e.val + 255)) (z : IVec shape0 32) (hz : z ix0 = 0#32)
    (hw : (shape1 16).ReduceWindows (![16] : Fin 1 → Nat) ![1] ![15] ![0] (shape1 16)) (hu : 0 < shape0.numel) (e : Fin 16) :
    Host.reduceWindow IntOp.addi ![16] ![1] ![15] ![0]
      (muli (pyDiv hb y (constantI shape0 32 256#32)) (broadcastInDim (shape1 16) ![] hb (constantI shape0 32 256#32))) z hw hu (ix1 e)
      = BitVec.ofNat 32 (E x e.val) := by
  refine cumsum1 (Nm1 := 15) rfl _ (pd x) (fun i => ?_) z hz hw hu e
  rw [muli_ap, bc0, pyDiv_ap hb y (constantI shape0 32 256#32) (ix1 i) (hy i) (b := 256) rfl (by have := hx.le i.val; omega) (by omega) (by omega)]
  show BitVec.ofNat 32 _ * BitVec.ofNat 32 256 = _
  rw [← BitVec.ofNat_mul]
  rfl

/-- How many of the ends a row number has reached, counted in words. -/
theorem own_ap {n : Nat} (hx : Tok x) (f : Nat → Nat) (hf : ∀ i : Fin n, f i.val < 2 ^ 31) (msk : IVec (shape2 n 16) 1)
    (a b : IVec (shape2 n 16) 32) (hm : msk = cmpi .sge a b) (ha : ∀ (i : Fin n) (e : Fin 16), a (ix2 i e) = BitVec.ofNat 32 (f i.val))
    (hb : ∀ (i : Fin n) (e : Fin 16), b (ix2 i e) = BitVec.ofNat 32 (E x e.val)) (hw : 1 < 32)
    (h : (shape2 n 16).ReducesTo [1] (shape1 n)) (hu : 0 < shape0.numel) (i : Fin n) :
    Host.reduce IntOp.addi (extui 32 msk hw) (constantI shape0 32 0#32) h hu (ix1 i) = BitVec.ofNat 32 (own x (f i.val)) := by
  refine reduce_count (by omega) msk hw h hu i _ fun e => ?_
  have h1 := hf i
  have h2 := E_hi hx e.isLt
  rw [hm]
  show IntOp.cmpi .sge (a (ix2 i e)) (b (ix2 i e)) = 1#1 ↔ _
  rw [ha, hb]
  show BitVec.ofBool (BitVec.sle _ _) = 1#1 ↔ _
  rw [sle_ofNat32 (by omega) h1]
  by_cases hle : E x e.val ≤ f i.val
  · simp [hle]
  · simp [hle]

/-- The smaller of two numbers, in words. -/
theorem minsi_word {a b : Nat} (ha : a < 2 ^ 31) (hb : b < 2 ^ 31) :
    IntOp.minsi (BitVec.ofNat 32 a) (BitVec.ofNat 32 b) = BitVec.ofNat 32 (min a b) := by
  unfold IntOp.minsi
  first | rw [slt_ofNat32 ha hb] | rw [sle_ofNat32 ha hb]
  by_cases h : a < b
  · simp [h, min_eq_left h.le]
  · simp [h, min_eq_right (not_lt.1 h)]

/-- A comparison of two numbers, widened to a word. -/
theorem less_word {a b : Nat} (ha : a < 2 ^ 31) (hb : b < 2 ^ 31) :
    (IntOp.cmpi .slt (BitVec.ofNat 32 a) (BitVec.ofNat 32 b)).setWidth 32 = BitVec.ofNat 32 (if a < b then 1 else 0) := by
  show (BitVec.ofBool (BitVec.slt _ _)).setWidth 32 = _
  rw [slt_ofNat32 ha hb, setWidth_ofBool]

/-- The last of the ends, as it is sliced out. -/
theorem last_ap {α : Type} (y : (shape1 16).Idx → α) (h : (shape1 16).Slices ![15] (shape1 1)) (h' : (shape1 1).ShapeCasts shape0) (i : shape0.Idx) :
    shapeCast shape0 (extractStridedSlice (shape1 1) ![15] y h) h' i = y (ix1 15) := by
  refine (shapeCast_apply _ h' i (ix1 0) ?_).trans (slice1 15 y h 0 (by decide))
  have h1 : ((shape1 1).rowMajor (ix1 0)).val < 1 := ((shape1 1).rowMajor (ix1 0)).isLt
  have h2 : (shape0.rowMajor i).val < 1 := (shape0.rowMajor i).isLt
  omega

end Cert.Proof.Exp

end
-- ==== Proof.Exp.Tables.lean ====
/-
The experts' tables as the host's lines leave them, and what they hold: for the tokens the precondition allows, every
block a tile names lies in its array, and the flag of a tile is one or zero.
-/
module

public import proofs.«01_k».proof.Proof.Exp.Frame
public import proofs.«01_k».proof.Proof.Exp.Words

@[expose] public section

set_option maxRecDepth 16384

noncomputable section

namespace Cert.ExpertsIdeal.Exp

open Idealize.ShloMosaic Idealize.ShloMosaic.TcCoe Idealize.ShloMosaic.Tactic Idealize.ShloMosaic.Routing Idealize.SL.Sem
open Idealize.ShloMosaic.ValueIdx
open Cert.ExpertsIdeal.Gen Cert.Proof.Exp

variable {F : FTy → Type} [FloatOps F]

/-- The ends of the experts' rows, -/
def hEnds (x : IVec S16 32) : IVec S16 32 :=
  Host.reduceWindow IntOp.addi ![16] ![1] ![15] ![0]
    (muli (pyDiv bcast_S_S16 (subi (addi x (broadcastInDim S16 ![] bcast_S_S16 (constantI S_ 32 256#32)))
        (broadcastInDim S16 ![] bcast_S_S16 (constantI S_ 32 1#32))) (constantI S_ 32 256#32))
      (broadcastInDim S16 ![] bcast_S_S16 (constantI S_ 32 256#32)))
    (broadcastInDim S_ ![] bcast_S_S_ (constantI S_ 32 0#32)) reduceWindows_S16_S16_w16s1p15_0 h_S_
/-- the first row of each tile, -/
def hStart : IVec S272 32 := muli (iotaInDim S272 32 0) (broadcastInDim S272 ![] bcast_S_S272 (constantI S_ 32 256#32))
/-- the expert of each tile, -/
def hTe (x : IVec S16 32) : IVec S272 32 :=
  minsi (Host.reduce IntOp.addi (extui 32 (cmpi .sge (broadcastInDim S272x16 ![0, 1] bcast_S272x1_S272x16_0_1 (broadcastInDim S272x1 ![0] bcast_S272_S272x1_0 hStart))
      (broadcastInDim S272x16 ![0, 1] bcast_S1x16_S272x16_0_1 (broadcastInDim S1x16 ![1] bcast_S16_S1x16_1 (hEnds x)))) natLt_1_32)
    (constantI S_ 32 0#32) reducesTo_S272x16_S272_d1 h_S_) (broadcastInDim S272 ![] bcast_S_S272 (constantI S_ 32 15#32))
/-- its flag, -/
def hTa (x : IVec S16 32) : IVec S272 32 :=
  extui 32 (cmpi .slt hStart (broadcastInDim S272 ![] bcast_S_S272 (shapeCast S_ (extractStridedSlice S1 ![15] (hEnds x) slices_S16_S1_15) shapeCasts_S1_S_))) natLt_1_32
/-- and the rows it reads. -/
def hTx (x : IVec S16 32) : IVec S272 32 :=
  pyDiv bcast_S_S272 (minsi hStart (broadcastInDim S272 ![] bcast_S_S272
    (subi (shapeCast S_ (extractStridedSlice S1 ![15] (hEnds x) slices_S16_S1_15) shapeCasts_S1_S_) (constantI S_ 32 256#32)))) (constantI S_ 32 256#32)

section Entry
variable (m : (ℓ : Loc nD τ sig) → Buf (Elt F) ℓ)

theorem V_te (c : Dev nD) : (V m c main_v19 : IVec S272 32) = hTe (m ((c : Thread nD τ).loc main_arg0)) := by
  dsimp only [V, hostOps0, hostOps0_1, hostOps0_2, hostOps0_3, hostOps0_4, hostOps0_5, hostOps0_6, List.flatten_cons, List.flatten_nil, List.append_nil, List.cons_append, List.nil_append]
  after_results
  all_goals simp -implicitDefEqProofs only [StableHlo.TRef.toBuf, StableHlo.TRef.ofBuf, cast_cast, cast_eq, id]
  all_goals dsimp only [hTe, hStart, hEnds, pyDiv]
  all_goals rfl
theorem V_ta (c : Dev nD) : (V m c main_v24 : IVec S272 32) = hTa (m ((c : Thread nD τ).loc main_arg0)) := by
  dsimp only [V, hostOps0, hostOps0_1, hostOps0_2, hostOps0_3, hostOps0_4, hostOps0_5, hostOps0_6, List.flatten_cons, List.flatten_nil, List.append_nil, List.cons_append, List.nil_append]
  after_results
  all_goals simp -implicitDefEqProofs only [StableHlo.TRef.toBuf, StableHlo.TRef.ofBuf, cast_cast, cast_eq, id]
  all_goals dsimp only [hTa, hStart, hEnds, pyDiv]
  all_goals rfl
theorem V_tx (c : Dev nD) : (V m c main_v30 : IVec S272 32) = hTx (m ((c : Thread nD τ).loc main_arg0)) := by
  dsimp only [V, hostOps0, hostOps0_1, hostOps0_2, hostOps0_3, hostOps0_4, hostOps0_5, hostOps0_6, List.flatten_cons, List.flatten_nil, List.append_nil, List.cons_append, List.nil_append]
  after_results
  all_goals simp -implicitDefEqProofs only [StableHlo.TRef.toBuf, StableHlo.TRef.ofBuf, cast_cast, cast_eq, id]
  all_goals dsimp only [hTx, hStart, hEnds, pyDiv]
  all_goals rfl
theorem V_wg (c : Dev nD) : (V m c main_v31 : FVec F S16x1024x512 .bf16) = truncf .bf16 (m ((c : Thread nD τ).loc main_arg2)) bitsLt_bf16_f32 := by
  dsimp only [V, hostOps0, hostOps0_1, hostOps0_2, hostOps0_3, hostOps0_4, hostOps0_5, hostOps0_6, List.flatten_cons, List.flatten_nil, List.append_nil, List.cons_append, List.nil_append]
  after_results
  all_goals rfl
theorem V_wu (c : Dev nD) : (V m c main_v32 : FVec F S16x1024x512 .bf16) = truncf .bf16 (m ((c : Thread nD τ).loc main_arg3)) bitsLt_bf16_f32 := by
  dsimp only [V, hostOps0, hostOps0_1, hostOps0_2, hostOps0_3, hostOps0_4, hostOps0_5, hostOps0_6, List.flatten_cons, List.flatten_nil, List.append_nil, List.cons_append, List.nil_append]
  after_results
  all_goals rfl
theorem V_wd (c : Dev nD) : (V m c main_v33 : FVec F S16x512x1024 .bf16) = truncf .bf16 (m ((c : Thread nD τ).loc main_arg4)) bitsLt_bf16_f32 := by
  dsimp only [V, hostOps0, hostOps0_1, hostOps0_2, hostOps0_3, hostOps0_4, hostOps0_5, hostOps0_6, List.flatten_cons, List.flatten_nil, List.append_nil, List.cons_append, List.nil_append]
  after_results
  all_goals rfl

end Entry

/-! ## What the tables hold -/

attribute [local irreducible] E own

theorem minsi_ap {s : Shape} (a b : IVec s 32) (i : s.Idx) : minsi a b i = IntOp.minsi (a i) (b i) := rfl
theorem less_ap {s : Shape} (a b : IVec s 32) (h : 1 < 32) (i : s.Idx) : extui 32 (cmpi .slt a b) h i = (IntOp.cmpi .slt (a i) (b i)).setWidth 32 := rfl

section Hold
variable {x : IVec S16 32} (hx : Tok x)
include hx

theorem hEnds_ap (e : Fin 16) : hEnds x (ix1 e) = BitVec.ofNat 32 (E x e.val) := by
  refine ends_ap hx bcast_S_S16 _ (fun e => ?_) _ rfl _ _ e
  rw [subi_ap, addi_ap, bc0, bc0, word_cnt (x := x)]
  show BitVec.ofNat 32 _ + BitVec.ofNat 32 256 - BitVec.ofNat 32 1 = _
  have h := hx.le e.val
  apply BitVec.eq_of_toNat_eq
  rw [BitVec.toNat_sub, BitVec.toNat_add, BitVec.toNat_ofNat, BitVec.toNat_ofNat, BitVec.toNat_ofNat, BitVec.toNat_ofNat]
  omega

omit hx in
theorem hStart_ap (j : Fin 272) : hStart (ix1 j) = BitVec.ofNat 32 (256 * j.val) := by
  unfold hStart
  rw [muli_ap, bc0]
  show BitVec.ofNat 32 j.val * BitVec.ofNat 32 256 = _
  rw [← BitVec.ofNat_mul, Nat.mul_comm]

theorem hTe_ap (j : Fin 272) : hTe x (ix1 j) = BitVec.ofNat 32 (min (own x (256 * j.val)) 15) := by
  unfold hTe
  rw [minsi_ap, bc0 (s := shape1 272) bcast_S_S272, own_ap hx (fun j => 256 * j) (fun i => by have := i.isLt; show 256 * i.val < _; omega) _ _ _ rfl
    (fun i e => (bcRows (n := 272) (m := 16) bcast_S272_S272x1_0 bcast_S272x1_S272x16_0_1 hStart i e).trans (hStart_ap i))
    (fun i e => (bcCols (n := 272) (m := 16) bcast_S16_S1x16_1 bcast_S1x16_S272x16_0_1 (hEnds x) i e).trans (hEnds_ap hx e)) _ _ _ j]
  show IntOp.minsi (BitVec.ofNat 32 (own x (256 * j.val))) (BitVec.ofNat 32 15) = _
  exact minsi_word (lt_of_le_of_lt (own_le _ _) (by omega)) (by omega)

theorem hTa_ap (j : Fin 272) : hTa x (ix1 j) = BitVec.ofNat 32 (if 256 * j.val < E x 15 then 1 else 0) := by
  unfold hTa
  rw [less_ap, bc0 (s := shape1 272) bcast_S_S272, last_ap (hEnds x), hStart_ap, hEnds_ap hx]
  exact less_word (by have := j.isLt; omega) (by have := last_hi hx; show E x 15 < _; omega)

theorem hTx_ap (j : Fin 272) : hTx x (ix1 j) = BitVec.ofNat 32 (min (256 * j.val) (E x 15 - 256) / 256) := by
  have h1 := last_hi hx
  have h2 := last_lo hx
  have hj := j.isLt
  unfold hTx
  refine pyDiv_ap (s := shape1 272) bcast_S_S272 _ _ (ix1 j) (a := min (256 * j.val) (E x 15 - 256)) (b := 256) ?_ rfl (by omega) (by omega) (by omega)
  rw [minsi_ap, bc0 (s := shape1 272) bcast_S_S272, subi_ap, last_ap (hEnds x), hStart_ap, hEnds_ap hx,
    show BitVec.ofNat 32 (E x (15 : Fin 16).val) - constantI S_ 32 256#32 ValueIdx.ix0 = BitVec.ofNat 32 (E x 15 - 256) from by
      apply BitVec.eq_of_toNat_eq
      show (BitVec.ofNat 32 (E x 15) - BitVec.ofNat 32 256).toNat = _
      rw [BitVec.toNat_sub, BitVec.toNat_ofNat, BitVec.toNat_ofNat, BitVec.toNat_ofNat]
      omega]
  exact minsi_word (by omega) (by omega)

end Hold

/-! ## The tables are good -/

section Good
variable (m : (ℓ : Loc nD τ sig) → Buf (Elt F) ℓ)

/-- The counts the program is given. -/
abbrev counts : IVec S16 32 := m (((0 : Dev nD) : Thread nD τ).loc main_arg0)

theorem tbl0 : (tbl m 0 : IVec S272 32) = hTe (counts m) := V_te m 0
theorem tbl1 : (tbl m 1 : IVec S272 32) = hTa (counts m) := V_ta m 0
theorem tbl2 : (tbl m 2 : IVec S272 32) = hTx (counts m) := V_tx m 0

/-- The tile of a grid point. -/
def tileOf (i : grid0.Coords) : Fin 272 := ⟨(i 0).val, (i 0).isLt⟩

theorem off_eq (i : grid0.Coords) : (k0_off1 i : Fin 1 → Nat) 0 = (i 0).val := by
  have h : (i 0).val < 272 := (i 0).isLt
  show (BitVec.ofNat 32 (i 0).val).toNat = _
  rw [BitVec.toNat_ofNat]
  omega

theorem word_eq (i : grid0.Coords) : word (0 : Dev nD) (tbl m 1) i = hTa (counts m) (ix1 (tileOf i)) := by
  rw [← tbl1]
  refine congrArg (tbl m 1) (funext fun a => Fin.ext ?_)
  match a with
  | ⟨0, _⟩ => exact off_eq i

theorem at_te (i : grid0.Coords) (h) : ((tbl m).at 0 (Rect.unit (s := S272) ![(Scalar.indexCast (BitVec.ofNat 32 (i 0).val)).toNat] S1.size h) numel1_S1 : BitVec 32)
    = hTe (counts m) (ix1 (tileOf i)) := by
  rw [← tbl0]
  refine congrArg (tbl m 0) (funext fun a => Fin.ext ?_)
  match a with
  | ⟨0, _⟩ =>
    refine (congrArg₂ (fun a b : Nat => a + 1 * b) (off_eq i) (Nat.lt_one_iff.1 (Shape.Idx.first (s := S1) (by decide) 0).isLt)).trans ?_
    rfl
theorem at_tx (i : grid0.Coords) (h) : ((tbl m).at 2 (Rect.unit (s := S272) ![(Scalar.indexCast (BitVec.ofNat 32 (i 0).val)).toNat] S1.size h) numel1_S1 : BitVec 32)
    = hTx (counts m) (ix1 (tileOf i)) := by
  rw [← tbl2]
  refine congrArg (tbl m 2) (funext fun a => Fin.ext ?_)
  match a with
  | ⟨0, _⟩ =>
    refine (congrArg₂ (fun a b : Nat => a + 1 * b) (off_eq i) (Nat.lt_one_iff.1 (Shape.Idx.first (s := S1) (by decide) 0).isLt)).trans ?_
    rfl

variable {m} (hx : Tok (counts m))
include hx

/-- The expert a tile names, -/
theorem ix_te (i : grid0.Coords) (h) : ((tbl m).at 0 (Rect.unit (s := S272) ![(Scalar.indexCast (BitVec.ofNat 32 (i 0).val)).toNat] S1.size h) numel1_S1 : BitVec 32).toNat
    = min (own (counts m) (256 * (i 0).val)) 15 := by
  rw [at_te, hTe_ap hx, BitVec.toNat_ofNat]
  show min (own (counts m) (256 * (i 0).val)) 15 % _ = _
  omega
/-- and the rows it reads. -/
theorem ix_tx (i : grid0.Coords) (h) : ((tbl m).at 2 (Rect.unit (s := S272) ![(Scalar.indexCast (BitVec.ofNat 32 (i 0).val)).toNat] S1.size h) numel1_S1 : BitVec 32).toNat
    = min (256 * (i 0).val) (E (counts m) 15 - 256) / 256 := by
  have hi : (i 0).val < 272 := (i 0).isLt
  rw [at_tx, hTx_ap hx, BitVec.toNat_ofNat]
  show min (256 * (i 0).val) (E (counts m) 15 - 256) / 256 % _ = _
  omega

theorem inb0 (i : grid0.Coords) (a : Fin 2) : (cc0_transform_0 k0_off1_inb numel1_S1 (tbl m) i a + 1) * S2048x128.size a ≤ S559104x128.size a := by
  have hi : (i 0).val < 272 := (i 0).isLt
  match a with
  | ⟨0, _⟩ =>
    refine (congrArg (fun n : Nat => (n + 1) * 2048) (ix_tx hx i (k0_off1_inb i))).trans_le ?_
    show (min (256 * (i 0).val) (E (counts m) 15 - 256) / 256 + 1) * 2048 ≤ 559104
    have := Nat.min_le_left (256 * (i 0).val) (E (counts m) 15 - 256)
    omega
  | ⟨1, _⟩ => exact (by decide : (0 + 1) * 128 ≤ 128)
theorem inb1 (i : grid0.Coords) (a : Fin 3) : (cc0_transform_1 k0_off1_inb numel1_S1 (tbl m) i a + 1) * S1x1024x512.size a ≤ S16x1024x512.size a := by
  match a with
  | ⟨0, _⟩ =>
    refine (congrArg (fun n : Nat => (n + 1) * 1) (ix_te hx i (k0_off1_inb i))).trans_le ?_
    show (min (own (counts m) (256 * (i 0).val)) 15 + 1) * 1 ≤ 16
    have := Nat.min_le_right (own (counts m) (256 * (i 0).val)) 15
    omega
  | ⟨1, _⟩ => exact (by decide : (0 + 1) * 1024 ≤ 1024)
  | ⟨2, _⟩ => exact (by decide : (0 + 1) * 512 ≤ 512)
theorem inb2 (i : grid0.Coords) (a : Fin 3) : (cc0_transform_2 k0_off1_inb numel1_S1 (tbl m) i a + 1) * S1x1024x512.size a ≤ S16x1024x512.size a := by
  match a with
  | ⟨0, _⟩ =>
    refine (congrArg (fun n : Nat => (n + 1) * 1) (ix_te hx i (k0_off1_inb i))).trans_le ?_
    show (min (own (counts m) (256 * (i 0).val)) 15 + 1) * 1 ≤ 16
    have := Nat.min_le_right (own (counts m) (256 * (i 0).val)) 15
    omega
  | ⟨1, _⟩ => exact (by decide : (0 + 1) * 1024 ≤ 1024)
  | ⟨2, _⟩ => exact (by decide : (0 + 1) * 512 ≤ 512)
theorem inb3 (i : grid0.Coords) (a : Fin 3) : (cc0_transform_3 k0_off1_inb numel1_S1 (tbl m) i a + 1) * S1x512x1024.size a ≤ S16x512x1024.size a := by
  match a with
  | ⟨0, _⟩ =>
    refine (congrArg (fun n : Nat => (n + 1) * 1) (ix_te hx i (k0_off1_inb i))).trans_le ?_
    show (min (own (counts m) (256 * (i 0).val)) 15 + 1) * 1 ≤ 16
    have := Nat.min_le_right (own (counts m) (256 * (i 0).val)) 15
    omega
  | ⟨1, _⟩ => exact (by decide : (0 + 1) * 512 ≤ 512)
  | ⟨2, _⟩ => exact (by decide : (0 + 1) * 1024 ≤ 1024)

theorem ok : Ok m :=
  ⟨fun i => ⟨inb0 hx i, .inl rfl⟩, fun i => ⟨inb1 hx i, .inr (.inr ⟨by decide, rfl, rfl, rfl⟩)⟩,
    fun i => ⟨inb2 hx i, .inr (.inr ⟨by decide, rfl, rfl, rfl⟩)⟩, fun i => ⟨inb3 hx i, .inr (.inr ⟨by decide, rfl, rfl, rfl⟩)⟩⟩

theorem good : Good m where
  ok := ok hx
  bit i := by
    rw [word_eq, hTa_ap hx]
    split
    · exact .inl rfl
    · exact .inr rfl

end Good

end Cert.ExpertsIdeal.Exp

end
-- ==== Proof.Exp.Pure.lean ====
/-
An expert at an index. `expert` is one row through an expert: the gate's product through the sigmoid-weighted unit, times the
up product, times the down weights. A tile of the kernel is such rows, and so is each of the reference's sixteen terms.
-/
module

public import proofs.«01_k».proof.Proof.Exp.Tables
public import proofs.«01_k».proof.Proof.Gen.ExpertsRefIdeal.Read
public import Idealize.ShloMosaic.Lib.Pointwise

@[expose] public section

set_option maxRecDepth 16384

noncomputable section

namespace Cert.Proof.Exp

open Idealize.ShloMosaic Idealize.ShloMosaic.TcCoe Idealize.SL.Sem

/-- The hidden value of a row at column `h`. -/
def hidden (X : Fin 1024 → EReal) (Wg Wu : Fin 1024 → Fin 512 → EReal) (h : Fin 512) : EReal :=
  (∑ k, X k * Wg k h) * Ideal.logistic (∑ k, X k * Wg k h) * (∑ k, X k * Wu k h)
/-- The row through the expert, at column `l`. -/
def expert (X : Fin 1024 → EReal) (Wg Wu : Fin 1024 → Fin 512 → EReal) (Wd : Fin 512 → Fin 1024 → EReal) (l : Fin 1024) : EReal :=
  ∑ h, hidden X Wg Wu h * Wd h l

section Kernel
open Cert.ExpertsIdeal Cert.ExpertsIdeal.Gen Cert.ExpertsIdeal.Exp

theorem pay_apply (v0 v1 v2 v3 v4 v5 v6 v7 : FVec Ideal S256x128 .f32) (x1 x2 : FVec Ideal S1x1024x512 .bf16) (x3 : FVec Ideal S1x512x1024 .bf16)
    (r : Fin 256) (l : Fin 1024) :
    (k0_pay8 (F := Ideal) v0 v1 v2 v3 v4 v5 v6 v7 x1 x2 x3 (ix2 r l) : EReal)
      = expert (fun k => concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩] concatenates_S256x128_S256x128_S256x128_S256x128_S256x128_S256x128_S256x128_S256x128_S256x1024_d1 (ix2 r k))
        (fun k h => x1 (ix3 0 k h)) (fun k h => x2 (ix3 0 k h)) (fun h l => x3 (ix3 0 h l)) l := by
  unfold k0_pay8
  generalize concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩] _ = y
  pointwise [expert, hidden]

/-- Slice `q` at a column is the block's row `q` of the eight. -/
theorem rows_apply (x0 : FVec Ideal S2048x128 .f32) (q : Nat) (hq : q < 8) (r : Fin 256) (k : Fin 1024) (c : Fin 128) (h : k.val = 128 * q + c.val) :
    (rowsOf (F := Ideal) q hq x0 (ix2 r c) : EReal) = x0 (ix2 ⟨8 * r.val + k.val / 128, by omega⟩ ⟨k.val % 128, by omega⟩) := by
  refine congrArg x0 (funext fun a => Fin.ext ?_)
  match a with
  | ⟨0, _⟩ => show q + 8 * r.val = 8 * r.val + k.val / 128; omega
  | ⟨1, _⟩ => show c.val = k.val % 128; omega

/-- Eight slices side by side. -/
theorem beside_apply (v0 v1 v2 v3 v4 v5 v6 v7 : FVec Ideal S256x128 .f32) (r : Fin 256) (k : Fin 1024) (z : EReal)
    (h0 : ∀ c : Fin 128, k.val = 128 * 0 + c.val → v0 (ix2 r c) = z) (h1 : ∀ c : Fin 128, k.val = 128 * 1 + c.val → v1 (ix2 r c) = z)
    (h2 : ∀ c : Fin 128, k.val = 128 * 2 + c.val → v2 (ix2 r c) = z) (h3 : ∀ c : Fin 128, k.val = 128 * 3 + c.val → v3 (ix2 r c) = z)
    (h4 : ∀ c : Fin 128, k.val = 128 * 4 + c.val → v4 (ix2 r c) = z) (h5 : ∀ c : Fin 128, k.val = 128 * 5 + c.val → v5 (ix2 r c) = z)
    (h6 : ∀ c : Fin 128, k.val = 128 * 6 + c.val → v6 (ix2 r c) = z) (h7 : ∀ c : Fin 128, k.val = 128 * 7 + c.val → v7 (ix2 r c) = z) :
    (concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩]
      concatenates_S256x128_S256x128_S256x128_S256x128_S256x128_S256x128_S256x128_S256x128_S256x1024_d1 (ix2 r k) : EReal) = z := by
  have hk := k.isLt
  pointwise
  split
  · exact h0 _ (by show k.val = _ + k.val; omega)
  split
  · exact h1 _ (by show k.val = _ + (k.val - 128); omega)
  split
  · exact h2 _ (by show k.val = _ + (k.val - 128 - 128); omega)
  split
  · exact h3 _ (by show k.val = _ + (k.val - 128 - 128 - 128); omega)
  split
  · exact h4 _ (by show k.val = _ + (k.val - 128 - 128 - 128 - 128); omega)
  split
  · exact h5 _ (by show k.val = _ + (k.val - 128 - 128 - 128 - 128 - 128); omega)
  split
  · exact h6 _ (by show k.val = _ + (k.val - 128 - 128 - 128 - 128 - 128 - 128); omega)
  · exact h7 _ (by show k.val = _ + (k.val - 128 - 128 - 128 - 128 - 128 - 128 - 128); omega)

/-- A tile at an index: row `r` of the tile is the block's rows `8 r …` side by side. -/
theorem tile_apply (x0 : FVec Ideal S2048x128 .f32) (x1 x2 : FVec Ideal S1x1024x512 .bf16) (x3 : FVec Ideal S1x512x1024 .bf16) (r : Fin 256) (l : Fin 1024) :
    (tile (F := Ideal) x0 x1 x2 x3 (ix2 r l) : EReal)
      = expert (fun k => x0 (ix2 ⟨8 * r.val + k.val / 128, by omega⟩ ⟨k.val % 128, by omega⟩))
        (fun k h => x1 (ix3 0 k h)) (fun k h => x2 (ix3 0 k h)) (fun h l => x3 (ix3 0 h l)) l := by
  refine (pay_apply _ _ _ _ _ _ _ _ x1 x2 x3 r l).trans ?_
  refine congrArg (fun X => expert X _ _ _ l) (funext fun k => ?_)
  exact beside_apply _ _ _ _ _ _ _ _ r k _ (fun c h => rows_apply x0 0 _ r k c h) (fun c h => rows_apply x0 1 _ r k c h) (fun c h => rows_apply x0 2 _ r k c h)
    (fun c h => rows_apply x0 3 _ r k c h) (fun c h => rows_apply x0 4 _ r k c h) (fun c h => rows_apply x0 5 _ r k c h)
    (fun c h => rows_apply x0 6 _ r k c h) (fun c h => rows_apply x0 7 _ r k c h)

end Kernel

section Reference
open Cert.ExpertsRefIdeal Cert.ExpertsRefIdeal.Read Cert.ExpertsRefIdeal.Gen

/-- The reference's term of one expert. -/
def term (e : Nat) (hg : S69632x16.Slices ![0, e] S69632x1) (hw : S16x1024x512.Slices ![e, 0, 0] S1x1024x512) (hd : S16x512x1024.Slices ![e, 0, 0] S1x512x1024)
    (gate : FVec Ideal S69632x16 .f32) (X : FVec Ideal S69632x1024 .f32) (w2 w3 : FVec Ideal S16x1024x512 .f32) (w4 : FVec Ideal S16x512x1024 .f32) :
    FVec Ideal S69632x1024 .f32 :=
  mulf (broadcastInDim S69632x1024 ![0, 1] bcast_S69632x1_S69632x1024_0_1 (extractStridedSlice S69632x1 ![0, e] gate hg))
    (Host.dotGeneral dot_S69632x512_S512x1024_S69632x1024_1_0_0_1_n_n none
      (mulf (mulf (Host.dotGeneral dot_S69632x1024_S1024x512_S69632x512_1_0_0_1_n_n none X (shapeCast S1024x512 (extractStridedSlice S1x1024x512 ![e, 0, 0] w2 hw) shapeCasts_S1x1024x512_S1024x512))
          (Host.divf (broadcastInDim S69632x512 ![] bcast_S_S69632x512 (constant S_ .f32 0x3F800000#32))
            (addf (broadcastInDim S69632x512 ![] bcast_S_S69632x512 (constant S_ .f32 0x3F800000#32))
              (Host.exp (Host.negf (Host.dotGeneral dot_S69632x1024_S1024x512_S69632x512_1_0_0_1_n_n none X (shapeCast S1024x512 (extractStridedSlice S1x1024x512 ![e, 0, 0] w2 hw) shapeCasts_S1x1024x512_S1024x512)))))))
        (Host.dotGeneral dot_S69632x1024_S1024x512_S69632x512_1_0_0_1_n_n none X (shapeCast S1024x512 (extractStridedSlice S1x1024x512 ![e, 0, 0] w3 hw) shapeCasts_S1x1024x512_S1024x512)))
      (shapeCast S512x1024 (extractStridedSlice S1x512x1024 ![e, 0, 0] w4 hd) shapeCasts_S1x512x1024_S512x1024))

theorem term_apply (e : Nat) (he : e < 16) (hg : S69632x16.Slices ![0, e] S69632x1) (hw : S16x1024x512.Slices ![e, 0, 0] S1x1024x512) (hd : S16x512x1024.Slices ![e, 0, 0] S1x512x1024)
    (gate : FVec Ideal S69632x16 .f32) (X : FVec Ideal S69632x1024 .f32) (w2 w3 : FVec Ideal S16x1024x512 .f32) (w4 : FVec Ideal S16x512x1024 .f32) (p : Fin 69632) (l : Fin 1024) :
    (term e hg hw hd gate X w2 w3 w4 (ix2 p l) : EReal)
      = gate (ix2 p ⟨e, he⟩) * expert (fun k => X (ix2 p k)) (fun k h => w2 (ix3 ⟨e, he⟩ k h)) (fun k h => w3 (ix3 ⟨e, he⟩ k h)) (fun h l => w4 (ix3 ⟨e, he⟩ h l)) l := by
  pointwise [term, expert, hidden]
  rfl

end Reference

end Cert.Proof.Exp

end
-- ==== Proof.Exp.Ref.lean ====
/-
The reference of the experts at an index. A row's gate is one at the expert whose rows it is among and zero at every other, so
of the sixteen terms added up one is left: the row through its own expert, and zero past the last expert's rows.
-/
module

public import proofs.«01_k».proof.Proof.Exp.Pure
public import Idealize.ShloMosaic.Lib.WordCmp

@[expose] public section

set_option maxRecDepth 16384

noncomputable section

namespace Cert.Proof.Exp

open Idealize.ShloMosaic Idealize.ShloMosaic.TcCoe Idealize.ShloMosaic.Routing Idealize.SL.Sem
open Cert.ExpertsRefIdeal Cert.ExpertsRefIdeal.Read Cert.ExpertsRefIdeal.Gen

/-- Of sixteen gated terms the one whose gate is open is left. -/
theorem pick (n : Nat) (hn : n ≤ 16) (Y : Fin 16 → EReal) :
    ((((((((((((((((0 + (if n = 0 then 1 else 0) * Y 0) + (if n = 1 then 1 else 0) * Y 1) + (if n = 2 then 1 else 0) * Y 2) + (if n = 3 then 1 else 0) * Y 3) + (if n = 4 then 1 else 0) * Y 4) + (if n = 5 then 1 else 0) * Y 5) + (if n = 6 then 1 else 0) * Y 6) + (if n = 7 then 1 else 0) * Y 7) + (if n = 8 then 1 else 0) * Y 8) + (if n = 9 then 1 else 0) * Y 9) + (if n = 10 then 1 else 0) * Y 10) + (if n = 11 then 1 else 0) * Y 11) + (if n = 12 then 1 else 0) * Y 12) + (if n = 13 then 1 else 0) * Y 13) + (if n = 14 then 1 else 0) * Y 14) + (if n = 15 then 1 else 0) * Y 15) = (if h : n < 16 then Y ⟨n, h⟩ else 0) := by
  interval_cases n <;> simp <;> rfl

theorem addf_at {s : Shape} (a b : FVec Ideal s .f32) (i : s.Idx) : (addf (F := Ideal) a b i : EReal) = a i + b i := rfl

section Steps
variable (x0 : IVec S16 32) (x1 : FVec Ideal S559104x128 .f32) (x2 x3 : FVec Ideal S16x1024x512 .f32) (x4 : FVec Ideal S16x512x1024 .f32)

theorem step0 : val_main_v32 (F := Ideal) x0 x1 x2 x3 x4 = addf (val_main_v17 (F := Ideal)) (term 0 slices_S69632x16_S69632x1_0_0 slices_S16x1024x512_S1x1024x512_0_0_0 slices_S16x512x1024_S1x512x1024_0_0_0 (val_main_v16 (F := Ideal) x0) (val_main_v1 (F := Ideal) x1) x2 x3 x4) := rfl
theorem step1 : val_main_v47 (F := Ideal) x0 x1 x2 x3 x4 = addf (val_main_v32 (F := Ideal) x0 x1 x2 x3 x4) (term 1 slices_S69632x16_S69632x1_0_1 slices_S16x1024x512_S1x1024x512_1_0_0 slices_S16x512x1024_S1x512x1024_1_0_0 (val_main_v16 (F := Ideal) x0) (val_main_v1 (F := Ideal) x1) x2 x3 x4) := rfl
theorem step2 : val_main_v62 (F := Ideal) x0 x1 x2 x3 x4 = addf (val_main_v47 (F := Ideal) x0 x1 x2 x3 x4) (term 2 slices_S69632x16_S69632x1_0_2 slices_S16x1024x512_S1x1024x512_2_0_0 slices_S16x512x1024_S1x512x1024_2_0_0 (val_main_v16 (F := Ideal) x0) (val_main_v1 (F := Ideal) x1) x2 x3 x4) := rfl
theorem step3 : val_main_v77 (F := Ideal) x0 x1 x2 x3 x4 = addf (val_main_v62 (F := Ideal) x0 x1 x2 x3 x4) (term 3 slices_S69632x16_S69632x1_0_3 slices_S16x1024x512_S1x1024x512_3_0_0 slices_S16x512x1024_S1x512x1024_3_0_0 (val_main_v16 (F := Ideal) x0) (val_main_v1 (F := Ideal) x1) x2 x3 x4) := rfl
theorem step4 : val_main_v92 (F := Ideal) x0 x1 x2 x3 x4 = addf (val_main_v77 (F := Ideal) x0 x1 x2 x3 x4) (term 4 slices_S69632x16_S69632x1_0_4 slices_S16x1024x512_S1x1024x512_4_0_0 slices_S16x512x1024_S1x512x1024_4_0_0 (val_main_v16 (F := Ideal) x0) (val_main_v1 (F := Ideal) x1) x2 x3 x4) := rfl
theorem step5 : val_main_v107 (F := Ideal) x0 x1 x2 x3 x4 = addf (val_main_v92 (F := Ideal) x0 x1 x2 x3 x4) (term 5 slices_S69632x16_S69632x1_0_5 slices_S16x1024x512_S1x1024x512_5_0_0 slices_S16x512x1024_S1x512x1024_5_0_0 (val_main_v16 (F := Ideal) x0) (val_main_v1 (F := Ideal) x1) x2 x3 x4) := rfl
theorem step6 : val_main_v122 (F := Ideal) x0 x1 x2 x3 x4 = addf (val_main_v107 (F := Ideal) x0 x1 x2 x3 x4) (term 6 slices_S69632x16_S69632x1_0_6 slices_S16x1024x512_S1x1024x512_6_0_0 slices_S16x512x1024_S1x512x1024_6_0_0 (val_main_v16 (F := Ideal) x0) (val_main_v1 (F := Ideal) x1) x2 x3 x4) := rfl
theorem step7 : val_main_v137 (F := Ideal) x0 x1 x2 x3 x4 = addf (val_main_v122 (F := Ideal) x0 x1 x2 x3 x4) (term 7 slices_S69632x16_S69632x1_0_7 slices_S16x1024x512_S1x1024x512_7_0_0 slices_S16x512x1024_S1x512x1024_7_0_0 (val_main_v16 (F := Ideal) x0) (val_main_v1 (F := Ideal) x1) x2 x3 x4) := rfl
theorem step8 : val_main_v152 (F := Ideal) x0 x1 x2 x3 x4 = addf (val_main_v137 (F := Ideal) x0 x1 x2 x3 x4) (term 8 slices_S69632x16_S69632x1_0_8 slices_S16x1024x512_S1x1024x512_8_0_0 slices_S16x512x1024_S1x512x1024_8_0_0 (val_main_v16 (F := Ideal) x0) (val_main_v1 (F := Ideal) x1) x2 x3 x4) := rfl
theorem step9 : val_main_v167 (F := Ideal) x0 x1 x2 x3 x4 = addf (val_main_v152 (F := Ideal) x0 x1 x2 x3 x4) (term 9 slices_S69632x16_S69632x1_0_9 slices_S16x1024x512_S1x1024x512_9_0_0 slices_S16x512x1024_S1x512x1024_9_0_0 (val_main_v16 (F := Ideal) x0) (val_main_v1 (F := Ideal) x1) x2 x3 x4) := rfl
theorem step10 : val_main_v182 (F := Ideal) x0 x1 x2 x3 x4 = addf (val_main_v167 (F := Ideal) x0 x1 x2 x3 x4) (term 10 slices_S69632x16_S69632x1_0_10 slices_S16x1024x512_S1x1024x512_10_0_0 slices_S16x512x1024_S1x512x1024_10_0_0 (val_main_v16 (F := Ideal) x0) (val_main_v1 (F := Ideal) x1) x2 x3 x4) := rfl
theorem step11 : val_main_v197 (F := Ideal) x0 x1 x2 x3 x4 = addf (val_main_v182 (F := Ideal) x0 x1 x2 x3 x4) (term 11 slices_S69632x16_S69632x1_0_11 slices_S16x1024x512_S1x1024x512_11_0_0 slices_S16x512x1024_S1x512x1024_11_0_0 (val_main_v16 (F := Ideal) x0) (val_main_v1 (F := Ideal) x1) x2 x3 x4) := rfl
theorem step12 : val_main_v212 (F := Ideal) x0 x1 x2 x3 x4 = addf (val_main_v197 (F := Ideal) x0 x1 x2 x3 x4) (term 12 slices_S69632x16_S69632x1_0_12 slices_S16x1024x512_S1x1024x512_12_0_0 slices_S16x512x1024_S1x512x1024_12_0_0 (val_main_v16 (F := Ideal) x0) (val_main_v1 (F := Ideal) x1) x2 x3 x4) := rfl
theorem step13 : val_main_v227 (F := Ideal) x0 x1 x2 x3 x4 = addf (val_main_v212 (F := Ideal) x0 x1 x2 x3 x4) (term 13 slices_S69632x16_S69632x1_0_13 slices_S16x1024x512_S1x1024x512_13_0_0 slices_S16x512x1024_S1x512x1024_13_0_0 (val_main_v16 (F := Ideal) x0) (val_main_v1 (F := Ideal) x1) x2 x3 x4) := rfl
theorem step14 : val_main_v242 (F := Ideal) x0 x1 x2 x3 x4 = addf (val_main_v227 (F := Ideal) x0 x1 x2 x3 x4) (term 14 slices_S69632x16_S69632x1_0_14 slices_S16x1024x512_S1x1024x512_14_0_0 slices_S16x512x1024_S1x512x1024_14_0_0 (val_main_v16 (F := Ideal) x0) (val_main_v1 (F := Ideal) x1) x2 x3 x4) := rfl
theorem step15 : val_main_v257 (F := Ideal) x0 x1 x2 x3 x4 = addf (val_main_v242 (F := Ideal) x0 x1 x2 x3 x4) (term 15 slices_S69632x16_S69632x1_0_15 slices_S16x1024x512_S1x1024x512_15_0_0 slices_S16x512x1024_S1x512x1024_15_0_0 (val_main_v16 (F := Ideal) x0) (val_main_v1 (F := Ideal) x1) x2 x3 x4) := rfl

/-- A row of the reference is given by its gates and its terms. -/
theorem rows_of (n : Nat) (hn : n ≤ 16) (p : Fin 69632) (l : Fin 1024)
    (hg : ∀ e : Fin 16, (val_main_v16 (F := Ideal) x0 (ix2 p e) : EReal) = if n = e.val then 1 else 0) :
    (val_main_v257 (F := Ideal) x0 x1 x2 x3 x4 (ix2 p l) : EReal)
      = if h : n < 16 then expert (fun k => val_main_v1 (F := Ideal) x1 (ix2 p k)) (fun k h' => x2 (ix3 ⟨n, h⟩ k h')) (fun k h' => x3 (ix3 ⟨n, h⟩ k h')) (fun h' l => x4 (ix3 ⟨n, h⟩ h' l)) l else 0 := by
  have hz : (val_main_v17 (F := Ideal) (ix2 p l) : EReal) = 0 := Ideal.ofBits_zero_f32
  refine Eq.trans ?_ (pick n hn fun e => expert (fun k => val_main_v1 (F := Ideal) x1 (ix2 p k)) (fun k h' => x2 (ix3 e k h')) (fun k h' => x3 (ix3 e k h')) (fun h' l => x4 (ix3 e h' l)) l)
  rw [step15, addf_at, term_apply 15 (by omega), hg ⟨15, by omega⟩]
  rw [step14, addf_at, term_apply 14 (by omega), hg ⟨14, by omega⟩]
  rw [step13, addf_at, term_apply 13 (by omega), hg ⟨13, by omega⟩]
  rw [step12, addf_at, term_apply 12 (by omega), hg ⟨12, by omega⟩]
  rw [step11, addf_at, term_apply 11 (by omega), hg ⟨11, by omega⟩]
  rw [step10, addf_at, term_apply 10 (by omega), hg ⟨10, by omega⟩]
  rw [step9, addf_at, term_apply 9 (by omega), hg ⟨9, by omega⟩]
  rw [step8, addf_at, term_apply 8 (by omega), hg ⟨8, by omega⟩]
  rw [step7, addf_at, term_apply 7 (by omega), hg ⟨7, by omega⟩]
  rw [step6, addf_at, term_apply 6 (by omega), hg ⟨6, by omega⟩]
  rw [step5, addf_at, term_apply 5 (by omega), hg ⟨5, by omega⟩]
  rw [step4, addf_at, term_apply 4 (by omega), hg ⟨4, by omega⟩]
  rw [step3, addf_at, term_apply 3 (by omega), hg ⟨3, by omega⟩]
  rw [step2, addf_at, term_apply 2 (by omega), hg ⟨2, by omega⟩]
  rw [step1, addf_at, term_apply 1 (by omega), hg ⟨1, by omega⟩]
  rw [step0, addf_at, term_apply 0 (by omega), hg ⟨0, by omega⟩]
  rw [hz]
  rfl

end Steps

/-! ## The gate -/

attribute [local irreducible] E own

section Gate
variable {x0 : IVec S16 32} (hx : Tok x0)
include hx

theorem refEnds_ap (e : Fin 16) : val_main_v7 (F := Ideal) x0 (ValueIdx.ix1 e) = BitVec.ofNat 32 (E x0 e.val) := by
  refine ends_ap hx bcast_S_S16 (val_main_v3 (F := Ideal) x0) (fun e => ?_) _ rfl _ _ e
  rw [val_main_v3_apply, word_cnt (x := x0)]
  show BitVec.ofNat 32 _ + BitVec.ofNat 32 255 = _
  rw [← BitVec.ofNat_add]

theorem refOwn_ap (p : Fin 69632) : val_main_v15 (F := Ideal) x0 (ValueIdx.ix1 p) = BitVec.ofNat 32 (own x0 p.val) :=
  own_ap hx (fun p => p) (fun i => by have := i.isLt; show i.val < _; omega) _ (val_main_v11 (F := Ideal)) (val_main_v12 (F := Ideal) x0) rfl
    (fun i e => (bcRows (n := 69632) (m := 16) bcast_S69632_S69632x1_0 bcast_S69632x1_S69632x16_0_1 (val_main_v8 (F := Ideal)) i e).trans rfl)
    (fun i e => (bcCols (n := 69632) (m := 16) bcast_S16_S1x16_1 bcast_S1x16_S69632x16_0_1 (val_main_v7 (F := Ideal) x0) i e).trans (refEnds_ap hx e)) _ _ _ p

theorem gate_ap (p : Fin 69632) (e : Fin 16) : (val_main_v16 (F := Ideal) x0 (ix2 p e) : EReal) = if own x0 p.val = e.val then 1 else 0 := by
  have h1 : val_main_call2_v2 (F := Ideal) x0 (ValueIdx.ix2 p e) = BitVec.ofNat 32 (own x0 p.val) :=
    (bcRows (n := 69632) (m := 16) bcast_S69632_S69632x1_0 bcast_S69632x1_S69632x16_0_1 (val_main_v15 (F := Ideal) x0) p e).trans (refOwn_ap hx p)
  have h2 : val_main_call2_v3 (F := Ideal) (ValueIdx.ix2 p e) = BitVec.ofNat 32 e.val := rfl
  have h3 : val_main_call2_v4 (F := Ideal) x0 (ix2 p e) = BitVec.ofBool (decide (own x0 p.val = e.val)) := by
    refine Eq.trans ?_ (WordCmp.cmpi_eq_ofNat (w := 32) (lt_of_le_of_lt (own_le x0 p.val) (by omega)) (by have := e.isLt; omega))
    rw [← h1, ← h2]
    rfl
  show (((val_main_call2_v4 (F := Ideal) x0 (ix2 p e)).toNat : ℝ) : EReal) = _
  rw [h3]
  by_cases h : own x0 p.val = e.val
  · simp [h]
  · simp [h]

/-- The reference's row `p`. -/
theorem ref_apply (x1 : FVec Ideal S559104x128 .f32) (x2 x3 : FVec Ideal S16x1024x512 .f32) (x4 : FVec Ideal S16x512x1024 .f32) (p : Fin 69632) (l : Fin 1024) :
    (val_main_v257 (F := Ideal) x0 x1 x2 x3 x4 (ix2 p l) : EReal)
      = if h : own x0 p.val < 16 then expert (fun k => x1 (ix2 ⟨8 * p.val + k.val / 128, by omega⟩ ⟨k.val % 128, by omega⟩))
          (fun k h' => x2 (ix3 ⟨_, h⟩ k h')) (fun k h' => x3 (ix3 ⟨_, h⟩ k h')) (fun h' l => x4 (ix3 ⟨_, h⟩ h' l)) l else 0 := by
  have hX : (fun k : Fin 1024 => (val_main_v1 (F := Ideal) x1 (ix2 p k) : EReal)) = fun k => x1 (ix2 ⟨8 * p.val + k.val / 128, by omega⟩ ⟨k.val % 128, by omega⟩) := by
    funext k
    rw [val_main_v1_apply, val_main_v0_apply]
    refine congrArg x1 (funext fun a => Fin.ext ?_)
    match a with
    | ⟨0, _⟩ => show (p.val * 1024 + k.val) / 128 = 8 * p.val + k.val / 128; omega
    | ⟨1, _⟩ => show (p.val * 1024 + k.val) % 128 = k.val % 128; omega
  rw [← hX]
  exact rows_of x0 x1 x2 x3 x4 (own x0 p.val) (own_le _ _) p l (gate_ap hx p)

end Gate

end Cert.Proof.Exp

end
-- ==== Proof.Exp.Blk.lean ====
/-
Where an element of a block lies in its array, for any tables.
-/
module

public import proofs.«01_k».proof.Proof.Exp.Tables
public import Idealize.ShloMosaic.Lib.Pointwise

@[expose] public section

set_option maxRecDepth 16384

noncomputable section

namespace Cert.Proof.Exp

open Idealize.ShloMosaic Idealize.ShloMosaic.TcCoe Idealize.SL.Sem
open Cert.ExpertsIdeal Cert.ExpertsIdeal.Gen Cert.ExpertsIdeal.Exp

variable {F : FTy → Type} [FloatOps F] (a : (pcfg0 (F := F)).Adm)

/-- The grid's point as a number. -/
theorem coord (t : Fin grid0.N) : (grid0.coords t 0).val = t.val := (by decide +kernel : ∀ t : Fin grid0.N, (grid0.coords t 0).val = t.val) t

/-- A tile's block of the inputs, at the rows the table names, -/
theorem x_read (t : Fin (cfg0 a).N) (X : Vec F S559104x128 .f32) (q : Nat) (hq : cc0_transform_0 k0_off1_inb numel1_S1 a.1 (grid0.coords t) 0 = q) (r : Fin 2048) (k : Fin 128) (h : 2048 * q + r.val < 559104) :
    (((cfg0 a).win 0).blk t).view.read (Elt F) X (ix2 r k) = X (ix2 ⟨2048 * q + r.val, h⟩ k) := by
  subst hq
  show X _ = X _
  refine congrArg X (funext fun b => Fin.ext ?_)
  match b with
  | ⟨0, _⟩ =>
    show cc0_transform_0 k0_off1_inb numel1_S1 a.1 (grid0.coords t) 0 * 2048 + 1 * r.val = 2048 * cc0_transform_0 k0_off1_inb numel1_S1 a.1 (grid0.coords t) 0 + r.val
    rw [Nat.one_mul, Nat.mul_comm]
  | ⟨1, _⟩ => show 0 * 128 + 1 * k.val = k.val; omega
/-- of the gate's weights, -/
theorem wg_read (t : Fin (cfg0 a).N) (X : Vec F S16x1024x512 .bf16) (e : Fin 16) (he : cc0_transform_1 k0_off1_inb numel1_S1 a.1 (grid0.coords t) 0 = e.val) (k : Fin 1024) (h : Fin 512) :
    (((cfg0 a).win 1).blk t).view.read (Elt F) X (ix3 0 k h) = X (ix3 e k h) := by
  show X _ = X _
  refine congrArg X (funext fun b => Fin.ext ?_)
  match b with
  | ⟨0, _⟩ =>
    show cc0_transform_1 k0_off1_inb numel1_S1 a.1 (grid0.coords t) 0 * 1 + 1 * 0 = e.val
    rw [he, Nat.mul_one, Nat.mul_zero, Nat.add_zero]
  | ⟨1, _⟩ => show 0 * 1024 + 1 * k.val = k.val; omega
  | ⟨2, _⟩ => show 0 * 512 + 1 * h.val = h.val; omega
/-- of the up weights, -/
theorem wu_read (t : Fin (cfg0 a).N) (X : Vec F S16x1024x512 .bf16) (e : Fin 16) (he : cc0_transform_2 k0_off1_inb numel1_S1 a.1 (grid0.coords t) 0 = e.val) (k : Fin 1024) (h : Fin 512) :
    (((cfg0 a).win 2).blk t).view.read (Elt F) X (ix3 0 k h) = X (ix3 e k h) := by
  show X _ = X _
  refine congrArg X (funext fun b => Fin.ext ?_)
  match b with
  | ⟨0, _⟩ =>
    show cc0_transform_2 k0_off1_inb numel1_S1 a.1 (grid0.coords t) 0 * 1 + 1 * 0 = e.val
    rw [he, Nat.mul_one, Nat.mul_zero, Nat.add_zero]
  | ⟨1, _⟩ => show 0 * 1024 + 1 * k.val = k.val; omega
  | ⟨2, _⟩ => show 0 * 512 + 1 * h.val = h.val; omega
/-- and of the down weights, at the expert it names. -/
theorem wd_read (t : Fin (cfg0 a).N) (X : Vec F S16x512x1024 .bf16) (e : Fin 16) (he : cc0_transform_3 k0_off1_inb numel1_S1 a.1 (grid0.coords t) 0 = e.val) (k : Fin 512) (h : Fin 1024) :
    (((cfg0 a).win 3).blk t).view.read (Elt F) X (ix3 0 k h) = X (ix3 e k h) := by
  show X _ = X _
  refine congrArg X (funext fun b => Fin.ext ?_)
  match b with
  | ⟨0, _⟩ =>
    show cc0_transform_3 k0_off1_inb numel1_S1 a.1 (grid0.coords t) 0 * 1 + 1 * 0 = e.val
    rw [he, Nat.mul_one, Nat.mul_zero, Nat.add_zero]
  | ⟨1, _⟩ => show 0 * 512 + 1 * k.val = k.val; omega
  | ⟨2, _⟩ => show 0 * 1024 + 1 * h.val = h.val; omega
/-- A block of the result. -/
theorem out_read (t : Fin (cfg0 a).N) (X : Vec F S557056x128 .f32) (y : Fin 2048) (l : Fin 128) (h : 2048 * t.val + y.val < 557056) :
    (((cfg0 a).win 4).blk t).view.read (Elt F) X (ix2 y l) = X (ix2 ⟨2048 * t.val + y.val, h⟩ l) := by
  show X _ = X _
  refine congrArg X (funext fun b => Fin.ext ?_)
  match b with
  | ⟨0, _⟩ =>
    show (BitVec.ofNat 32 (grid0.coords t 0).val).toNat * 2048 + 1 * y.val = 2048 * t.val + y.val
    rw [coord, BitVec.toNat_ofNat]; have : t.val < 272 := t.isLt; omega
  | ⟨1, _⟩ => show 0 * 128 + 1 * l.val = l.val; omega
/-- Every index lies in the block of its own tile. -/
theorem out_mem (i : S557056x128.Idx) (t : Fin (cfg0 a).N) (ht : t.val = (i 0).val / 2048) : i ∈ (((cfg0 a).win 4).blk t).view.set := by
  have h0 : (i 0 : Nat) < 557056 := (i 0).isLt
  have h1 : (i 1 : Nat) < 128 := (i 1).isLt
  have hy : (i 0 : Nat) % 2048 < 2048 := by omega
  refine Eq.subst (motive := fun j => j ∈ (((cfg0 a).win 4).blk t).view.set) ?_
    (View.emb_mem_set (((cfg0 a).win 4).blk t).view (ix2 (n0 := 2048) (n1 := 128) ⟨(i 0 : Nat) % 2048, hy⟩ ⟨(i 1 : Nat), h1⟩))
  refine funext fun b => Fin.ext ?_
  match b with
  | ⟨0, _⟩ =>
    show (BitVec.ofNat 32 (grid0.coords t 0).val).toNat * 2048 + 1 * ((i 0).val % 2048) = (i 0).val
    rw [coord, BitVec.toNat_ofNat]; omega
  | ⟨1, _⟩ => show 0 * 128 + 1 * (i 1).val = (i 1).val; omega

end Cert.Proof.Exp

end
-- ==== Proof.Exp.Value.lean ====
/-
The experts' result array: every tile of 256 rows, active or not, is what the reference has at its rows, and the tiles
make up the array.
-/
module

public import proofs.«01_k».proof.Proof.Exp.Ref
public import proofs.«01_k».proof.Proof.Exp.Blk

@[expose] public section

set_option maxRecDepth 16384

noncomputable section

namespace Cert.Proof.Exp

open Idealize.ShloMosaic Idealize.ShloMosaic.TcCoe Idealize.SL.Sem
open Idealize.ShloMosaic.Pipeline (Dat)
open Cert.ExpertsIdeal Cert.ExpertsIdeal.Gen Cert.ExpertsIdeal.Exp

attribute [local irreducible] E own

variable (m : (ℓ : Loc nD τ sig) → Buf (Elt Ideal) ℓ)

/-! ## The blocks -/

section Blocks
variable {m} (hx : Tok (counts m)) (hO : Ok m)
include hx

theorem tx_at (t : Fin grid0.N) : cc0_transform_0 k0_off1_inb numel1_S1 (tbl m) (grid0.coords t) 0 = min (256 * t.val) (E (counts m) 15 - 256) / 256 :=
  (ix_tx hx (grid0.coords t) (k0_off1_inb _)).trans (by rw [coord])
theorem te_at (t : Fin grid0.N) : cc0_transform_1 k0_off1_inb numel1_S1 (tbl m) (grid0.coords t) 0 = min (own (counts m) (256 * t.val)) 15 :=
  (ix_te hx (grid0.coords t) (k0_off1_inb _)).trans (by rw [coord])
theorem te_at' (t : Fin grid0.N) : cc0_transform_2 k0_off1_inb numel1_S1 (tbl m) (grid0.coords t) 0 = min (own (counts m) (256 * t.val)) 15 :=
  (ix_te hx (grid0.coords t) (k0_off1_inb _)).trans (by rw [coord])
theorem te_at'' (t : Fin grid0.N) : cc0_transform_3 k0_off1_inb numel1_S1 (tbl m) (grid0.coords t) 0 = min (own (counts m) (256 * t.val)) 15 :=
  (ix_te hx (grid0.coords t) (k0_off1_inb _)).trans (by rw [coord])

theorem x_apply (c : Dev nD) (t : Fin (cfgM m hO).N) (q : Nat) (hq : min (256 * t.val) (E (counts m) 15 - 256) / 256 = q) (r : Fin 2048) (k : Fin 128) (h : 2048 * q + r.val < 559104) :
    iblk m hO c 0 t (ix2 r k) = (m ((c : Thread nD τ).loc main_arg1) : S559104x128.Idx → EReal) (ix2 ⟨2048 * q + r.val, h⟩ k) :=
  (x_read (adm m hO) t (V m c main_arg1) q ((tx_at hx t).trans hq) r k h).trans (congrFun (V_arg1 m c) _)
theorem wg_apply (c : Dev nD) (t : Fin (cfgM m hO).N) (e : Fin 16) (he : min (own (counts m) (256 * t.val)) 15 = e.val) (k : Fin 1024) (h : Fin 512) :
    iblk m hO c 1 t (ix3 0 k h) = (m ((c : Thread nD τ).loc main_arg2) : S16x1024x512.Idx → EReal) (ix3 e k h) :=
  (wg_read (adm m hO) t (V m c main_v31) e ((te_at hx t).trans he) k h).trans (congrFun (V_wg m c) _)
theorem wu_apply (c : Dev nD) (t : Fin (cfgM m hO).N) (e : Fin 16) (he : min (own (counts m) (256 * t.val)) 15 = e.val) (k : Fin 1024) (h : Fin 512) :
    iblk m hO c 2 t (ix3 0 k h) = (m ((c : Thread nD τ).loc main_arg3) : S16x1024x512.Idx → EReal) (ix3 e k h) :=
  (wu_read (adm m hO) t (V m c main_v32) e ((te_at' hx t).trans he) k h).trans (congrFun (V_wu m c) _)
theorem wd_apply (c : Dev nD) (t : Fin (cfgM m hO).N) (e : Fin 16) (he : min (own (counts m) (256 * t.val)) 15 = e.val) (h : Fin 512) (l : Fin 1024) :
    iblk m hO c 3 t (ix3 0 h l) = (m ((c : Thread nD τ).loc main_arg4) : S16x512x1024.Idx → EReal) (ix3 e h l) :=
  (wd_read (adm m hO) t (V m c main_v33) e ((te_at'' hx t).trans he) h l).trans (congrFun (V_wd m c) _)

end Blocks

/-! ## A tile -/

/-- The reference's result of the launch contents of the arguments. -/
abbrev G (c : Dev nD) : FVec Ideal S557056x128 .f32 :=
  Cert.ExpertsRefIdeal.Read.val_main_v258 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's result in terms of its rows. -/
theorem G_apply (hx : Tok (counts m)) (j : Fin 272) (y : Fin 2048) (l : Fin 128) (h : 2048 * j.val + y.val < 557056) :
    (G m 0 (ix2 (n0 := 557056) (n1 := 128) ⟨2048 * j.val + y.val, h⟩ l) : EReal)
      = Cert.ExpertsRefIdeal.Read.val_main_v257 (F := Ideal) (m (((0 : Dev nD) : Thread nD τ).loc main_arg0)) (m (((0 : Dev nD) : Thread nD τ).loc main_arg1))
          (m (((0 : Dev nD) : Thread nD τ).loc main_arg2)) (m (((0 : Dev nD) : Thread nD τ).loc main_arg3)) (m (((0 : Dev nD) : Thread nD τ).loc main_arg4))
          (ix2 (n0 := 69632) (n1 := 1024) ⟨256 * j.val + y.val / 8, by omega⟩ ⟨128 * (y.val % 8) + l.val, by omega⟩) := by
  refine (Cert.ExpertsRefIdeal.Read.val_main_v258_apply _ _ _ _ _ _).trans ?_
  refine congrArg _ (funext fun a => Fin.ext ?_)
  match a with
  | ⟨0, _⟩ => show ((2048 * j.val + y.val) * 128 + l.val) / 1024 = 256 * j.val + y.val / 8; omega
  | ⟨1, _⟩ => show ((2048 * j.val + y.val) * 128 + l.val) % 1024 = 128 * (y.val % 8) + l.val; omega

theorem spread_apply (T : FVec Ideal S256x1024 .f32) (y : Fin 2048) (l : Fin 128) :
    spread (F := Ideal) T (ix2 y l) = T (ix2 ⟨y.val / 8, by omega⟩ ⟨128 * (y.val % 8) + l.val, by omega⟩) := by
  unfold spread
  refine congrArg T (funext fun a => Fin.ext ?_)
  match a with
  | ⟨0, _⟩ => rfl
  | ⟨1, _⟩ => rfl

/-- A block of an active tile at an index, -/
theorem active_apply (x0 : FVec Ideal S2048x128 .f32) (x1 x2 : FVec Ideal S1x1024x512 .bf16) (x3 : FVec Ideal S1x512x1024 .bf16) (w : BitVec 32) (hw : w = 1#32) (y : Fin 2048) (l : Fin 128) :
    (blkOut (F := Ideal) w x0 x1 x2 x3 (ix2 y l) : EReal)
      = expert (fun k => x0 (ix2 ⟨8 * (y.val / 8) + k.val / 128, by omega⟩ ⟨k.val % 128, by omega⟩))
        (fun k h => x1 (ix3 0 k h)) (fun k h => x2 (ix3 0 k h)) (fun h l => x3 (ix3 0 h l)) ⟨128 * (y.val % 8) + l.val, by omega⟩ := by
  unfold blkOut
  rw [if_pos hw]
  refine (spread_apply _ y l).trans ?_
  exact tile_apply x0 x1 x2 x3 ⟨y.val / 8, by omega⟩ ⟨128 * (y.val % 8) + l.val, by omega⟩
/-- and of an idle one. -/
theorem idle_apply (x0 : FVec Ideal S2048x128 .f32) (x1 x2 : FVec Ideal S1x1024x512 .bf16) (x3 : FVec Ideal S1x512x1024 .bf16) (w : BitVec 32) (hw : w = 0#32) (y : Fin 2048) (l : Fin 128) :
    (blkOut (F := Ideal) w x0 x1 x2 x3 (ix2 y l) : EReal) = 0 := by
  unfold blkOut
  rw [if_neg (by rw [hw]; decide)]
  unfold k0_pay7
  exact Ideal.ofBits_zero_f32

/-- The flag of a tile. -/
theorem flag_eq (hx : Tok (counts m)) (t : Fin grid0.N) : word (0 : Dev nD) (tbl m 1) (grid0.coords t) = BitVec.ofNat 32 (if 256 * t.val < E (counts m) 15 then 1 else 0) := by
  refine (word_eq m (grid0.coords t)).trans ((hTa_ap hx (tileOf (grid0.coords t))).trans ?_)
  rw [show (tileOf (grid0.coords t)).val = t.val from coord t]

/-- What a point leaves is its rows of the reference. -/
theorem out_eq (hx : Tok (counts m)) (hO : Ok m) (t : Fin (cfgM m hO).N) (y : Fin 2048) (l : Fin 128) (h : 2048 * t.val + y.val < 557056) :
    (outAt m hO 0 t (ix2 y l) : EReal) = G m 0 (ix2 (n0 := 557056) (n1 := 128) ⟨2048 * t.val + y.val, h⟩ l) := by
  have ht : t.val < 272 := t.isLt
  refine Eq.trans ?_ (G_apply m hx ⟨t.val, ht⟩ y l h).symm
  refine Eq.trans ?_ (ref_apply (x0 := counts m) hx _ _ _ _ _ _).symm
  have hown : own (counts m) (256 * t.val + y.val / 8) = own (counts m) (256 * t.val) := own_tile t.val (y.val / 8) (by omega)
  have hf := flag_eq m hx t
  unfold outAt
  by_cases hlt : 256 * t.val < E (counts m) 15
  · have hroom := room hlt
    have hact := own_active (x := counts m) hlt
    rw [if_pos hlt] at hf
    refine Eq.trans ?_ (dif_pos (by show own (counts m) (256 * t.val + y.val / 8) < 16; omega)).symm
    refine (active_apply _ _ _ _ _ hf y l).trans ?_
    have hq : min (256 * t.val) (E (counts m) 15 - 256) / 256 = t.val := by omega
    have he : min (own (counts m) (256 * t.val)) 15 = own (counts m) (256 * t.val + y.val / 8) := by omega
    congr 1
    · funext k
      refine (x_apply hx hO 0 t t.val hq _ _ (by show 2048 * t.val + (8 * (y.val / 8) + k.val / 128) < 559104; omega)).trans ?_
      refine congrArg _ (funext fun a => Fin.ext ?_)
      match a with
      | ⟨0, _⟩ => show 2048 * t.val + (8 * (y.val / 8) + k.val / 128) = 8 * (256 * t.val + y.val / 8) + k.val / 128; omega
      | ⟨1, _⟩ => rfl
    · funext k h; exact wg_apply hx hO 0 t ⟨_, _⟩ he k h
    · funext k h; exact wu_apply hx hO 0 t ⟨_, _⟩ he k h
    · funext h l; exact wd_apply hx hO 0 t ⟨_, _⟩ he h l
  · have hid := own_idle (x := counts m) (not_lt.1 hlt)
    rw [if_neg hlt] at hf
    refine (idle_apply _ _ _ _ _ hf y l).trans ?_
    rw [dif_neg (by show ¬ own (counts m) (256 * t.val + y.val / 8) < 16; omega)]

/-! ## The array -/

theorem flushed_eq (hx : Tok (counts m)) (hO : Ok m) (t : Fin (cfgM m hO).N) :
    (dats m hO 0 0).flushed 4 t = (((cfgM m hO).win 4).blk t).view.read (Elt Ideal) (G m 0) := by
  refine (after4 m hO 0 t).trans ?_
  have ht : t.val < 272 := t.isLt
  refine funext fun (z : S2048x128.Idx) => ?_
  obtain ⟨y, l, rfl⟩ : ∃ (y : Fin 2048) (l : Fin 128), z = ix2 y l := ⟨z 0, z 1, eq_ix2 (n0 := 2048) (n1 := 128) z⟩
  exact (out_eq m hx hO t y l (by omega)).trans (out_read (adm m hO) t (G m 0) y l (by omega)).symm

theorem cover (hO : Ok m) (i : S557056x128.Idx) :
    ∃ t : Fin (cfgM m hO).N, ((cfgM m hO).win 4).flush t = true ∧ i ∈ (((cfgM m hO).win 4).blk t).view.set := by
  have h0 : (i 0 : Nat) < 557056 := (i 0).isLt
  have ht : (i 0 : Nat) / 2048 < 272 := by omega
  exact ⟨⟨_, ht⟩, flush4 (adm m hO) _, out_mem (adm m hO) i ⟨_, ht⟩ rfl⟩

theorem final (hx : Tok (counts m)) (hO : Ok m) : (dats m hO 0 0).arrAt 4 (cfgM m hO).N = G m 0 :=
  (dats m hO 0 0).arrAt_eq_of_cover 4 (G m 0) (fun t _ => flushed_eq m hx hO t) (cover m hO)

end Cert.Proof.Exp

end
-- ==== Proof.Exp.Claims.lean ====
/-
The experts' claims. What the precondition says of the counts in words is what the tables need of them as numbers.
-/
module

public import proofs.«01_k».proof.Proof.Exp.Value
public import proofs.«01_k».proof.Defs
public import proofs.«01_k».proof.Proof.ExpBits.Tables
public import proofs.«01_k».proof.Proof.Gen.Pre_tokens
public import Idealize.ShloMosaic.Lib.ReduceAll
public import Idealize.ShloMosaic.Lib.Quiescent

@[expose] public section

set_option maxRecDepth 16384

noncomputable section

namespace Cert.Proof.Exp

open Idealize.ShloMosaic Idealize.ShloMosaic.TcCoe Idealize.ShloMosaic.Routing Idealize.SL.Sem
open Cert.ExpertsIdeal.Exp (counts good run_quiescent)

/-- A word between two numbers, signed, is a number at most the second. -/
theorem le_of_words (w : BitVec 32) (h0 : IntOp.cmpi .sge w 0#32 = 1#1) (h1 : IntOp.cmpi .sle w 65536#32 = 1#1) : w.toNat ≤ 65536 := by
  have e0 : BitVec.sle 0#32 w = true := by
    cases h : BitVec.sle 0#32 w
    · exact absurd h0 (by show ¬ BitVec.ofBool (BitVec.sle 0#32 w) = 1#1; rw [h]; decide)
    · rfl
  have e1 : BitVec.sle w 65536#32 = true := by
    cases h : BitVec.sle w 65536#32
    · exact absurd h1 (by show ¬ BitVec.ofBool (BitVec.sle w 65536#32) = 1#1; rw [h]; decide)
    · rfl
  rw [BitVec.sle_eq_decide, decide_eq_true_eq] at e0 e1
  have hw := w.isLt
  have z0 : (0#32 : BitVec 32).toInt = 0 := by decide
  have z1 : (65536#32 : BitVec 32).toInt = 65536 := by decide
  rw [z0] at e0
  rw [z1] at e1
  rw [BitVec.toInt_eq_toNat_cond] at e0 e1
  split at e0 <;> omega

/-- The precondition is `Tok`. -/
theorem tok_of {F : FTy → Type} [FloatOps F] (x0 : IVec (shape1 16) 32) (x1 : FVec F Cert.Pre_tokens.S559104x128 .f32)
    (x2 x3 : FVec F Cert.Pre_tokens.S16x1024x512 .f32) (x4 : FVec F Cert.Pre_tokens.S16x512x1024 .f32)
    (h : Cert.Pre_tokens.fn (F := F) x0 x1 x2 x3 x4 = fun _ => 1#1) : Tok x0 := by
  have h' := congrFun h ValueIdx.ix0
  unfold Cert.Pre_tokens.fn at h'
  obtain ⟨h12, h3⟩ := IntOp.andi_eq_one.1 h'
  obtain ⟨h1, h2⟩ := IntOp.andi_eq_one.1 h12
  have hle : ∀ e, cnt x0 e ≤ 65536 := fun e => by
    unfold cnt
    split
    · haveI : Subsingleton Cert.Pre_tokens.S_.Idx := ⟨fun a b => funext fun i => i.elim0⟩
      exact le_of_words _ (Host.reduce_andi_all _ _ _ _ _ h1 _) (Host.reduce_andi_all _ _ _ _ _ h2 _)
    · omega
  refine ⟨hle, ?_⟩
  have hs := reduce_sum x0 (cnt x0) (fun i => word_cnt i) Cert.Pre_tokens.Facts.reducesTo_S16_S_d0 Cert.Pre_tokens.Facts.h_S_
  have h3' : IntOp.cmpi .eq (BitVec.ofNat 32 ((List.range 16).map (cnt x0)).sum) (BitVec.ofNat 32 65536) = 1#1 := by
    rw [← hs]; exact h3
  refine (WordCmp.cmpi_eq_ofNat_eq_one_iff ?_ (by omega)).1 h3'
  have hl := hle
  simp only [List.range_succ, List.range_zero, List.nil_append, List.map_append, List.sum_append, List.map_cons, List.map_nil, List.sum_cons, List.sum_nil]
  have := hl 0; have := hl 1; have := hl 2; have := hl 3; have := hl 4; have := hl 5; have := hl 6; have := hl 7
  have := hl 8; have := hl 9; have := hl 10; have := hl 11; have := hl 12; have := hl 13; have := hl 14; have := hl 15
  omega

theorem frame : Cert.quiescent_Experts := fun m ρ hp =>
  Cert.Experts.Exp.frame (F := Bits) m ρ (Cert.Experts.Exp.good (tok_of _ _ _ _ _ (hp 0)))

theorem frame_ideal : Cert.quiescent_ExpertsIdeal := fun m ρ hp =>
  Cert.ExpertsIdeal.Exp.frame (F := Ideal) m ρ (good (tok_of _ _ _ _ _ (hp 0)))

theorem frame_ref : Cert.quiescent_ExpertsRefIdeal := fun m ρ _ =>
  (θ_run Cert.ExpertsRefIdeal.defs _ _).mono (fun r h => ⟨fun c => (h c).2,
      Idealize.ShloMosaic.sem_eq_zero_of_no_sems (by decide) r.2⟩)
    (Cert.ExpertsRefIdeal.Value.run (F := Ideal) m ρ)

/-- Both programs end with the reference's function of the arguments. -/
theorem algebraic : Cert.algebraic_ExpertsIdeal_ExpertsRefIdeal := by
  intro m ρ m' ρ' hp hagree
  have hx : Tok (counts m) := tok_of _ _ _ _ _ (hp 0)
  refine ⟨fun c => G m c, ?_, ?_⟩
  · refine (θ_run Cert.ExpertsIdeal.defs _ _).mono (fun r h c => ⟨?_, Cert.ExpertsIdeal.Exp.args_of m (good hx) h.1 c⟩) (run_quiescent (F := Ideal) m ρ (good hx))
    obtain rfl : c = 0 := Subsingleton.elim _ _
    exact ((h.1 0).1 4).trans (final m hx (good hx).ok)
  refine (θ_run Cert.ExpertsRefIdeal.defs _ _).mono (fun _ h c => ⟨(h c).1.trans ?_, (h c).2⟩)
    (Cert.ExpertsRefIdeal.Value.run (F := Ideal) m' ρ')
  refine (Cert.ExpertsRefIdeal.Read.val_main_v258_eq _).trans ?_
  show Cert.ExpertsRefIdeal.Read.val_main_v258 (m' (c.tc.loc Cert.ExpertsRefIdeal.main_arg0)) (m' (c.tc.loc Cert.ExpertsRefIdeal.main_arg1))
    (m' (c.tc.loc Cert.ExpertsRefIdeal.main_arg2)) (m' (c.tc.loc Cert.ExpertsRefIdeal.main_arg3)) (m' (c.tc.loc Cert.ExpertsRefIdeal.main_arg4)) = G m c
  rw [(hagree c).1, (hagree c).2.1, (hagree c).2.2.1, (hagree c).2.2.2.1, (hagree c).2.2.2.2]

end Cert.Proof.Exp

end
-- ==== Proof.Cmb.Runs.lean ====
/-
The combine's call, up to its region: what the host's lines leave in every buffer (`V`), the prefetched table of places
(`tbl`), and the blocks the pipeline stages.
-/
module

public import proofs.«01_k».proof.Proof.Gen.CombineIdeal.Launch
public import proofs.«01_k».proof.Proof.Gen.CombineIdeal.Skeleton
public import Idealize.ShloMosaic.Lib.Pipeline.Kit
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp

@[expose] public section

set_option maxRecDepth 16384

noncomputable section

namespace Cert.CombineIdeal.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.CombineIdeal.Gen

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The host's lines -/

/-- What core `c`'s buffers hold once the host's lines have run. -/
abbrev V (c : Dev nD) (b : Ref sig .tc) : Buf (Elt F) ((c : Thread nD τ).loc b) :=
  StableHlo.after (List.flatten [hostOps0, hostOps0_1, hostOps0_2]) (fun b => m (c, b)) b

theorem hostOps0_pure : (hostOps0 : List (HloOp τ sig (Elt F))).Forall fun op => op.fresh = ∅ := by
  simp only [List.Forall]; repeat' constructor
theorem hostOps0_1_pure : (hostOps0_1 : List (HloOp τ sig (Elt F))).Forall fun op => op.fresh = ∅ := by
  simp only [List.Forall]; repeat' constructor
theorem hostOps0_2_pure : (hostOps0_2 : List (HloOp τ sig (Elt F))).Forall fun op => op.fresh = ∅ := by
  simp only [List.Forall]; repeat' constructor

set_option maxHeartbeats 800000 in
/-- The program runs its host lines, then the region. -/
theorem hmain (𝒱₀ : Variants) : Pipeline.HMainP (Ix := Unit) (Name := ℕ) (U := UD sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_pure, hostOps0_1_pure, hostOps0_2_pure⟩) main_chain

/-- No host line writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- No host line writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- No host line writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- No host line writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
/-- No host line writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## The table -/

/-- The table of places as the region finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No block depends on it. -/
theorem ok : ok0 (F := F) (tbl m) := by
  trivial
abbrev adm : (pcfg0 (F := F)).Adm := ⟨tbl m, ok m⟩
abbrev cfgM : Pipeline.Cfg sig Λ₀ := cfg0 (adm m)

abbrev tb : Memref sig .tc .smem S65536 .i32 := Memref.whole main_arg0
abbrev htb : tb.IsWhole := Memref.isWhole_whole _
/-- The experts' rows, which the body reads by its own transfers, -/
abbrev ysM : Memref sig .tc .hbm S557056x128 .f32 := Memref.whole main_arg3
abbrev hysM : ysM.IsWhole := Memref.isWhole_whole _
/-- and the two buffers it gathers them into. -/
abbrev sc0 : Memref sig .tc .vmem S8192x128 .f32 := Memref.whole cc0_scratch0
abbrev hsc0 : sc0.IsWhole := Memref.isWhole_whole _
abbrev sc1 : Memref sig .tc .vmem S8192x128 .f32 := Memref.whole cc0_scratch1
abbrev hsc1 : sc1.IsWhole := Memref.isWhole_whole _

/-- A memref's buffer on core `c`. -/
abbrev MBuf (c : Dev nD) {sp : Space} {S : Shape} {e : EltTy} (M : Memref sig .tc sp S e) : Type := Buf (Elt F) (M.view.loc (c : Thread nD τ))
/-- The table held for reading. -/
abbrev tbPt (c : Dev nD) (f : MBuf (F := F) c tb) : sProp 𝕄 := tb.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The blocks -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Window 0's staging buffer holds its block at every point. -/
theorem before0_of {c : Dev nD} (dat : Dat τ (Elt F) Unit ℕ (UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's staging buffer holds its block at every point. -/
theorem before1_of {c : Dev nD} (dat : Dat τ (Elt F) Unit ℕ (UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's staging buffer holds its block at every point. -/
theorem before2_of {c : Dev nD} (dat : Dat τ (Elt F) Unit ℕ (UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The staging buffers -/

abbrev ms0 (t : Fin (cfgM m).N) : Memref sig .tc .vmem S1024x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1024x128 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1024x1024 .f32 := spec0_3.stage ((cfgM m).slots t 3)
abbrev hs3 (t : Fin (cfgM m).N) : (ms3 m t).IsWhole := hstage0_3 (((cfgM m).slots t 3).cast nbuf0_3)

/-- The body at point `t`, as the pipeline calls it. -/
abbrev bodyAt (a : (pcfg0 (F := F)).Adm) (t : Fin (cfg0 a).N) : Prog (TpuEff nD τ sig (Elt F) Λ₀ .tc) PUnit :=
  cc0_combine (grid0.coords t) tb htb (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) ysM hysM (spec0_3.stage ((cfg0 a).slots t 3)) (hstage0_3 (((cfg0 a).slots t 3).cast nbuf0_3)) sc0 hsc0 sc1 hsc1 cc0_scratch2

end Cert.CombineIdeal.Cmb

end
-- ==== Proof.Cmb.Loop.lean ====
/-
The gathering loop of the combine's body. 2 · 1024 transfers are issued on one semaphore: transfer 2 k brings the eight
rows of 128 that the table's even entry for token k names into block k of the first buffer, transfer 2 k + 1 those of
its odd entry into block k of the second. Here the deliveries are stated (a block at what the table names, and the
read token lent), one trip is run, and what all trips hand over is put together again.
-/
module

public import proofs.«01_k».proof.Proof.Cmb.Runs

@[expose] public section

set_option maxRecDepth 16384

noncomputable section

namespace Cert.CombineIdeal.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.CombineIdeal.Gen

variable {F : FTy → Type} [FloatOps F]

local notation "𝕄" => MT nD τ sig Unit (Elt F) ℕ (UD sig nD τ) ℕ

/-- The loop's trips. -/
abbrev T : ℕ := k0_t1_loop.trips
theorem T_eq : T = 1024 := by decide +kernel

theorem off2_eq : ∀ k : Fin k0_t1_loop.trips, k0_off2 k 0 = 8 * k.val := by decide +kernel
theorem off5_eq : ∀ k : Fin k0_t1_loop.trips, k0_off5 k 0 = 8 * k.val := by decide +kernel
theorem off2_one (k : Fin k0_t1_loop.trips) : k0_off2 k 1 = 0 := rfl
theorem off5_one (k : Fin k0_t1_loop.trips) : k0_off5 k 1 = 0 := rfl

/-! ## The table's words -/

/-- The even entry for token `k`, -/
def word0 (c : Dev nD) (xt : MBuf (F := F) c tb) (i : grid0.Coords) (k : Fin k0_t1_loop.trips) : BitVec 32 :=
  let x : S65536.Idx := fun a => ⟨k0_off1 i k a, lt_of_lt_of_le (Nat.lt_of_lt_of_le (Nat.lt_succ_self _) (Nat.add_le_add_left (show 1 ≤ S1.size a from by fin_cases a; decide) _)) (k0_off1_inb i k a)⟩
  xt x
/-- and the odd one. -/
def word1 (c : Dev nD) (xt : MBuf (F := F) c tb) (i : grid0.Coords) (k : Fin k0_t1_loop.trips) : BitVec 32 :=
  let x : S65536.Idx := fun a => ⟨k0_off4 i k a, lt_of_lt_of_le (Nat.lt_of_lt_of_le (Nat.lt_succ_self _) (Nat.add_le_add_left (show 1 ≤ S1.size a from by fin_cases a; decide) _)) (k0_off4_inb i k a)⟩
  xt x

/-! ## Blocks and windows -/

/-- Block `k` of the first buffer, -/
def blk0 (k : Fin k0_t1_loop.trips) : Memref sig .tc .vmem S8x128 .f32 :=
  sc0.slice (Rect.unit (s := S8192x128) (k0_off2 k) S8x128.size (k0_off2_inb k)) (fun _ => rfl)
/-- of the second, -/
def blk1 (k : Fin k0_t1_loop.trips) : Memref sig .tc .vmem S8x128 .f32 :=
  sc1.slice (Rect.unit (s := S8192x128) (k0_off5 k) S8x128.size (k0_off5_inb k)) (fun _ => rfl)
/-- and the rows an even entry names, -/
def win0 (v : BitVec 32) (h : k0_chk1 v) : Memref sig .tc .hbm S8x128 .f32 :=
  ysM.slice (Rect.unit (s := S557056x128) (k0_off3 v) S8x128.size (k0_off3_inb v h)) (fun _ => rfl)
/-- an odd one. -/
def win1 (v : BitVec 32) (h : k0_chk2 v) : Memref sig .tc .hbm S8x128 .f32 :=
  ysM.slice (Rect.unit (s := S557056x128) (k0_off6 v) S8x128.size (k0_off6_inb v h)) (fun _ => rfl)

/-- A block's elements. -/
def bset (k : Fin k0_t1_loop.trips) : Finset S8192x128.Idx := (Rect.unit (s := S8192x128) (k0_off2 k) S8x128.size (k0_off2_inb k)).set

theorem off_eq (k : Fin k0_t1_loop.trips) : k0_off5 k = k0_off2 k := funext fun a => match a with
  | ⟨0, _⟩ => (off5_eq k).trans (off2_eq k).symm
  | ⟨1, _⟩ => rfl

theorem blk0_set (k : Fin k0_t1_loop.trips) : (blk0 k).view.set = bset k := by unfold blk0 bset; exact View.set_slice_whole _ _
theorem blk1_set (k : Fin k0_t1_loop.trips) : (blk1 k).view.set = bset k := by
  unfold blk1 bset
  refine (View.set_slice_whole _ _).trans ?_
  simp only [off_eq]

theorem mem_bset (k : Fin k0_t1_loop.trips) (y : S8192x128.Idx) : y ∈ bset k ↔ (y 0).val / 8 = k.val := by
  unfold bset
  rw [Rect.mem_set_unit]
  have h0 : (y 0).val < 8192 := (y 0).isLt
  have h1 : (y 1).val < 128 := (y 1).isLt
  have e := off2_eq k
  constructor
  · intro H; have a0 : k0_off2 k 0 ≤ (y 0).val ∧ (y 0).val < k0_off2 k 0 + 8 := H 0; omega
  · intro H a; fin_cases a
    · show k0_off2 k 0 ≤ (y 0).val ∧ (y 0).val < k0_off2 k 0 + 8; omega
    · show k0_off2 k 1 ≤ (y 1).val ∧ (y 1).val < k0_off2 k 1 + 128; rw [off2_one]; omega
theorem bset_disjoint : ∀ b b' : Fin k0_t1_loop.trips, b ≠ b' → Disjoint (bset b) (bset b') := fun b b' hne => by
  rw [Finset.disjoint_left]; intro y hy hy'; rw [mem_bset] at hy hy'; exact hne (Fin.ext (by omega))
/-- The block an element is in. -/
def blkOf (y : S8192x128.Idx) : Fin k0_t1_loop.trips := ⟨(y 0).val / 8, by
  have h0 : (y 0).val < 8192 := (y 0).isLt
  have e : k0_t1_loop.trips = 1024 := T_eq
  omega⟩
theorem bset_cover : Finset.univ.biUnion bset = Finset.univ := by
  ext y; simp only [Finset.mem_biUnion, Finset.mem_univ, true_and, iff_true]; exact ⟨blkOf y, (mem_bset _ _).mpr rfl⟩

/-- What the first buffer holds once gathered: row `8 k + j` is row `j` of what entry `k` names; -/
def gath0 (w : Fin k0_t1_loop.trips → BitVec 32) (Y : Vec F S557056x128 .f32) : Vec F S8192x128 .f32 := fun y =>
  Y (fun a => match a with
    | ⟨0, _⟩ => ⟨(k0_off3 (w (blkOf y)) 0 + (y 0).val % 8) % 557056, Nat.mod_lt _ (by decide)⟩
    | ⟨1, _⟩ => ⟨(y 1).val, (y 1).isLt⟩)
/-- and the second. -/
def gath1 (w : Fin k0_t1_loop.trips → BitVec 32) (Y : Vec F S557056x128 .f32) : Vec F S8192x128 .f32 := fun y =>
  Y (fun a => match a with
    | ⟨0, _⟩ => ⟨(k0_off6 (w (blkOf y)) 0 + (y 0).val % 8) % 557056, Nat.mod_lt _ (by decide)⟩
    | ⟨1, _⟩ => ⟨(y 1).val, (y 1).isLt⟩)

/-- What a transfer into block `k` leaves there is the gathered contents. -/
theorem landed0 (c : Dev nD) (w : Fin k0_t1_loop.trips → BitVec 32) (k : Fin k0_t1_loop.trips) (h : k0_chk1 (w k)) (f : MBuf (F := F) c (blk0 k)) (Y : MBuf (F := F) c ysM)
    (y : S8192x128.Idx) (hy : y ∈ (blk0 k).view.set) :
    (blk0 k).view.write (Elt F) f (ReadAs.same.apply ((win0 (w k) h).view.read (Elt F) Y)) Finset.univ y = gath0 w Y y := by
  have hk : blkOf y = k := Fin.ext ((mem_bset k y).mp (blk0_set k ▸ hy))
  obtain ⟨x, -, rfl⟩ := Finset.mem_map.mp hy
  refine (View.write_emb_of_mem (v := (blk0 k).view) (Val := Elt F) _ _ (Finset.mem_univ _)).trans ?_
  show Y _ = Y _
  refine congrArg Y (funext fun a => Fin.ext ?_)
  have hx : (x 0).val < 8 := (x 0).isLt
  have hb : k0_off3 (w k) 0 + 8 ≤ 557056 := k0_off3_inb (w k) h 0
  have e := off2_eq k
  match a with
  | ⟨0, _⟩ =>
    show k0_off3 (w k) 0 + 1 * (x 0).val = (k0_off3 (w (blkOf ((blk0 k).view.emb x))) 0 + (k0_off2 k 0 + 1 * (x 0).val) % 8) % 557056
    have hw : k0_off3 (w (blkOf ((blk0 k).view.emb x))) 0 = k0_off3 (w k) 0 := congrArg (fun b => k0_off3 (w b) 0) hk
    omega
  | ⟨1, _⟩ =>
    show 0 + 1 * (x 1).val = 0 + 1 * (x 1).val
    rfl
theorem landed1 (c : Dev nD) (w : Fin k0_t1_loop.trips → BitVec 32) (k : Fin k0_t1_loop.trips) (h : k0_chk2 (w k)) (f : MBuf (F := F) c (blk1 k)) (Y : MBuf (F := F) c ysM)
    (y : S8192x128.Idx) (hy : y ∈ (blk1 k).view.set) :
    (blk1 k).view.write (Elt F) f (ReadAs.same.apply ((win1 (w k) h).view.read (Elt F) Y)) Finset.univ y = gath1 w Y y := by
  have hk : blkOf y = k := Fin.ext ((mem_bset k y).mp (blk1_set k ▸ hy))
  obtain ⟨x, -, rfl⟩ := Finset.mem_map.mp hy
  refine (View.write_emb_of_mem (v := (blk1 k).view) (Val := Elt F) _ _ (Finset.mem_univ _)).trans ?_
  show Y _ = Y _
  refine congrArg Y (funext fun a => Fin.ext ?_)
  have hx : (x 0).val < 8 := (x 0).isLt
  have hb : k0_off6 (w k) 0 + 8 ≤ 557056 := k0_off6_inb (w k) h 0
  have e := off5_eq k
  match a with
  | ⟨0, _⟩ =>
    show k0_off6 (w k) 0 + 1 * (x 0).val = (k0_off6 (w (blkOf ((blk1 k).view.emb x))) 0 + (k0_off5 k 0 + 1 * (x 0).val) % 8) % 557056
    have hw : k0_off6 (w (blkOf ((blk1 k).view.emb x))) 0 = k0_off6 (w k) 0 := congrArg (fun b => k0_off6 (w b) 0) hk
    omega
  | ⟨1, _⟩ =>
    show 0 + 1 * (x 1).val = 0 + 1 * (x 1).val
    rfl

/-- The elements an even entry's rows are, -/
def wset0 (v : BitVec 32) (h : k0_chk1 v) : Finset S557056x128.Idx := (Rect.unit (s := S557056x128) (k0_off3 v) S8x128.size (k0_off3_inb v h)).set
/-- an odd entry's. -/
def wset1 (v : BitVec 32) (h : k0_chk2 v) : Finset S557056x128.Idx := (Rect.unit (s := S557056x128) (k0_off6 v) S8x128.size (k0_off6_inb v h)).set
theorem win0_set (v : BitVec 32) (h : k0_chk1 v) : (win0 v h).view.set = wset0 v h := by unfold win0 wset0; exact View.set_slice_whole _ _
theorem win1_set (v : BitVec 32) (h : k0_chk2 v) : (win1 v h).view.set = wset1 v h := by unfold win1 wset1; exact View.set_slice_whole _ _

/-! ## The deliveries -/

section Issue

variable (c : Dev nD) (i : grid0.Coords) (xt : MBuf (F := F) c tb) (Y : MBuf (F := F) c ysM)
  (h0 : ∀ k, k0_chk1 (word0 c xt i k)) (h1 : ∀ k, k0_chk2 (word1 c xt i k))

/-- The experts' rows under read token `t`, over the elements `S`. -/
def ysTok (S : Finset S557056x128.Idx) (t : ℕ) : sProp 𝕄 := ysM.view.loc (c : Thread nD τ) ↦[S]{Transfers.shareTokN fullShare t} Y
/-- Block `k` of the first buffer, -/
def b0 (k : Fin k0_t1_loop.trips) (f : MBuf (F := F) c sc0) : sProp 𝕄 := sc0.view.loc (c : Thread nD τ) ↦[bset k]{fullShare} f
/-- of the second. -/
def b1 (k : Fin k0_t1_loop.trips) (f : MBuf (F := F) c sc1) : sProp 𝕄 := sc1.view.loc (c : Thread nD τ) ↦[bset k]{fullShare} f

instance ysTok_storable (S : Finset S557056x128.Idx) (t : ℕ) : BI.Storable (upEmb : UEmb _ 𝕄) (ysTok c Y S t) := by unfold ysTok; infer_instance
instance b0_storable (k : Fin k0_t1_loop.trips) (f : MBuf (F := F) c sc0) : BI.Storable (upEmb : UEmb _ 𝕄) (b0 c k f) := by unfold b0; infer_instance
instance b1_storable (k : Fin k0_t1_loop.trips) (f : MBuf (F := F) c sc1) : BI.Storable (upEmb : UEmb _ 𝕄) (b1 c k f) := by unfold b1; infer_instance

/-- What transfer `2 k` delivers, -/
abbrev dA (k : Fin k0_t1_loop.trips) : sProp 𝕄 :=
  iprop(b0 c k (gath0 (word0 c xt i) Y) ∗ ysTok c Y (wset0 (word0 c xt i k) (h0 k)) (2 * k.val))
/-- and transfer `2 k + 1`. -/
abbrev dB (k : Fin k0_t1_loop.trips) : sProp 𝕄 :=
  iprop(b1 c k (gath1 (word1 c xt i) Y) ∗ ysTok c Y (wset1 (word1 c xt i k) (h1 k)) (2 * k.val + 1))
/-- By number. -/
def dAn (n : ℕ) : sProp 𝕄 := if h : n < k0_t1_loop.trips then dA c i xt Y h0 ⟨n, h⟩ else iprop(emp)
def dBn (n : ℕ) : sProp 𝕄 := if h : n < k0_t1_loop.trips then dB c i xt Y h1 ⟨n, h⟩ else iprop(emp)
instance dAn_storable (n : ℕ) : BI.Storable (upEmb : UEmb _ 𝕄) (dAn c i xt Y h0 n) := by unfold dAn; split <;> infer_instance
instance dBn_storable (n : ℕ) : BI.Storable (upEmb : UEmb _ 𝕄) (dBn c i xt Y h1 n) := by unfold dBn; split <;> infer_instance
abbrev del : Fin (2 * k0_t1_loop.trips) → sProp 𝕄 := Ring.interleaved k0_t1_loop.trips (dAn c i xt Y h0) (dBn c i xt Y h1)

/-- One transfer's credit. -/
abbrev NN : ℕ := 128

/-- The batch: `j` transfers issued, `u` units consumed. -/
abbrev batch (j u : ℕ) : sProp 𝕄 :=
  Transfers.Batch (countersEmb (U := UD sig nD τ)) (c : Thread nD τ) (.dma cc0_scratch2.sem) () NN (del c i xt Y h0 h1) j u

/-- What a trip takes, -/
abbrev startAt (f0 : MBuf (F := F) c sc0) (f1 : MBuf (F := F) c sc1) (k : Fin k0_t1_loop.trips) : sProp 𝕄 :=
  iprop(b0 c k f0 ∗ b1 c k f1 ∗ ysTok c Y Finset.univ (2 * k.val) ∗ ysTok c Y Finset.univ (2 * k.val + 1))
/-- and what it leaves besides its transfers. -/
abbrev restAt (k : Fin k0_t1_loop.trips) : sProp 𝕄 :=
  iprop(ysTok c Y (Finset.univ \ wset0 (word0 c xt i k) (h0 k)) (2 * k.val)
    ∗ ysTok c Y (Finset.univ \ wset1 (word1 c xt i k) (h1 k)) (2 * k.val + 1))

/-- Before trip `k`. -/
def issueAt (f0 : MBuf (F := F) c sc0) (f1 : MBuf (F := F) c sc1) (k : ℕ) (_ : Unit) : sProp 𝕄 :=
  iprop(batch c i xt Y h0 h1 (2 * k) 0 ∗ bigSep (Ring.rangeSet k0_t1_loop.trips k k0_t1_loop.trips) (startAt c Y f0 f1)
    ∗ bigSep (Ring.rangeSet k0_t1_loop.trips 0 k) (restAt c i xt Y h0 h1) ∗ tbPt c xt)

theorem amount0 (k : Fin k0_t1_loop.trips) : (blk0 k).view.amount (SemLoc.dma (sig := sig) cc0_scratch2.sem) = NN := by
  show RefSig.tileCredit S8x128 .f32 = 128
  decide +kernel
theorem amount1 (k : Fin k0_t1_loop.trips) : (blk1 k).view.amount (SemLoc.dma (sig := sig) cc0_scratch2.sem) = NN := by
  show RefSig.tileCredit S8x128 .f32 = 128
  decide +kernel

theorem deliver0 (k : Fin k0_t1_loop.trips) (hk : 2 * k.val < 2 * k0_t1_loop.trips) (f0 : MBuf (F := F) c sc0) :
    iprop(((blk0 k).view.loc (c : Thread nD τ) ↦[bset k]{fullShare} ((blk0 k).view.write (Elt F) f0 (ReadAs.same.apply ((win0 (word0 c xt i k) (h0 k)).view.read (Elt F) Y)) Finset.univ))
      ∗ ((win0 (word0 c xt i k) (h0 k)).view.loc (c : Thread nD τ) ↦[wset0 (word0 c xt i k) (h0 k)]{Transfers.shareTokN fullShare (2 * k.val)} Y))
      ⊢ (del c i xt Y h0 h1 ⟨2 * k.val, hk⟩ : sProp 𝕄) := by
  unfold del
  rw [Ring.interleaved_even]
  unfold dAn
  rw [dif_pos k.isLt]
  exact sep_mono_left (BIBase.Entails.of_eq (pointsTo_congr (ℓ := sc0.view.loc (c : Thread nD τ)) (I := bset k) (g := gath0 (word0 c xt i) Y)
    (fun y hy => landed0 c (word0 c xt i) k (h0 k) f0 Y y (by rw [blk0_set]; exact hy))))
theorem deliver1 (k : Fin k0_t1_loop.trips) (hk : 2 * k.val + 1 < 2 * k0_t1_loop.trips) (f1 : MBuf (F := F) c sc1) :
    iprop(((blk1 k).view.loc (c : Thread nD τ) ↦[bset k]{fullShare} ((blk1 k).view.write (Elt F) f1 (ReadAs.same.apply ((win1 (word1 c xt i k) (h1 k)).view.read (Elt F) Y)) Finset.univ))
      ∗ ((win1 (word1 c xt i k) (h1 k)).view.loc (c : Thread nD τ) ↦[wset1 (word1 c xt i k) (h1 k)]{Transfers.shareTokN fullShare (2 * k.val + 1)} Y))
      ⊢ (del c i xt Y h0 h1 ⟨2 * k.val + 1, hk⟩ : sProp 𝕄) := by
  unfold del
  rw [Ring.interleaved_odd]
  unfold dBn
  rw [dif_pos k.isLt]
  exact sep_mono_left (BIBase.Entails.of_eq (pointsTo_congr (ℓ := sc1.view.loc (c : Thread nD τ)) (I := bset k) (g := gath1 (word1 c xt i) Y)
    (fun y hy => landed1 c (word1 c xt i) k (h1 k) f1 Y y (by rw [blk1_set]; exact hy))))

/-- What the first transfer of a trip needs of the blocks and rows, -/
theorem src0 (S : Finset S557056x128.Idx) (k : Fin k0_t1_loop.trips) (hS : S = wset0 (word0 c xt i k) (h0 k)) (t : ℕ) : (ysTok c Y S t : sProp 𝕄)
    = ((win0 (word0 c xt i k) (h0 k)).view.loc (c : Thread nD τ) ↦[(win0 (word0 c xt i k) (h0 k)).view.set]{Transfers.shareTokN fullShare t} Y) := by
  subst hS
  exact congrArg (fun S : Finset S557056x128.Idx => (ysTok c Y S t : sProp 𝕄)) (win0_set _ (h0 k)).symm
/-- and the second. -/
theorem src1 (S : Finset S557056x128.Idx) (k : Fin k0_t1_loop.trips) (hS : S = wset1 (word1 c xt i k) (h1 k)) (t : ℕ) : (ysTok c Y S t : sProp 𝕄)
    = ((win1 (word1 c xt i k) (h1 k)).view.loc (c : Thread nD τ) ↦[(win1 (word1 c xt i k) (h1 k)).view.set]{Transfers.shareTokN fullShare t} Y) := by
  subst hS
  exact congrArg (fun S : Finset S557056x128.Idx => (ysTok c Y S t : sProp 𝕄)) (win1_set _ (h1 k)).symm

theorem dst0 (k : Fin k0_t1_loop.trips) (f0 : MBuf (F := F) c sc0) : (b0 c k f0 : sProp 𝕄) = ((blk0 k).view.loc (c : Thread nD τ) ↦[bset k]{fullShare} f0) := rfl
theorem dst1 (k : Fin k0_t1_loop.trips) (f1 : MBuf (F := F) c sc1) : (b1 c k f1 : sProp 𝕄) = ((blk1 k).view.loc (c : Thread nD τ) ↦[bset k]{fullShare} f1) := rfl
theorem deliver0' (k : Fin k0_t1_loop.trips) (hk : 2 * k.val < 2 * k0_t1_loop.trips) (f0 : MBuf (F := F) c sc0) :
    iprop(((blk0 k).view.loc (c : Thread nD τ) ↦[bset k]{fullShare} ((blk0 k).view.write (Elt F) f0 (ReadAs.same.apply ((win0 (word0 c xt i k) (h0 k)).view.read (Elt F) Y)) Finset.univ))
      ∗ ((win0 (word0 c xt i k) (h0 k)).view.loc (c : Thread nD τ) ↦[(win0 (word0 c xt i k) (h0 k)).view.set]{Transfers.shareTokN fullShare (2 * k.val)} Y))
      ⊢ (del c i xt Y h0 h1 ⟨2 * k.val, hk⟩ : sProp 𝕄) :=
  (sep_mono_right (BIBase.Entails.of_eq (src0 c i xt Y h0 _ k rfl (2 * k.val)).symm)).trans (deliver0 c i xt Y h0 h1 k hk f0)
theorem deliver1' (k : Fin k0_t1_loop.trips) (hk : 2 * k.val + 1 < 2 * k0_t1_loop.trips) (f1 : MBuf (F := F) c sc1) :
    iprop(((blk1 k).view.loc (c : Thread nD τ) ↦[bset k]{fullShare} ((blk1 k).view.write (Elt F) f1 (ReadAs.same.apply ((win1 (word1 c xt i k) (h1 k)).view.read (Elt F) Y)) Finset.univ))
      ∗ ((win1 (word1 c xt i k) (h1 k)).view.loc (c : Thread nD τ) ↦[(win1 (word1 c xt i k) (h1 k)).view.set]{Transfers.shareTokN fullShare (2 * k.val + 1)} Y))
      ⊢ (del c i xt Y h0 h1 ⟨2 * k.val + 1, hk⟩ : sProp 𝕄) :=
  (sep_mono_right (BIBase.Entails.of_eq (src1 c i xt Y h1 _ k rfl (2 * k.val + 1)).symm)).trans (deliver1 c i xt Y h0 h1 k hk f1)

/-- A read token splits at a set of elements. -/
theorem ysTok_split (S : Finset S557056x128.Idx) (t : ℕ) : (ysTok c Y Finset.univ t : sProp 𝕄) ⊣⊢ iprop(ysTok c Y S t ∗ ysTok c Y (Finset.univ \ S) t) := by
  unfold ysTok
  exact pointsTo_split_subset (Finset.subset_univ S)

end Issue

end Cert.CombineIdeal.Cmb

end
-- ==== Proof.Cmb.Trip.lean ====
/-
One trip of the gathering loop: it reads two of the table's entries, checks that the rows they name exist, and issues
the two transfers.
-/
module

public import proofs.«01_k».proof.Proof.Cmb.Loop

@[expose] public section

set_option maxRecDepth 16384

noncomputable section

namespace Cert.CombineIdeal.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.CombineIdeal.Gen

variable {F : FTy → Type} [FloatOps F]

local notation "𝕄" => MT nD τ sig Unit (Elt F) ℕ (UD sig nD τ) ℕ

/-- A program that returns, run on. -/
theorem ret_then {E : Type → Type} {α β : Type} (a : α) (k : α → Prog E β) : (Prog.ret a).bind k = k a := rfl

set_option maxHeartbeats 1000000 in
/-- One trip. -/
theorem trip (c : Dev nD) (i : grid0.Coords) (arg2 : Memref sig .tc .vmem S1024x1024 .f32) (harg2 : arg2.IsWhole) (arg3 : Memref sig .tc .vmem S1024x128 .f32) (harg3 : arg3.IsWhole)
    (arg4 : Memref sig .tc .vmem S1x1024 .f32) (harg4 : arg4.IsWhole) (arg6 : Memref sig .tc .vmem S1024x1024 .f32) (harg6 : arg6.IsWhole)
    (xt : MBuf (F := F) c tb) (Y : MBuf (F := F) c ysM) (h0 : ∀ k, k0_chk1 (word0 c xt i k)) (h1 : ∀ k, k0_chk2 (word1 c xt i k))
    (f0 : MBuf (F := F) c sc0) (f1 : MBuf (F := F) c sc1) (k : Fin k0_t1_loop.trips) (acc : Unit) :
    issueAt c i xt Y h0 h1 f0 f1 k.val acc
      ⊢ wp frame (wpE (defs₀ (F := F)) Variants.none (c : Thread nD τ) none) Set.univ
          (k0_t1_body (F := F) i tb htb arg2 harg2 arg3 harg3 arg4 harg4 ysM hysM arg6 harg6 sc0 hsc0 sc1 hsc1 cc0_scratch2 k acc)
          (fun acc' => issueAt c i xt Y h0 h1 f0 f1 (k.val + 1) acc') := by
  unfold k0_t1_body issueAt
  rw [Ring.bigSep_rangeSet_head k.isLt k.isLt]
  iintro ⟨HB, ⟨⟨Hb0, Hb1, Hy0, Hy1⟩, HS⟩, HR, HT⟩
  sl_exec
  ihave Hy0 := (ysTok_split c Y (wset0 (word0 c xt i k) (h0 k)) (2 * k.val)).1 $$ Hy0
  icases Hy0 with ⟨Hs0, Hr0⟩
  ihave Hs0 := (BIBase.Entails.of_eq (src0 c i xt Y h0 _ k rfl (2 * k.val))) $$ Hs0
  ihave Hb0 := (BIBase.Entails.of_eq (dst0 c k f0)) $$ Hb0
  iapply (Transfers.wp_dmaBatch (countersEmb (U := UD sig nD τ)) Variants.none (c : Thread nD τ) none (src := win0 (word0 c xt i k) (h0 k)) (dst := blk0 k) (Sd := bset k)
    (fs := Y) (fd := f0) () NN (amount0 k) (blk0_set k).subset (D := del c i xt Y h0 h1) (j := 2 * k.val) (u := 0) (by omega) (Nat.zero_le _)
    (deliver0' c i xt Y h0 h1 k (by omega) f0)) $$ [Hs0 Hb0 HB]
  · isplitl [Hs0]; · iexact Hs0
    isplitl [Hb0]; · iexact Hb0
    iexact HB
  iintro HB
  simp only [ret_then]
  sl_exec
  ihave Hy1 := (ysTok_split c Y (wset1 (word1 c xt i k) (h1 k)) (2 * k.val + 1)).1 $$ Hy1
  icases Hy1 with ⟨Hs1, Hr1⟩
  ihave Hs1 := (BIBase.Entails.of_eq (src1 c i xt Y h1 _ k rfl (2 * k.val + 1))) $$ Hs1
  ihave Hb1 := (BIBase.Entails.of_eq (dst1 c k f1)) $$ Hb1
  iapply (Transfers.wp_dmaBatch (countersEmb (U := UD sig nD τ)) Variants.none (c : Thread nD τ) none (src := win1 (word1 c xt i k) (h1 k)) (dst := blk1 k) (Sd := bset k)
    (fs := Y) (fd := f1) () NN (amount1 k) (blk1_set k).subset (D := del c i xt Y h0 h1) (j := 2 * k.val + 1) (u := 0) (by omega) (Nat.zero_le _)
    (deliver1' c i xt Y h0 h1 k (by omega) f1)) $$ [Hs1 Hb1 HB]
  · isplitl [Hs1]; · iexact Hs1
    isplitl [Hb1]; · iexact Hb1
    iexact HB
  iintro HB
  sl_step
  rw [Ring.bigSep_rangeSet_last (NB := k0_t1_loop.trips) (lo := 0) (hi := k.val + 1) (Nat.succ_pos _) (by omega)]
  isplitl [HB]; · iexact HB
  isplitl [HS]; · iexact HS
  isplitl [Hr0 Hr1 HR]
  · isplitl [Hr0 Hr1]
    · isplitl [Hr0]
      · iexact Hr0
      iexact Hr1
    iexact HR
  iexact HT

end Cert.CombineIdeal.Cmb

end
-- ==== Proof.Cmb.Gather.lean ====
/-
Before the first trip and after the last wait: the two buffers and the experts' rows are their blocks and read tokens,
trip by trip, and what the transfers deliver together with what the trips left is the same at the gathered contents.
-/
module

public import proofs.«01_k».proof.Proof.Cmb.Trip

@[expose] public section

set_option maxRecDepth 16384

noncomputable section

namespace Cert.CombineIdeal.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.CombineIdeal.Gen

variable {F : FTy → Type} [FloatOps F]

local notation "𝕄" => MT nD τ sig Unit (Elt F) ℕ (UD sig nD τ) ℕ

variable (c : Dev nD) (i : grid0.Coords) (xt : MBuf (F := F) c tb) (Y : MBuf (F := F) c ysM)
  (h0 : ∀ k, k0_chk1 (word0 c xt i k)) (h1 : ∀ k, k0_chk2 (word1 c xt i k))

/-- What of the experts' rows the trips do not lend. -/
def ysRest : sProp 𝕄 := ysM.view.loc (c : Thread nD τ) ↦[Finset.univ]{Transfers.shareDrop fullShare (2 * k0_t1_loop.trips)} Y

theorem ys_toks : (ysM.view.loc (c : Thread nD τ) ↦{fullShare} Y : sProp 𝕄)
    = iprop(ysRest c Y ∗ bigSep (Finset.univ : Finset (Fin k0_t1_loop.trips)) (fun k => ysTok c Y Finset.univ (2 * k.val))
      ∗ bigSep (Finset.univ : Finset (Fin k0_t1_loop.trips)) (fun k => ysTok c Y Finset.univ (2 * k.val + 1))) := by
  rw [Ring.bigSep_fin_eq_range k0_t1_loop.trips (fun k => ysTok c Y Finset.univ (2 * k.val)) (fun n => ysTok c Y Finset.univ (2 * n)) (fun _ _ => rfl),
    Ring.bigSep_fin_eq_range k0_t1_loop.trips (fun k => ysTok c Y Finset.univ (2 * k.val + 1)) (fun n => ysTok c Y Finset.univ (2 * n + 1)) (fun _ _ => rfl),
    ← Ring.bigSep_range_deinterleave k0_t1_loop.trips (fun n => ysTok c Y Finset.univ n)]
  unfold ysRest ysTok
  have h := Transfers.pointsTo_toks_range (ℓ := ysM.view.loc (c : Thread nD τ)) (S := Finset.univ) (f := Y) (Ix := Unit) (Name := ℕ) (U := UD sig nD τ) (Lvl := ℕ) fullShare (2 * k0_t1_loop.trips)
  exact BI.equiv_iff.mp ⟨h.1, h.2⟩

theorem sc0_blocks (f : MBuf (F := F) c sc0) : (sc0.view.loc (c : Thread nD τ) ↦{fullShare} f : sProp 𝕄) = bigSep Finset.univ fun k => b0 c k f :=
  Ring.pointsTo_blocks (ℓ := sc0.view.loc (c : Thread nD τ)) bset bset_disjoint bset_cover f
theorem sc1_blocks (f : MBuf (F := F) c sc1) : (sc1.view.loc (c : Thread nD τ) ↦{fullShare} f : sProp 𝕄) = bigSep Finset.univ fun k => b1 c k f :=
  Ring.pointsTo_blocks (ℓ := sc1.view.loc (c : Thread nD τ)) bset bset_disjoint bset_cover f

/-- The buffers and the rows whole are every trip's start and what no trip lends. -/
theorem starts (f0 : MBuf (F := F) c sc0) (f1 : MBuf (F := F) c sc1) :
    (iprop((sc0.view.loc (c : Thread nD τ) ↦{fullShare} f0) ∗ (sc1.view.loc (c : Thread nD τ) ↦{fullShare} f1) ∗ (ysM.view.loc (c : Thread nD τ) ↦{fullShare} Y)) : sProp 𝕄)
      ⊣⊢ iprop(ysRest c Y ∗ bigSep Finset.univ (startAt c Y f0 f1)) := by
  unfold startAt
  rw [ys_toks, sc0_blocks, sc1_blocks, bigSep_sep', bigSep_sep', bigSep_sep']
  constructor
  · iintro ⟨Ha, Hb, Hr, Hc, Hd⟩
    isplitl [Hr]; · iexact Hr
    isplitl [Ha]; · iexact Ha
    isplitl [Hb]; · iexact Hb
    isplitl [Hc]; · iexact Hc
    iexact Hd
  · iintro ⟨Hr, Ha, Hb, Hc, Hd⟩
    isplitl [Ha]; · iexact Ha
    isplitl [Hb]; · iexact Hb
    isplitl [Hr]; · iexact Hr
    isplitl [Hc]; · iexact Hc
    iexact Hd

/-- One trip's two deliveries and what it left. -/
theorem finish_one (k : Fin k0_t1_loop.trips) :
    iprop((dA c i xt Y h0 k ∗ dB c i xt Y h1 k) ∗ restAt c i xt Y h0 h1 k) ⊢ (startAt c Y (gath0 (word0 c xt i) Y) (gath1 (word1 c xt i) Y) k : sProp 𝕄) := by
  unfold dA dB restAt startAt
  iintro ⟨⟨⟨Ha, Hs0⟩, ⟨Hb, Hs1⟩⟩, ⟨Hr0, Hr1⟩⟩
  isplitl [Ha]; · iexact Ha
  isplitl [Hb]; · iexact Hb
  isplitl [Hs0 Hr0]
  · iapply ((ysTok_split c Y (wset0 (word0 c xt i k) (h0 k)) (2 * k.val)).2)
    isplitl [Hs0]; · iexact Hs0
    iexact Hr0
  · iapply ((ysTok_split c Y (wset1 (word1 c xt i k) (h1 k)) (2 * k.val + 1)).2)
    isplitl [Hs1]; · iexact Hs1
    iexact Hr1

/-- All of them. -/
theorem finish : (iprop(bigSep Finset.univ (del c i xt Y h0 h1) ∗ bigSep Finset.univ (restAt c i xt Y h0 h1)) : sProp 𝕄)
    ⊢ bigSep Finset.univ (startAt c Y (gath0 (word0 c xt i) Y) (gath1 (word1 c xt i) Y)) := by
  have eA : bigSep (Finset.range k0_t1_loop.trips) (dAn c i xt Y h0) = bigSep Finset.univ (dA c i xt Y h0) :=
    (Ring.bigSep_fin_eq_range k0_t1_loop.trips (dA c i xt Y h0) (dAn c i xt Y h0) (fun t h => by unfold dAn; rw [dif_pos h])).symm
  have eB : bigSep (Finset.range k0_t1_loop.trips) (dBn c i xt Y h1) = bigSep Finset.univ (dB c i xt Y h1) :=
    (Ring.bigSep_fin_eq_range k0_t1_loop.trips (dB c i xt Y h1) (dBn c i xt Y h1) (fun t h => by unfold dBn; rw [dif_pos h])).symm
  unfold del
  rw [Ring.bigSep_interleaved, eA, eB, ← bigSep_sep', ← bigSep_sep']
  exact bigSep_mono fun k _ => finish_one c i xt Y h0 h1 k

end Cert.CombineIdeal.Cmb

end
-- ==== Proof.Cmb.Body.lean ====
/-
The body of the combine run once: the gathering loop, the two waits, the loads and the store of the block.
-/
module

public import proofs.«01_k».proof.Proof.Cmb.Gather

@[expose] public section

set_option maxRecDepth 16384

noncomputable section

namespace Cert.CombineIdeal.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.CombineIdeal.Gen

variable {F : FTy → Type} [FloatOps F]

local notation "𝕄" => MT nD τ sig Unit (Elt F) ℕ (UD sig nD τ) ℕ

theorem credit0 : (sc0.view).dmaCredit = 1024 * NN := by
  show RefSig.tileCredit S8192x128 .f32 = 1024 * 128
  decide +kernel
theorem credit1 : (sc1.view).dmaCredit = 131072 := by
  show RefSig.tileCredit S8192x128 .f32 = 131072
  decide +kernel

/-- The two waits take what the transfers of one buffer, and of both, count. -/
theorem enough0 : 0 + 1024 * NN ≤ NN * (2 * k0_t1_loop.trips) := by
  have e : k0_t1_loop.trips = 1024 := T_eq
  rw [e]; decide
theorem enough1 : 0 + 1024 * NN + 131072 = NN * (2 * k0_t1_loop.trips) := by
  have e : k0_t1_loop.trips = 1024 := T_eq
  rw [e]; decide

/-- A gathered buffer, held through its memref. -/
theorem held0 (c : Dev nD) (G : Vec F S8192x128 .f32) :
    (sc0.view.loc (c : Thread nD τ) ↦{fullShare} G : sProp 𝕄) = (sc0.view.loc (c : Thread nD τ) ↦[sc0.view.set]{fullShare} hsc0.unread G) := by
  rw [hsc0.set_eq_univ]
  exact congrArg (fun g : MBuf (F := F) c sc0 => (sc0.view.loc (c : Thread nD τ) ↦{fullShare} g : sProp 𝕄)) (hsc0.eq_unread (X := G) (f := G) rfl)
theorem held1 (c : Dev nD) (G : Vec F S8192x128 .f32) :
    (sc1.view.loc (c : Thread nD τ) ↦{fullShare} G : sProp 𝕄) = (sc1.view.loc (c : Thread nD τ) ↦[sc1.view.set]{fullShare} hsc1.unread G) := by
  rw [hsc1.set_eq_univ]
  exact congrArg (fun g : MBuf (F := F) c sc1 => (sc1.view.loc (c : Thread nD τ) ↦{fullShare} g : sProp 𝕄)) (hsc1.eq_unread (X := G) (f := G) rfl)

set_option maxHeartbeats 2000000 in
/-- The body at a point. -/
noncomputable def run (c : Dev nD) (i : grid0.Coords) (arg2 : Memref sig .tc .vmem S1024x1024 .f32) (harg2 : arg2.IsWhole) (arg3 : Memref sig .tc .vmem S1024x128 .f32) (harg3 : arg3.IsWhole)
    (arg4 : Memref sig .tc .vmem S1x1024 .f32) (harg4 : arg4.IsWhole) (arg6 : Memref sig .tc .vmem S1024x1024 .f32) (harg6 : arg6.IsWhole)
    (x0 : Vec F S1024x1024 .f32) (x1 : Vec F S1024x128 .f32) (x2 : Vec F S1x1024 .f32)
    (xt : MBuf (F := F) c tb) (Y : MBuf (F := F) c ysM) (h0 : ∀ k, k0_chk1 (word0 c xt i k)) (h1 : ∀ k, k0_chk2 (word1 c xt i k)) :
    { L3 : List (View.Piece (Elt F) S1024x1024 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg6 fullShare d) ∗ tbPt c xt ∗ (ysM.view.loc (c : Thread nD τ) ↦{fullShare} Y)
            ∗ (∃ f, sc0.view.loc (c : Thread nD τ) ↦{fullShare} f) ∗ (∃ f, sc1.view.loc (c : Thread nD τ) ↦{fullShare} f)
            ∗ semVal ((c : Thread nD τ), .dma cc0_scratch2.sem) 0 ∗ owes (c : Thread nD τ) 0 W
            ∗ (iprop(owns (c : Thread nD τ) arg2 fullShare x0 ∗ owns (c : Thread nD τ) arg3 fullShare x1 ∗ owns (c : Thread nD τ) arg4 fullShare x2
              ∗ (∃ f, arg6.view.loc (c : Thread nD τ) ↦[arg6.view.set]{fullShare} arg6.view.writes (Elt F) f L3) ∗ tbPt c xt ∗ (ysM.view.loc (c : Thread nD τ) ↦{fullShare} Y)
              ∗ (∃ f, sc0.view.loc (c : Thread nD τ) ↦{fullShare} f) ∗ (∃ f, sc1.view.loc (c : Thread nD τ) ↦{fullShare} f)
              ∗ semVal ((c : Thread nD τ), .dma cc0_scratch2.sem) 0 ∗ (∃ W', owes (c : Thread nD τ) 0 W')) -∗ K ⟨⟩))
          ⊢ wp frame (wpE (defs₀ (F := F)) Variants.none (c : Thread nD τ) none) Set.univ (cc0_combine i tb htb arg2 harg2 arg3 harg3 arg4 harg4 ysM hysM arg6 harg6 sc0 hsc0 sc1 hsc1 cc0_scratch2) K } := by
  refine ⟨?_, fun W K => ?run⟩
  case run =>
    simp only [cc0_combine_eq_skeleton]; unfold cc0_combine_skel
    simp only [k0_part1_eq_skeleton]; unfold k0_part1_skel
    simp only [bind_assoc]
    unfold owns
    iintro ⟨⟨%f0, %hf0, H0⟩, ⟨%f1, %hf1, H1⟩, ⟨%f2, %hf2, H2⟩, ⟨%d3, %f3, -, H3⟩, HT, HY, ⟨%s0, HS0⟩, ⟨%s1, HS1⟩, Hd, HO, Hk⟩
    obtain rfl := harg2.eq_unread hf0; obtain rfl := harg3.eq_unread hf1; obtain rfl := harg4.eq_unread hf2
    imod (Transfers.batch_alloc' (Lvl := ℕ) (countersEmb (U := UD sig nD τ)) (c : Thread nD τ) () NN (del c i xt Y h0 h1) (sm := .dma cc0_scratch2.sem) (E := Set.univ)) $$ Hd with HB
    ihave HS := (starts c Y s0 s1).1 $$ [HS0 HS1 HY]
    · isplitl [HS0]; · iexact HS0
      isplitl [HS1]; · iexact HS1
      iexact HY
    icases HS with ⟨Hrest, HS⟩
    sl_for (issueAt c i xt Y h0 h1 s0 s1) $$ [HB HS HT]
    case region =>
      intro k acc
      exact trip c i arg2 harg2 arg3 harg3 arg4 harg4 arg6 harg6 xt Y h0 h1 s0 s1 k acc
    · unfold issueAt
      rw [Ring.rangeSet_univ, Ring.bigSep_rangeSet_empty le_rfl]
      isplitl [HB]; · iexact HB
      isplitl [HS]; · iexact HS
      isplitr; · iempintro
      iexact HT
    unfold issueAt
    rw [Ring.rangeSet_univ]
    iintro %_ ⟨HB, -, HR, HT⟩
    iapply (Transfers.wp_waitBatchMul (countersEmb (U := UD sig nD τ)) Variants.none (c : Thread nD τ) none () (N := NN) (dstw := sc0) 1024 credit0 (D := del c i xt Y h0 h1) (j := 2 * k0_t1_loop.trips) (u := 0) enough0 (W := W)) $$ [HB HO]
    · isplitl [HB]; · iexact HB
      iexact HO
    iintro ⟨HB, HO⟩
    iapply (Transfers.wp_waitBatchAll (countersEmb (U := UD sig nD τ)) Variants.none (c : Thread nD τ) none () (N := NN) (dstw := sc1) credit1 (by decide) (D := del c i xt Y h0 h1) (u := 0 + 1024 * NN) enough1) $$ [HB HO]
    · isplitl [HB]; · iexact HB
      iexact HO
    iintro ⟨HD, Hd, HO⟩
    ihave HS := (finish c i xt Y h0 h1) $$ [HD HR]
    · isplitl [HD]; · iexact HD
      iexact HR
    ihave HS := (starts c Y (gath0 (word0 c xt i) Y) (gath1 (word1 c xt i) Y)).2 $$ [HS Hrest]
    · isplitl [Hrest]; · iexact Hrest
      iexact HS
    icases HS with ⟨HS0, HS1, HY⟩
    simp only [ret_then]
    ihave HS0 := (BIBase.Entails.of_eq (held0 c (gath0 (word0 c xt i) Y))) $$ HS0
    ihave HS1 := (BIBase.Entails.of_eq (held1 c (gath1 (word1 c xt i) Y))) $$ HS1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HT]; · iexact HT
    isplitl [HY]; · iexact HY
    isplitl [HS0]; · iexists _; iapply (BIBase.Entails.of_eq (held0 c (gath0 (word0 c xt i) Y)).symm) $$ HS0
    isplitl [HS1]; · iexists _; iapply (BIBase.Entails.of_eq (held1 c (gath1 (word1 c xt i) Y)).symm) $$ HS1
    isplitl [Hd]; · iexact Hd
    iexists _; iexact HO

end Cert.CombineIdeal.Cmb

end
-- ==== Proof.Cmb.Out.lean ====
/-
What the body leaves in the result's block, from the blocks it reads and the two gathered buffers.
-/
module

public import proofs.«01_k».proof.Proof.Cmb.Body
public import Idealize.ShloMosaic.Lib.Pipeline.Value
public import Idealize.ShloMosaic.Lib.WholeRead

@[expose] public section

set_option maxRecDepth 16384

noncomputable section

namespace Cert.CombineIdeal.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.CombineIdeal.Gen

variable {F : FTy → Type} [FloatOps F]

local notation "𝕄" => MT nD τ sig Unit (Elt F) ℕ (UD sig nD τ) ℕ

/-- Every eighth row of a gathered buffer, from row `k`. -/
def rowsOf (k : Nat) (hk : k < 8) (G : Vec F S8192x128 .f32) : Vec F S1024x128 .f32 := fun j =>
  G (fun a => match a with
    | ⟨0, _⟩ => ⟨k + 8 * (j 0).val, by have h : (j 0).val < 1024 := (j 0).isLt; show k + 8 * (j 0).val < 8192; omega⟩
    | ⟨1, _⟩ => ⟨(j 1).val, (j 1).isLt⟩)

/-- The block the body leaves. -/
def blkOut (x0 : Vec F S1024x1024 .f32) (x1 : Vec F S1024x128 .f32) (x2 : Vec F S1x1024 .f32) (G0 G1 : Vec F S8192x128 .f32) : Vec F S1024x1024 .f32 :=
  k0_pay1 x0 (k0_pay3 x1 (rowsOf 0 (by omega) G0) (rowsOf 1 (by omega) G0) (rowsOf 2 (by omega) G0) (rowsOf 3 (by omega) G0) (rowsOf 4 (by omega) G0) (rowsOf 5 (by omega) G0) (rowsOf 6 (by omega) G0) (rowsOf 7 (by omega) G0))
    (k0_pay4 x1) (rowsOf 0 (by omega) G1) (rowsOf 1 (by omega) G1) (rowsOf 2 (by omega) G1) (rowsOf 3 (by omega) G1) (rowsOf 4 (by omega) G1) (rowsOf 5 (by omega) G1) (rowsOf 6 (by omega) G1) (rowsOf 7 (by omega) G1) x2

/-- A strided load of a whole buffer is its rows. -/
theorem load_rows {M : Memref sig .tc .vmem S8192x128 .f32} (hM : M.IsWhole) (G : Vec F S8192x128 .f32) (k : Nat) (hk : k < 8)
    (h : ∀ a, S1024x128.size a = 0 ∨ (![k, 0] : Fin 2 → Nat) a + (![8, 1] : Fin 2 → Nat) a * (S1024x128.size a - 1) < S8192x128.size a) :
    View.readAt (Elt F) M.view (⟨![k, 0], S1024x128.size, ![8, 1], h⟩ : LoadRect S8192x128) (hM.unread G) = rowsOf k hk G := by
  funext j
  rw [Memref.IsWhole.readAt_unread]
  refine congrArg G (funext fun a => Fin.ext ?_)
  match a with
  | ⟨0, _⟩ => rfl
  | ⟨1, _⟩ => show 0 + 1 * (j 1).val = (j 1).val; omega

/-- A load of a whole block is the block. -/
theorem load_all {s : Shape} {e : EltTy} {M : Memref sig .tc .vmem s e} (hM : M.IsWhole) (x : Vec F s e) (off : Fin s.rank → Nat) (ho : ∀ a, off a = 0)
    (h : ∀ a, off a + s.size a ≤ s.size a) :
    View.readAt (Elt F) M.view (Rect.unit (s := s) off s.size h).toLoadRect (hM.unread x) = x := by
  funext j
  rw [Memref.IsWhole.readAt_unread]
  refine congrArg x (funext fun a => Fin.ext ?_)
  show off a + 1 * (j a).val = (j a).val
  rw [ho a]; omega

set_option maxHeartbeats 1000000 in
/-- The store leaves it. -/
theorem run_out (c : Dev nD) (i : grid0.Coords) (arg2 : Memref sig .tc .vmem S1024x1024 .f32) (harg2 : arg2.IsWhole) (arg3 : Memref sig .tc .vmem S1024x128 .f32) (harg3 : arg3.IsWhole)
    (arg4 : Memref sig .tc .vmem S1x1024 .f32) (harg4 : arg4.IsWhole) (arg6 : Memref sig .tc .vmem S1024x1024 .f32) (harg6 : arg6.IsWhole)
    (x0 : Vec F S1024x1024 .f32) (x1 : Vec F S1024x128 .f32) (x2 : Vec F S1x1024 .f32)
    (xt : MBuf (F := F) c tb) (Y : MBuf (F := F) c ysM) (h0 : ∀ k, k0_chk1 (word0 c xt i k)) (h1 : ∀ k, k0_chk2 (word1 c xt i k))
    (f : arg6.view.ty.Contents (Elt F)) :
    arg6.view.read (Elt F) (arg6.view.writes (Elt F) f (run c i arg2 harg2 arg3 harg3 arg4 harg4 arg6 harg6 x0 x1 x2 xt Y h0 h1).1)
      = blkOut x0 x1 x2 (gath0 (word0 c xt i) Y) (gath1 (word1 c xt i) Y) := by
  have hT : k0_pay1 (View.readAt (Elt F) arg2.view (Rect.unit (s := S1024x1024) ![0, 0] S1024x1024.size inb_S1024x1024_S1024x1024_0_0).toLoadRect (harg2.unread x0))
      (k0_pay3 (View.readAt (Elt F) arg3.view (Rect.unit (s := S1024x128) ![0, 0] S1024x128.size inb_S1024x128_S1024x128_0_0).toLoadRect (harg3.unread x1))
        (View.readAt (Elt F) sc0.view (⟨![0, 0], S1024x128.size, ![8, 1], inb_S8192x128_S1024x128_0_0_s_8_1⟩ : LoadRect S8192x128) (hsc0.unread (gath0 (word0 c xt i) Y)))
        (View.readAt (Elt F) sc0.view (⟨![1, 0], S1024x128.size, ![8, 1], inb_S8192x128_S1024x128_1_0_s_8_1⟩ : LoadRect S8192x128) (hsc0.unread (gath0 (word0 c xt i) Y)))
        (View.readAt (Elt F) sc0.view (⟨![2, 0], S1024x128.size, ![8, 1], inb_S8192x128_S1024x128_2_0_s_8_1⟩ : LoadRect S8192x128) (hsc0.unread (gath0 (word0 c xt i) Y)))
        (View.readAt (Elt F) sc0.view (⟨![3, 0], S1024x128.size, ![8, 1], inb_S8192x128_S1024x128_3_0_s_8_1⟩ : LoadRect S8192x128) (hsc0.unread (gath0 (word0 c xt i) Y)))
        (View.readAt (Elt F) sc0.view (⟨![4, 0], S1024x128.size, ![8, 1], inb_S8192x128_S1024x128_4_0_s_8_1⟩ : LoadRect S8192x128) (hsc0.unread (gath0 (word0 c xt i) Y)))
        (View.readAt (Elt F) sc0.view (⟨![5, 0], S1024x128.size, ![8, 1], inb_S8192x128_S1024x128_5_0_s_8_1⟩ : LoadRect S8192x128) (hsc0.unread (gath0 (word0 c xt i) Y)))
        (View.readAt (Elt F) sc0.view (⟨![6, 0], S1024x128.size, ![8, 1], inb_S8192x128_S1024x128_6_0_s_8_1⟩ : LoadRect S8192x128) (hsc0.unread (gath0 (word0 c xt i) Y)))
        (View.readAt (Elt F) sc0.view (⟨![7, 0], S1024x128.size, ![8, 1], inb_S8192x128_S1024x128_7_0_s_8_1⟩ : LoadRect S8192x128) (hsc0.unread (gath0 (word0 c xt i) Y))))
      (k0_pay4 (View.readAt (Elt F) arg3.view (Rect.unit (s := S1024x128) ![0, 0] S1024x128.size inb_S1024x128_S1024x128_0_0).toLoadRect (harg3.unread x1)))
      (View.readAt (Elt F) sc1.view (⟨![0, 0], S1024x128.size, ![8, 1], inb_S8192x128_S1024x128_0_0_s_8_1⟩ : LoadRect S8192x128) (hsc1.unread (gath1 (word1 c xt i) Y)))
      (View.readAt (Elt F) sc1.view (⟨![1, 0], S1024x128.size, ![8, 1], inb_S8192x128_S1024x128_1_0_s_8_1⟩ : LoadRect S8192x128) (hsc1.unread (gath1 (word1 c xt i) Y)))
      (View.readAt (Elt F) sc1.view (⟨![2, 0], S1024x128.size, ![8, 1], inb_S8192x128_S1024x128_2_0_s_8_1⟩ : LoadRect S8192x128) (hsc1.unread (gath1 (word1 c xt i) Y)))
      (View.readAt (Elt F) sc1.view (⟨![3, 0], S1024x128.size, ![8, 1], inb_S8192x128_S1024x128_3_0_s_8_1⟩ : LoadRect S8192x128) (hsc1.unread (gath1 (word1 c xt i) Y)))
      (View.readAt (Elt F) sc1.view (⟨![4, 0], S1024x128.size, ![8, 1], inb_S8192x128_S1024x128_4_0_s_8_1⟩ : LoadRect S8192x128) (hsc1.unread (gath1 (word1 c xt i) Y)))
      (View.readAt (Elt F) sc1.view (⟨![5, 0], S1024x128.size, ![8, 1], inb_S8192x128_S1024x128_5_0_s_8_1⟩ : LoadRect S8192x128) (hsc1.unread (gath1 (word1 c xt i) Y)))
      (View.readAt (Elt F) sc1.view (⟨![6, 0], S1024x128.size, ![8, 1], inb_S8192x128_S1024x128_6_0_s_8_1⟩ : LoadRect S8192x128) (hsc1.unread (gath1 (word1 c xt i) Y)))
      (View.readAt (Elt F) sc1.view (⟨![7, 0], S1024x128.size, ![8, 1], inb_S8192x128_S1024x128_7_0_s_8_1⟩ : LoadRect S8192x128) (hsc1.unread (gath1 (word1 c xt i) Y)))
      (View.readAt (Elt F) arg4.view (Rect.unit (s := S1x1024) ![0, 0] S1x1024.size inb_S1x1024_S1x1024_0_0).toLoadRect (harg4.unread x2))
      = blkOut x0 x1 x2 (gath0 (word0 c xt i) Y) (gath1 (word1 c xt i) Y) := by
    rw [load_all harg2 x0 _ (by decide), load_all harg3 x1 _ (by decide), load_all harg4 x2 _ (by decide),
      load_rows hsc0 (gath0 (word0 c xt i) Y) 0 (by omega),
      load_rows hsc0 (gath0 (word0 c xt i) Y) 1 (by omega),
      load_rows hsc0 (gath0 (word0 c xt i) Y) 2 (by omega),
      load_rows hsc0 (gath0 (word0 c xt i) Y) 3 (by omega),
      load_rows hsc0 (gath0 (word0 c xt i) Y) 4 (by omega),
      load_rows hsc0 (gath0 (word0 c xt i) Y) 5 (by omega),
      load_rows hsc0 (gath0 (word0 c xt i) Y) 6 (by omega),
      load_rows hsc0 (gath0 (word0 c xt i) Y) 7 (by omega),
      load_rows hsc1 (gath1 (word1 c xt i) Y) 0 (by omega),
      load_rows hsc1 (gath1 (word1 c xt i) Y) 1 (by omega),
      load_rows hsc1 (gath1 (word1 c xt i) Y) 2 (by omega),
      load_rows hsc1 (gath1 (word1 c xt i) Y) 3 (by omega),
      load_rows hsc1 (gath1 (word1 c xt i) Y) 4 (by omega),
      load_rows hsc1 (gath1 (word1 c xt i) Y) 5 (by omega),
      load_rows hsc1 (gath1 (word1 c xt i) Y) 6 (by omega),
      load_rows hsc1 (gath1 (word1 c xt i) Y) 7 (by omega)]
    rfl
  have hc : ∀ y : S1024x1024.Idx, ∃ p ∈ (run c i arg2 harg2 arg3 harg3 arg4 harg4 arg6 harg6 x0 x1 x2 xt Y h0 h1).1, y ∈ p.1.set := by
    intro y
    unfold run
    exact ⟨_, List.mem_cons_self, View.mem_set_unit_zero (by funext a; fin_cases a <;> rfl) inb_S1024x1024_S1024x1024_0_0 y⟩
  rw [View.read_writes_eq_canon _ _ _ hc, ← hT]
  unfold run
  exact View.canon_unit_zero (by funext a; fin_cases a <;> rfl) inb_S1024x1024_S1024x1024_0_0 _

end Cert.CombineIdeal.Cmb

end
-- ==== Proof.Cmb.Frame.lean ====
/-
The combine's call runs: the pipeline's proof data (each input's buffer at its block, the result's at what the body
leaves there), the body's obligation at every point, and the run of the whole program.
-/
module

public import proofs.«01_k».proof.Proof.Cmb.Out

@[expose] public section

set_option maxRecDepth 16384

noncomputable section

namespace Cert.CombineIdeal.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.CombineIdeal.Gen

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- What the table must satisfy: the rows it names exist. -/
structure Good : Prop where
  c0 : ∀ (i : grid0.Coords) k, k0_chk1 (word0 (0 : Dev nD) (tbl m 0) i k)
  c1 : ∀ (i : grid0.Coords) k, k0_chk2 (word1 (0 : Dev nD) (tbl m 0) i k)

/-- The result's block after point `t`. -/
def outAt (c : Dev nD) (t : Fin (cfgM m).N) : Vec F S1024x1024 .f32 :=
  blkOut (iblk m c 0 t) (iblk m c 1 t) (iblk m c 2 t) (gath0 (word0 c (tbl m 0) (grid0.coords t)) (V m c main_arg3)) (gath1 (word1 c (tbl m 0) (grid0.coords t)) (V m c main_arg3))

/-- The semaphore the body's transfers signal. -/
abbrev osem : Fin 1 → SemLoc sig := fun _ => .dma cc0_scratch2.sem
/-- The region's one buffer that the body's own transfers read. -/
abbrev HH : Finset (Ref sig .tc) := {main_arg3}

/-- The pipeline's proof data. -/
def dats (_ : Fin 1) (c : Dev nD) : Dat τ (Elt F) Unit ℕ (UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := iprop(Pipeline.ΦD osem spec0 HH (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = outAt m c t := by dsimp only [dats]; try rfl
theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d

/-- What the region holds between points, taken apart. -/
theorem Phi_eq (c : Dev nD) : (iprop(Pipeline.ΦD osem spec0 HH (V m) c ∗ Pipeline.ΦT pre0 (tbl m) c) : sProp 𝕄)
    = iprop((((∃ f, sc0.view.loc (c : Thread nD τ) ↦{fullShare} f) ∗ (∃ f, sc1.view.loc (c : Thread nD τ) ↦{fullShare} f)) ∗ (∃ r, prngReg c r)
        ∗ semVal ((c : Thread nD τ), .dma cc0_scratch2.sem) 0 ∗ (ysM.view.loc (c : Thread nD τ) ↦{fullShare} (V m c main_arg3 : MBuf (F := F) c ysM))) ∗ tbPt c (tbl m 0)) := by
  rw [PhiT_eq, Pipeline.ΦD_eq, scopedRest0_eq, Pipeline.ownSems0_eq_of_list c osem [0] (by decide) (by decide), bigSep_singleton]
  rfl

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))
/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

set_option maxHeartbeats 1000000 in
/-- The body at any point. -/
theorem sound_body (hG : Good m) (c : Dev nD) (t : Fin (cfgM m).N) :
    bodyPre m c t ⊢ wp frame (wpE (defs₀ (F := F)) Variants.none (c : Thread nD τ) none) Set.univ (bodyAt (adm m) t) (fun _ => bodyPost m c t) := by
  obtain ⟨hc0, hc1⟩ := hG
  obtain rfl : c = 0 := Subsingleton.elim _ _
  unfold bodyPre bodyPost bodyAt
  simp only [before0, before1, before2]
  rw [show (dats m 0 (0 : Dev nD)).Φ t.succ = (dats m 0 (0 : Dev nD)).Φ t.castSucc from rfl,
    show (dats m 0 (0 : Dev nD)).owesAt () t.succ = (dats m 0 (0 : Dev nD)).owesAt () t.castSucc from rfl,
    after0, after1, after2, after3]
  rw [show (dats m 0 (0 : Dev nD)).Φ t.castSucc = iprop(Pipeline.ΦD osem spec0 HH (V m) (0 : Dev nD) ∗ Pipeline.ΦT pre0 (tbl m) (0 : Dev nD)) from rfl, Phi_eq]
  unfold outAt Pipeline.Dat.owesAt Pipeline.owesWithin
  iintro ⟨⟨⟨⟨HS0, HS1⟩, Hp, Hd, HY⟩, HT⟩, ⟨%W, -, HO⟩, ⟨%d0, H0⟩, ⟨%d1, H1⟩, ⟨%d2, H2⟩, ⟨%d3, H3⟩⟩
  iapply ((run 0 (grid0.coords t) _ _ _ _ _ _ _ _ (iblk m 0 0 t) (iblk m 0 1 t) (iblk m 0 2 t) (tbl m 0) (V m 0 main_arg3) (hc0 (grid0.coords t)) (hc1 (grid0.coords t))).2 W _)
  isplitl [H0]; · iexact H0
  isplitl [H1]; · iexact H1
  isplitl [H2]; · iexact H2
  isplitl [H3]; · iexists _; iexact H3
  isplitl [HT]; · iexact HT
  isplitl [HY]; · iexact HY
  isplitl [HS0]; · iexact HS0
  isplitl [HS1]; · iexact HS1
  isplitl [Hd]; · iexact Hd
  isplitl [HO]; · iexact HO
  iintro ⟨H0, H1, H2, ⟨%e3, H3⟩, HT, HY, HS0, HS1, Hd, ⟨%W', HO⟩⟩
  isplitl [HS0 HS1 Hp Hd HY HT]
  · isplitl [HS0 HS1 Hp Hd HY]
    · isplitl [HS0 HS1]
      · isplitl [HS0]; · iexact HS0
        iexact HS1
      isplitl [Hp]; · iexact Hp
      isplitl [Hd]; · iexact Hd
      iexact HY
    iexact HT
  isplitl [HO]
  · iexists W'; isplitr
    · ipureintro; exact fun _ _ => Or.inl trivial
    iexact HO
  isplitl [H0]; · iexact H0
  isplitl [H1]; · iexact H1
  isplitl [H2]; · iexact H2
  unfold owns; iexists _; isplitr
  swap; · iexact H3
  ipureintro; exact run_out 0 _ _ _ _ _ _ _ _ _ _ _ _ _ _ _ _ e3

/-- The pipeline's call of the body is the body at the point's buffers. -/
theorem defs₀_row (t : Fin (cfgM m).N) :
    defs₀ (F := F) .tc (cfgM m).body ((cfgM m).bodyArgs t ((cfgM m).slots t)) = bodyAt (adm m) t := by
  unfold defs₀; rw [Defs.onTc_tc]

/-- The library's body obligation, at every point. -/
theorem body_obligation (hG : Good m) (c : Dev nD) : BodyObligation (dats (F := F) m 0 c) (defs₀ (F := F)) Variants.none () Set.univ := fun t => by
  rw [bigSep_W0, bigSep_W0, defs₀_row m]
  exact sound_body m hG c t

theorem ho : Pipeline.OwnSemFacts spec0 osem := by decide
theorem hHH : HH ⊆ Pipeline.restRefsP sig pre0 spec0 := by decide

set_option backward.isDefEq.respectTransparency.types false in
/-- The whole run, with the counters. -/
theorem run_quiescent (hG : Good m) : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem defs₀ Variants.none ho HH hHH m ρ main
    (hbody := fun c => (body_obligation m hG c).loose) (hshare := fun c => (dats m 0 c).share_full fun _ => rfl)
    (howed := fun _ _ => rfl) (V := V m) (hmain := hmain m Variants.none) (hA := A_eq m) (hpf := V_pre m)
    (hin := fun _ => BIBase.Entails.rfl) (hout := fun _ => sep_elim_left)

/-- The run leaves the arguments unchanged. -/
theorem args_of {r : PUnit × MemSt nD τ sig (Elt F)}
    (h : Pipeline.FramePost (Pipeline.pin pcfgs fun _ => adm m) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (V_arg0 m c),
      ((h c).1 0).trans (((dats m 0 c).arrAt_in 0 rfl _).trans ((A_eq m c 0).trans (V_arg1 m c))),
      ((h c).2 main_arg2 (by decide : main_arg2 ∈ Pipeline.restRefs sig spec0)).trans (V_arg2 m c),
      ((h c).2 main_arg3 (by decide : main_arg3 ∈ Pipeline.restRefs sig spec0)).trans (V_arg3 m c),
      ((h c).2 main_arg4 (by decide : main_arg4 ∈ Pipeline.restRefs sig spec0)).trans (V_arg4 m c)⟩

/-- The frame: the arguments end unchanged and the counters at zero. -/
theorem frame (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m h.1, h.2⟩) (run_quiescent m ρ hG)

end Cert.CombineIdeal.Cmb

end
-- ==== Proof.Cmb.Words.lean ====
/-
The places as numbers, and what the host's lines leave: the routing weights padded to a lane, the gain as a row. Every
place below 69632 names eight whole rows of the experts' array.
-/
module

public import proofs.«01_k».proof.Proof.Cmb.Frame
public import Idealize.ShloMosaic.Lib.Pointwise

@[expose] public section

set_option maxRecDepth 16384

noncomputable section

namespace Cert.CombineIdeal.Cmb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)
open Cert.CombineIdeal.Gen

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The places, as the program is given them. -/
abbrev places : IVec S65536 32 := m (((0 : Dev nD) : Thread nD τ).loc main_arg0)
/-- Every place is a row. -/
def Rows (x : IVec S65536 32) : Prop := ∀ j, (x j).toNat < 69632

theorem off1_eq (i : grid0.Coords) (k : Fin k0_t1_loop.trips) : k0_off1 i k 0 = 2048 * (i 0).val + 2 * k.val := by
  have hi : (i 0).val < 32 := (i 0).isLt
  have hk : k.val < 1024 := lt_of_lt_of_eq k.isLt T_eq
  show (BitVec.ofNat 32 (i 0).val * 2048#32 + 2#32 * (0#32 + BitVec.ofNat 32 k.val * 1#32)).toNat = _
  simp only [BitVec.toNat_add, BitVec.toNat_mul, BitVec.toNat_ofNat]
  omega
theorem off4_eq (i : grid0.Coords) (k : Fin k0_t1_loop.trips) : k0_off4 i k 0 = 2048 * (i 0).val + 2 * k.val + 1 := by
  have hi : (i 0).val < 32 := (i 0).isLt
  have hk : k.val < 1024 := lt_of_lt_of_eq k.isLt T_eq
  show (BitVec.ofNat 32 (i 0).val * 2048#32 + 2#32 * (0#32 + BitVec.ofNat 32 k.val * 1#32) + 1#32).toNat = _
  simp only [BitVec.toNat_add, BitVec.toNat_mul, BitVec.toNat_ofNat]
  omega

/-- The even entry is the token's first place, -/
theorem word0_eq (i : grid0.Coords) (k : Fin k0_t1_loop.trips) (q : Fin 65536) (hq : q.val = 2048 * (i 0).val + 2 * k.val) :
    word0 (0 : Dev nD) (tbl m 0) i k = places m (ix1 q) := by
  refine Eq.trans ?_ (congrFun (V_arg0 m 0) _)
  show V m 0 main_arg0 _ = V m 0 main_arg0 _
  refine congrArg (V m 0 main_arg0) (funext fun a => Fin.ext ?_)
  match a with
  | ⟨0, _⟩ => exact (off1_eq i k).trans hq.symm
/-- and the odd one its second. -/
theorem word1_eq (i : grid0.Coords) (k : Fin k0_t1_loop.trips) (q : Fin 65536) (hq : q.val = 2048 * (i 0).val + 2 * k.val + 1) :
    word1 (0 : Dev nD) (tbl m 0) i k = places m (ix1 q) := by
  refine Eq.trans ?_ (congrFun (V_arg0 m 0) _)
  show V m 0 main_arg0 _ = V m 0 main_arg0 _
  refine congrArg (V m 0 main_arg0) (funext fun a => Fin.ext ?_)
  match a with
  | ⟨0, _⟩ => exact (off4_eq i k).trans hq.symm

/-- A place's rows begin at eight times it. -/
theorem off3_at (v : BitVec 32) (h : v.toNat < 69632) : k0_off3 v 0 = 8 * v.toNat := by
  show (v * 8#32).toNat = _
  simp only [BitVec.toNat_mul, BitVec.toNat_ofNat]
  omega
theorem off6_at (v : BitVec 32) (h : v.toNat < 69632) : k0_off6 v 0 = 8 * v.toNat := off3_at v h

theorem chk1_of (v : BitVec 32) (h : v.toNat < 69632) : k0_chk1 v := by
  have e := off3_at v h
  refine ⟨⟨v.toNat, e⟩, fun a => ?_⟩
  match a with
  | ⟨0, _⟩ => show k0_off3 v 0 + 8 ≤ 557056; omega
  | ⟨1, _⟩ => show 0 + 128 ≤ 128; omega
theorem chk2_of (v : BitVec 32) (h : v.toNat < 69632) : k0_chk2 v := chk1_of v h

/-- The places being rows, the table is good. -/
theorem good (h : Rows (places m)) : Good m := by
  constructor
  · intro i k
    have hi : (i 0).val < 32 := (i 0).isLt
    have hk : k.val < 1024 := lt_of_lt_of_eq k.isLt T_eq
    rw [word0_eq m i k ⟨2048 * (i 0).val + 2 * k.val, by omega⟩ rfl]
    exact chk1_of _ (h _)
  · intro i k
    have hi : (i 0).val < 32 := (i 0).isLt
    have hk : k.val < 1024 := lt_of_lt_of_eq k.isLt T_eq
    rw [word1_eq m i k ⟨2048 * (i 0).val + 2 * k.val + 1, by omega⟩ rfl]
    exact chk2_of _ (h _)

/-- What the second window reads, -/
theorem V_rw (c : Dev nD) : (V m c main_v0 : FVec F S32768x128 .f32)
    = pad S32768x128 ![0, 0] ![0, 126] ![0, 0] (m ((c : Thread nD τ).loc main_arg2)) (sitofp .f32 (constantI S_ 32 0#32)) pads_S32768x2_S32768x128_000_01260 h_S_ := by
  dsimp only [V, hostOps0, hostOps0_1, hostOps0_2, List.flatten_cons, List.flatten_nil, List.append_nil, List.cons_append, List.nil_append]
  after_results
  all_goals rfl
/-- and the third. -/
theorem V_g (c : Dev nD) : (V m c main_v1 : FVec F S1x1024 .f32) = broadcastInDim S1x1024 ![1] bcast_S1024_S1x1024_1 (m ((c : Thread nD τ).loc main_arg4)) := by
  dsimp only [V, hostOps0, hostOps0_1, hostOps0_2, List.flatten_cons, List.flatten_nil, List.append_nil, List.cons_append, List.nil_append]
  after_results
  all_goals rfl

/-- The result's window is written back at every point. -/
theorem flush3 (a : (pcfg0 (F := F)).Adm) : ∀ t : Fin (cfg0 a).N, ((cfg0 a).win 3).flush t = true :=
  (fun t => (Pipeline.Window.flushOf_reads cc0_transform_4 reads0_3 hreads0_3 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)

end Cert.CombineIdeal.Cmb

end
-- ==== Proof.Cmb.Pure.lean ====
/-
The combination at an index: a token's residual row plus its two experts' rows by their weights, RMS-normalised and
times the gain. The kernel's block is such rows of the gathered buffers, and the reference's result such rows of the
whole arrays.
-/
module

public import proofs.«01_k».proof.Proof.Cmb.Words
public import proofs.«01_k».proof.Proof.Gen.CombineRefIdeal.Read
public import Idealize.ShloMosaic.Lib.Pointwise
public import Idealize.ShloMosaic.Lib.ValueIdxCore

@[expose] public section

set_option maxRecDepth 16384

noncomputable section

namespace Cert.Proof.Cmb

open Idealize.ShloMosaic Idealize.ShloMosaic.TcCoe Idealize.SL.Sem

/-- The reciprocal root mean square of a row. -/
def inv (x : Fin 1024 → EReal) : EReal :=
  Ideal.rsqrt (Ideal.div (∑ k, x k * x k) (Ideal.ofBits .f32 0x44800000#32) + Ideal.ofBits .f32 0x358637BD#32)
/-- A token's row before the norm. -/
def mix (h : Fin 1024 → EReal) (a b : EReal) (x y : Fin 1024 → EReal) (k : Fin 1024) : EReal := h k + (a * x k + b * y k)
/-- A token's row of the result, at column `l`. -/
def out (u g : Fin 1024 → EReal) (l : Fin 1024) : EReal := u l * inv u * g l

/-- The row a place names, its eight pieces of 128 columns side by side. -/
def erow (x : IVec (⟨1, ![65536]⟩ : Shape) 32) (Y : FVec Ideal (⟨2, ![557056, 128]⟩ : Shape) .f32) (q : Fin 65536) (k : Fin 1024) : EReal :=
  Y (ix2 ⟨(8 * (x (ix1 q)).toNat + k.val / 128) % 557056, Nat.mod_lt _ (by decide)⟩ ⟨k.val % 128, by omega⟩)

section Kernel
open Cert.CombineIdeal Cert.CombineIdeal.Gen Cert.CombineIdeal.Cmb

/-- Eight slices side by side, as the kernel puts them. -/
abbrev beside (v0 v1 v2 v3 v4 v5 v6 v7 : FVec Ideal S1024x128 .f32) : FVec Ideal S1024x1024 .f32 :=
  concatenate S1024x1024 1 [⟨S1024x128, v0⟩, ⟨S1024x128, v1⟩, ⟨S1024x128, v2⟩, ⟨S1024x128, v3⟩, ⟨S1024x128, v4⟩, ⟨S1024x128, v5⟩, ⟨S1024x128, v6⟩, ⟨S1024x128, v7⟩]
    concatenates_S1024x128_S1024x128_S1024x128_S1024x128_S1024x128_S1024x128_S1024x128_S1024x128_S1024x1024_d1

theorem pay_apply (x0 : FVec Ideal S1024x1024 .f32) (x1 : FVec Ideal S1024x128 .f32) (x2 : FVec Ideal S1x1024 .f32)
    (v0 v1 v2 v3 v4 v5 v6 v7 w0 w1 w2 w3 w4 w5 w6 w7 : FVec Ideal S1024x128 .f32) (r l : Fin 1024) :
    (k0_pay1 (F := Ideal) x0 (k0_pay3 (F := Ideal) x1 v0 v1 v2 v3 v4 v5 v6 v7) (k0_pay4 (F := Ideal) x1) w0 w1 w2 w3 w4 w5 w6 w7 x2 (ix2 r l) : EReal)
      = out (mix (fun k => x0 (ix2 r k)) (x1 (ix2 r 0)) (x1 (ix2 r 1)) (fun k => beside v0 v1 v2 v3 v4 v5 v6 v7 (ix2 r k)) (fun k => beside w0 w1 w2 w3 w4 w5 w6 w7 (ix2 r k)))
        (fun k => x2 (ix2 0 k)) l := by
  unfold k0_pay1 k0_pay3 k0_pay4 k0_pay2 beside
  generalize concatenate S1024x1024 1 [⟨S1024x128, v0⟩, ⟨S1024x128, v1⟩, ⟨S1024x128, v2⟩, ⟨S1024x128, v3⟩, ⟨S1024x128, v4⟩, ⟨S1024x128, v5⟩, ⟨S1024x128, v6⟩, ⟨S1024x128, v7⟩] _ = A
  generalize concatenate S1024x1024 1 [⟨S1024x128, w0⟩, ⟨S1024x128, w1⟩, ⟨S1024x128, w2⟩, ⟨S1024x128, w3⟩, ⟨S1024x128, w4⟩, ⟨S1024x128, w5⟩, ⟨S1024x128, w6⟩, ⟨S1024x128, w7⟩] _ = B
  pointwise [out, mix, inv]

/-- Slice `q` at a column is the buffer's row `q` of the eight. -/
theorem rows_apply (G : FVec Ideal S8192x128 .f32) (q : Nat) (hq : q < 8) (r k : Fin 1024) (c : Fin 128) (h : k.val = 128 * q + c.val) :
    (rowsOf (F := Ideal) q hq G (ix2 r c) : EReal) = G (ix2 ⟨8 * r.val + k.val / 128, by omega⟩ ⟨k.val % 128, by omega⟩) := by
  refine congrArg G (funext fun a => Fin.ext ?_)
  match a with
  | ⟨0, _⟩ => show q + 8 * r.val = 8 * r.val + k.val / 128; omega
  | ⟨1, _⟩ => show c.val = k.val % 128; omega

theorem beside_apply (v0 v1 v2 v3 v4 v5 v6 v7 : FVec Ideal S1024x128 .f32) (r k : Fin 1024) (z : EReal)
    (h0 : ∀ c : Fin 128, k.val = 128 * 0 + c.val → v0 (ix2 r c) = z) (h1 : ∀ c : Fin 128, k.val = 128 * 1 + c.val → v1 (ix2 r c) = z)
    (h2 : ∀ c : Fin 128, k.val = 128 * 2 + c.val → v2 (ix2 r c) = z) (h3 : ∀ c : Fin 128, k.val = 128 * 3 + c.val → v3 (ix2 r c) = z)
    (h4 : ∀ c : Fin 128, k.val = 128 * 4 + c.val → v4 (ix2 r c) = z) (h5 : ∀ c : Fin 128, k.val = 128 * 5 + c.val → v5 (ix2 r c) = z)
    (h6 : ∀ c : Fin 128, k.val = 128 * 6 + c.val → v6 (ix2 r c) = z) (h7 : ∀ c : Fin 128, k.val = 128 * 7 + c.val → v7 (ix2 r c) = z) :
    (beside v0 v1 v2 v3 v4 v5 v6 v7 (ix2 r k) : EReal) = z := by
  have hk := k.isLt
  unfold beside
  pointwise
  split
  · exact h0 _ (by show k.val = _ + k.val; omega)
  split
  · exact h1 _ (by show k.val = _ + (k.val - 128); omega)
  split
  · exact h2 _ (by show k.val = _ + (k.val - 128 - 128); omega)
  split
  · exact h3 _ (by show k.val = _ + (k.val - 128 - 128 - 128); omega)
  split
  · exact h4 _ (by show k.val = _ + (k.val - 128 - 128 - 128 - 128); omega)
  split
  · exact h5 _ (by show k.val = _ + (k.val - 128 - 128 - 128 - 128 - 128); omega)
  split
  · exact h6 _ (by show k.val = _ + (k.val - 128 - 128 - 128 - 128 - 128 - 128); omega)
  · exact h7 _ (by show k.val = _ + (k.val - 128 - 128 - 128 - 128 - 128 - 128 - 128); omega)

/-- A gathered buffer's eight slices side by side. -/
theorem pieces_apply (G : FVec Ideal S8192x128 .f32) (r k : Fin 1024) :
    (beside (rowsOf (F := Ideal) 0 (by omega) G) (rowsOf (F := Ideal) 1 (by omega) G) (rowsOf (F := Ideal) 2 (by omega) G) (rowsOf (F := Ideal) 3 (by omega) G)
      (rowsOf (F := Ideal) 4 (by omega) G) (rowsOf (F := Ideal) 5 (by omega) G) (rowsOf (F := Ideal) 6 (by omega) G) (rowsOf (F := Ideal) 7 (by omega) G) (ix2 r k) : EReal)
      = G (ix2 ⟨8 * r.val + k.val / 128, by omega⟩ ⟨k.val % 128, by omega⟩) :=
  beside_apply _ _ _ _ _ _ _ _ r k _ (fun c h => rows_apply G 0 _ r k c h) (fun c h => rows_apply G 1 _ r k c h) (fun c h => rows_apply G 2 _ r k c h)
    (fun c h => rows_apply G 3 _ r k c h) (fun c h => rows_apply G 4 _ r k c h) (fun c h => rows_apply G 5 _ r k c h)
    (fun c h => rows_apply G 6 _ r k c h) (fun c h => rows_apply G 7 _ r k c h)

/-- A block at an index. -/
theorem blk_apply (x0 : FVec Ideal S1024x1024 .f32) (x1 : FVec Ideal S1024x128 .f32) (x2 : FVec Ideal S1x1024 .f32) (G0 G1 : FVec Ideal S8192x128 .f32) (r l : Fin 1024) :
    (blkOut (F := Ideal) x0 x1 x2 G0 G1 (ix2 r l) : EReal)
      = out (mix (fun k => x0 (ix2 r k)) (x1 (ix2 r 0)) (x1 (ix2 r 1)) (fun k => G0 (ix2 ⟨8 * r.val + k.val / 128, by omega⟩ ⟨k.val % 128, by omega⟩))
          (fun k => G1 (ix2 ⟨8 * r.val + k.val / 128, by omega⟩ ⟨k.val % 128, by omega⟩)))
        (fun k => x2 (ix2 0 k)) l := by
  unfold blkOut
  refine (pay_apply x0 x1 x2 _ _ _ _ _ _ _ _ _ _ _ _ _ _ _ _ r l).trans ?_
  simp only [pieces_apply]

end Kernel

end Cert.Proof.Cmb

end
-- ==== Proof.Cmb.Ref.lean ====
/-
The reference of the combination at an index.
-/
module

public import proofs.«01_k».proof.Proof.Cmb.Pure

@[expose] public section

set_option maxRecDepth 16384

noncomputable section

namespace Cert.Proof.Cmb

open Idealize.ShloMosaic Idealize.ShloMosaic.TcCoe Idealize.SL.Sem
open Cert.CombineRefIdeal Cert.CombineRefIdeal.Read Cert.CombineRefIdeal.Gen
open Cert.CombineIdeal.Cmb (Rows)

/-- Where a result row of the gather finds its place. -/
abbrev at1 (q : Fin 65536) : S65536x1.Idx := ix2 q 0

/-- The gather of whole rows, at an index: the row its place names, the place clamped to the array. -/
theorem gather_rows (X : FVec Ideal S69632x1024 .f32) (idx : IVec S65536x1 32) (q : Fin 65536) (k : Fin 1024) :
    (Host.gather gather_S69632x1024_S65536x1_S65536x1024_1_0_n_n_0_1_11024 X idx (ix2 q k) : EReal)
      = X (ix2 ⟨min (idx (at1 q)).toInt.toNat 69631, by omega⟩ k) := by
  unfold Host.gather
  refine congrArg X (funext fun a => Fin.ext ?_)
  show GatherDims.start _ (ix2 q k) idx a + GatherDims.batchCoord _ (ix2 q k) a + GatherDims.offCoord _ (ix2 q k) a = _
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S69632x1024_S65536x1_S65536x1024_1_0_n_n_0_1_11024.startIndexMap from List.mem_singleton.mpr rfl)]
    have hsi : gather_S69632x1024_S65536x1_S65536x1024_1_0_n_n_0_1_11024.siIdx (ix2 q k)
        ⟨List.idxOf (0 : Fin 2) gather_S69632x1024_S65536x1_S65536x1024_1_0_n_n_0_1_11024.startIndexMap, List.idxOf_lt_length_iff.2 (List.mem_singleton.mpr rfl)⟩ = at1 q := by
      funext b; refine Fin.ext ?_
      match b with
      | ⟨0, _⟩ => rfl
      | ⟨1, _⟩ => rfl
    rw [hsi]
    rfl
  · rw [GatherDims.batchCoord_eq_zero _ _ _ List.not_mem_nil]
    have hs : GatherDims.start gather_S69632x1024_S65536x1_S65536x1024_1_0_n_n_0_1_11024 (ix2 q k) idx (1 : Fin 2) = 0 := by
      unfold GatherDims.start
      rw [dif_neg (by decide)]
    rw [hs]
    simp only [Nat.zero_add, Nat.add_zero]
    unfold GatherDims.offCoord
    rw [dif_pos (by decide)]
    rfl

section
variable {x0 : IVec S65536 32} (hx : Rows x0) (x1 : FVec Ideal S32768x1024 .f32) (x2 : FVec Ideal S32768x2 .f32) (x3 : FVec Ideal S557056x128 .f32) (x4 : FVec Ideal S1024 .f32)

/-- A place below the array's end is not wrapped. -/
theorem place_apply (hx : Rows x0) (q : Fin 65536) : (val_main_v6 (F := Ideal) x0 (at1 q)).toInt.toNat = (x0 (ix1 q)).toNat := by
  have hq := hx (ix1 q)
  rw [val_main_v6_apply, val_main_v5_apply, val_main_v2_apply]
  have e : idx_main_v6 (at1 q) = ix1 q := funext fun a => match a with | ⟨0, _⟩ => rfl
  rw [e]
  have hlt : IntOp.cmpi .slt (x0 (ix1 q)) (val_main_v1 (F := Ideal) (ix1 q)) = 0#1 := by
    show BitVec.ofBool (BitVec.slt (x0 (ix1 q)) 0#32) = 0#1
    rw [BitVec.slt_eq_decide, show (0#32 : BitVec 32).toInt = 0 from by decide, BitVec.toInt_eq_toNat_cond, if_pos (by omega),
      decide_eq_false (by omega)]
    rfl
  rw [hlt]
  show (x0 (ix1 q)).toInt.toNat = _
  rw [BitVec.toInt_eq_toNat_cond, if_pos (by omega)]
  omega

/-- The gathered rows are the rows the places name. -/
theorem rows_at (hx : Rows x0) (q : Fin 65536) (k : Fin 1024) : (val_main_v7 (F := Ideal) x0 x3 (ix2 q k) : EReal) = erow x0 x3 q k := by
  have hq := hx (ix1 q)
  unfold val_main_v7
  refine (gather_rows _ _ q k).trans ?_
  rw [val_main_v0_apply]
  unfold erow
  refine congrArg x3 (funext fun a => Fin.ext ?_)
  have hp := place_apply hx q
  match a with
  | ⟨0, _⟩ =>
    show (min (val_main_v6 (F := Ideal) x0 (at1 q)).toInt.toNat 69631 * 1024 + k.val) / 128 = (8 * (x0 (ix1 q)).toNat + k.val / 128) % 557056
    rw [hp]; omega
  | ⟨1, _⟩ =>
    show (min (val_main_v6 (F := Ideal) x0 (at1 q)).toInt.toNat 69631 * 1024 + k.val) % 128 = k.val % 128
    omega

theorem first_at (hx : Rows x0) (R : Fin 32768) (k : Fin 1024) : (val_main_v12 (F := Ideal) x0 x3 (ix2 R k) : EReal) = erow x0 x3 ⟨2 * R.val, by omega⟩ k := by
  rw [val_main_v12_apply, val_main_v11_apply, val_main_v8_apply]
  refine Eq.trans (congrArg (val_main_v7 (F := Ideal) x0 x3) (funext fun a => Fin.ext ?_)) (rows_at x3 hx ⟨2 * R.val, by omega⟩ k)
  match a with
  | ⟨0, _⟩ => show (((R.val * 1024 + k.val) / 1024 * 2 + 0) * 1024 + (R.val * 1024 + k.val) % 1024) / 1024 = 2 * R.val; omega
  | ⟨1, _⟩ => show (((R.val * 1024 + k.val) / 1024 * 2 + 0) * 1024 + (R.val * 1024 + k.val) % 1024) % 1024 = k.val; omega
theorem second_at (hx : Rows x0) (R : Fin 32768) (k : Fin 1024) : (val_main_v18 (F := Ideal) x0 x3 (ix2 R k) : EReal) = erow x0 x3 ⟨2 * R.val + 1, by omega⟩ k := by
  rw [val_main_v18_apply, val_main_v17_apply, val_main_v8_apply]
  refine Eq.trans (congrArg (val_main_v7 (F := Ideal) x0 x3) (funext fun a => Fin.ext ?_)) (rows_at x3 hx ⟨2 * R.val + 1, by omega⟩ k)
  match a with
  | ⟨0, _⟩ => show (((R.val * 1024 + k.val) / 1024 * 2 + (1 + 0)) * 1024 + (R.val * 1024 + k.val) % 1024) / 1024 = 2 * R.val + 1; omega
  | ⟨1, _⟩ => show (((R.val * 1024 + k.val) / 1024 * 2 + (1 + 0)) * 1024 + (R.val * 1024 + k.val) % 1024) % 1024 = k.val; omega

theorem w0_at (R : Fin 32768) (k : Fin 1024) : (val_main_v13 (F := Ideal) x2 (ix2 R k) : EReal) = x2 (ix2 R 0) := by
  rw [val_main_v13_apply, val_main_v10_apply]
  exact congrArg x2 (funext fun a => Fin.ext (match a with | ⟨0, _⟩ => rfl | ⟨1, _⟩ => rfl))
theorem w1_at (R : Fin 32768) (k : Fin 1024) : (val_main_v19 (F := Ideal) x2 (ix2 R k) : EReal) = x2 (ix2 R 1) := by
  rw [val_main_v19_apply, val_main_v16_apply]
  exact congrArg x2 (funext fun a => Fin.ext (match a with | ⟨0, _⟩ => rfl | ⟨1, _⟩ => rfl))

/-- A token's row before the norm. -/
theorem mix_at (hx : Rows x0) (R : Fin 32768) (k : Fin 1024) :
    (val_main_v22 (F := Ideal) x0 x1 x2 x3 (ix2 R k) : EReal)
      = mix (fun k => x1 (ix2 R k)) (x2 (ix2 R 0)) (x2 (ix2 R 1)) (erow x0 x3 ⟨2 * R.val, by omega⟩) (erow x0 x3 ⟨2 * R.val + 1, by omega⟩) k := by
  have hz : (val_main_v9 (F := Ideal) (ix2 R k) : EReal) = 0 := Ideal.ofBits_zero_f32
  show (x1 (ix2 R k) : EReal) + ((val_main_v9 (F := Ideal) (ix2 R k) + val_main_v13 (F := Ideal) x2 (ix2 R k) * val_main_v12 (F := Ideal) x0 x3 (ix2 R k))
    + val_main_v19 (F := Ideal) x2 (ix2 R k) * val_main_v18 (F := Ideal) x0 x3 (ix2 R k)) = _
  rw [hz, zero_add, w0_at, w1_at, first_at x3 hx, second_at x3 hx]
  rfl

/-- The norm of any rows. -/
theorem norm_at (R : Fin 32768) (l : Fin 1024) :
    (val_main_v35 (F := Ideal) x0 x1 x2 x3 x4 (ix2 R l) : EReal)
      = out (fun k => val_main_v22 (F := Ideal) x0 x1 x2 x3 (ix2 R k)) (fun k => x4 (ix1 k)) l := by
  unfold val_main_v35 val_main_v34 val_main_v33 val_main_v32 val_main_v31 val_main_v30 val_main_v29 val_main_v28 val_main_v27 val_main_v26 val_main_v25 val_main_v24 val_main_v23
  generalize val_main_v22 (F := Ideal) x0 x1 x2 x3 = u
  pointwise [val_main_cst_1, val_main_cst_2, val_main_cst_3, out, inv]

/-- The reference's row `R`. -/
theorem ref_apply (hx : Rows x0) (R : Fin 32768) (l : Fin 1024) :
    (val_main_v35 (F := Ideal) x0 x1 x2 x3 x4 (ix2 R l) : EReal)
      = out (mix (fun k => x1 (ix2 R k)) (x2 (ix2 R 0)) (x2 (ix2 R 1)) (erow x0 x3 ⟨2 * R.val, by omega⟩) (erow x0 x3 ⟨2 * R.val + 1, by omega⟩)) (fun k => x4 (ix1 k)) l :=
  (norm_at x1 x2 x3 x4 R l).trans (congrArg (fun u => out u _ l) (funext fun k => mix_at x1 x2 x3 hx R k))

end

end Cert.Proof.Cmb

end
-- ==== Proof.Cmb.Value.lean ====
/-
The combination's result array: what each point leaves is its 1024 rows of the reference, and the points make up the array.
-/
module

public import proofs.«01_k».proof.Proof.Cmb.Ref
public import Idealize.ShloMosaic.Lib.KernelVsHost

@[expose] public section

set_option maxRecDepth 16384

noncomputable section

namespace Cert.Proof.Cmb

open Idealize.ShloMosaic Idealize.ShloMosaic.TcCoe Idealize.SL.Sem
open Idealize.ShloMosaic.Pipeline (Dat)
open Cert.CombineIdeal Cert.CombineIdeal.Gen Cert.CombineIdeal.Cmb

/-! ## The blocks, for any table -/

section Blocks
variable {F : FTy → Type} [FloatOps F] (a : (pcfg0 (F := F)).Adm)

/-- The grid's point as a number. -/
theorem coord (t : Fin grid0.N) : (grid0.coords t 0).val = t.val := (by decide +kernel : ∀ t : Fin grid0.N, (grid0.coords t 0).val = t.val) t

/-- A point's block of the residual stream, -/
theorem h_read (t : Fin (cfg0 a).N) (X : Vec F S32768x1024 .f32) (r k : Fin 1024) (h : 1024 * t.val + r.val < 32768) :
    (((cfg0 a).win 0).blk t).view.read (Elt F) X (ix2 r k) = X (ix2 ⟨1024 * t.val + r.val, h⟩ k) := by
  show X _ = X _
  refine congrArg X (funext fun b => Fin.ext ?_)
  match b with
  | ⟨0, _⟩ =>
    show (BitVec.ofNat 32 (grid0.coords t 0).val).toNat * 1024 + 1 * r.val = 1024 * t.val + r.val
    rw [coord, BitVec.toNat_ofNat]; have : t.val < 32 := t.isLt; omega
  | ⟨1, _⟩ => show 0 * 1024 + 1 * k.val = k.val; omega
/-- of the padded weights, -/
theorem rw_read (t : Fin (cfg0 a).N) (X : Vec F S32768x128 .f32) (r : Fin 1024) (k : Fin 128) (h : 1024 * t.val + r.val < 32768) :
    (((cfg0 a).win 1).blk t).view.read (Elt F) X (ix2 r k) = X (ix2 ⟨1024 * t.val + r.val, h⟩ k) := by
  show X _ = X _
  refine congrArg X (funext fun b => Fin.ext ?_)
  match b with
  | ⟨0, _⟩ =>
    show (BitVec.ofNat 32 (grid0.coords t 0).val).toNat * 1024 + 1 * r.val = 1024 * t.val + r.val
    rw [coord, BitVec.toNat_ofNat]; have : t.val < 32 := t.isLt; omega
  | ⟨1, _⟩ => show 0 * 128 + 1 * k.val = k.val; omega
/-- of the gain, which is all of it, -/
theorem g_read (t : Fin (cfg0 a).N) (X : Vec F S1x1024 .f32) (k : Fin 1024) :
    (((cfg0 a).win 2).blk t).view.read (Elt F) X (ix2 0 k) = X (ix2 0 k) := by
  show X _ = X _
  refine congrArg X (funext fun b => Fin.ext ?_)
  match b with
  | ⟨0, _⟩ => rfl
  | ⟨1, _⟩ => show 0 * 1024 + 1 * k.val = k.val; omega
/-- and of the result. -/
theorem out_read (t : Fin (cfg0 a).N) (X : Vec F S32768x1024 .f32) (r k : Fin 1024) (h : 1024 * t.val + r.val < 32768) :
    (((cfg0 a).win 3).blk t).view.read (Elt F) X (ix2 r k) = X (ix2 ⟨1024 * t.val + r.val, h⟩ k) := by
  show X _ = X _
  refine congrArg X (funext fun b => Fin.ext ?_)
  match b with
  | ⟨0, _⟩ =>
    show (BitVec.ofNat 32 (grid0.coords t 0).val).toNat * 1024 + 1 * r.val = 1024 * t.val + r.val
    rw [coord, BitVec.toNat_ofNat]; have : t.val < 32 := t.isLt; omega
  | ⟨1, _⟩ => show 0 * 1024 + 1 * k.val = k.val; omega
/-- Every index lies in the block of its own point. -/
theorem out_mem (i : S32768x1024.Idx) (t : Fin (cfg0 a).N) (ht : t.val = (i 0).val / 1024) : i ∈ (((cfg0 a).win 3).blk t).view.set := by
  have h0 : (i 0 : Nat) < 32768 := (i 0).isLt
  have h1 : (i 1 : Nat) < 1024 := (i 1).isLt
  have hy : (i 0 : Nat) % 1024 < 1024 := by omega
  refine Eq.subst (motive := fun j => j ∈ (((cfg0 a).win 3).blk t).view.set) ?_
    (View.emb_mem_set (((cfg0 a).win 3).blk t).view (ix2 (n0 := 1024) (n1 := 1024) ⟨(i 0 : Nat) % 1024, hy⟩ ⟨(i 1 : Nat), h1⟩))
  refine funext fun b => Fin.ext ?_
  match b with
  | ⟨0, _⟩ =>
    show (BitVec.ofNat 32 (grid0.coords t 0).val).toNat * 1024 + 1 * ((i 0).val % 1024) = (i 0).val
    rw [coord, BitVec.toNat_ofNat]; omega
  | ⟨1, _⟩ => show 0 * 1024 + 1 * (i 1).val = (i 1).val; omega

end Blocks

/-! ## What they hold -/

/-- The padded weights at a token's two, -/
theorem padded_apply (w : FVec Ideal S32768x2 .f32) (v : FVec Ideal S_ .f32) (R : Fin 32768) (k : Fin 2) :
    (pad S32768x128 ![0, 0] ![0, 126] ![0, 0] w v pads_S32768x2_S32768x128_000_01260 h_S_ (ix2 (n0 := 32768) (n1 := 128) R ⟨k.val, by omega⟩) : EReal) = w (ix2 R k) :=
  pad_apply_of_inside _ _ _ w v _ _ _ (ix2 R k) fun b => match b with
    | ⟨0, _⟩ => by show R.val = 0 + R.val * (0 + 1); omega
    | ⟨1, _⟩ => by show k.val = 0 + k.val * (0 + 1); omega
/-- and the gain's row. -/
theorem gain_apply (g : FVec Ideal S1024 .f32) (k : Fin 1024) :
    (broadcastInDim S1x1024 ![1] bcast_S1024_S1x1024_1 g (ix2 0 k) : EReal) = g (ix1 k) := by
  pointwise

/-- Row `r`'s piece of the first buffer is the row its token's first place names, -/
theorem gath0_apply (x : IVec S65536 32) (Y : FVec Ideal S557056x128 .f32) (w : Fin k0_t1_loop.trips → BitVec 32) (hx : Rows x) (q : Fin 65536) (r k : Fin 1024)
    (hw : ∀ j : Fin k0_t1_loop.trips, j.val = r.val → w j = x (ix1 q)) :
    (gath0 (F := Ideal) w Y (ix2 (n0 := 8192) (n1 := 128) ⟨8 * r.val + k.val / 128, by omega⟩ ⟨k.val % 128, by omega⟩) : EReal) = erow x Y q k := by
  have hb : (blkOf (ix2 (n0 := 8192) (n1 := 128) ⟨8 * r.val + k.val / 128, by omega⟩ ⟨k.val % 128, by omega⟩)).val = r.val := by
    show (8 * r.val + k.val / 128) / 8 = r.val; omega
  unfold erow
  refine congrArg Y (funext fun a => Fin.ext ?_)
  match a with
  | ⟨0, _⟩ =>
    show (k0_off3 (w (blkOf (ix2 (n0 := 8192) (n1 := 128) ⟨8 * r.val + k.val / 128, by omega⟩ ⟨k.val % 128, by omega⟩))) 0 + (8 * r.val + k.val / 128) % 8) % 557056 = (8 * (x (ix1 q)).toNat + k.val / 128) % 557056
    rw [hw _ hb, off3_at _ (hx _)]
    have := hx (ix1 q); omega
  | ⟨1, _⟩ => rfl
/-- and of the second the row its second place names. -/
theorem gath1_apply (x : IVec S65536 32) (Y : FVec Ideal S557056x128 .f32) (w : Fin k0_t1_loop.trips → BitVec 32) (hx : Rows x) (q : Fin 65536) (r k : Fin 1024)
    (hw : ∀ j : Fin k0_t1_loop.trips, j.val = r.val → w j = x (ix1 q)) :
    (gath1 (F := Ideal) w Y (ix2 (n0 := 8192) (n1 := 128) ⟨8 * r.val + k.val / 128, by omega⟩ ⟨k.val % 128, by omega⟩) : EReal) = erow x Y q k := by
  have hb : (blkOf (ix2 (n0 := 8192) (n1 := 128) ⟨8 * r.val + k.val / 128, by omega⟩ ⟨k.val % 128, by omega⟩)).val = r.val := by
    show (8 * r.val + k.val / 128) / 8 = r.val; omega
  unfold erow
  refine congrArg Y (funext fun a => Fin.ext ?_)
  match a with
  | ⟨0, _⟩ =>
    show (k0_off6 (w (blkOf (ix2 (n0 := 8192) (n1 := 128) ⟨8 * r.val + k.val / 128, by omega⟩ ⟨k.val % 128, by omega⟩))) 0 + (8 * r.val + k.val / 128) % 8) % 557056 = (8 * (x (ix1 q)).toNat + k.val / 128) % 557056
    rw [hw _ hb, off6_at _ (hx _)]
    have := hx (ix1 q); omega
  | ⟨1, _⟩ => rfl

variable (m : (ℓ : Loc nD τ sig) → Buf (Elt Ideal) ℓ)

theorem h_apply (c : Dev nD) (t : Fin (cfgM m).N) (r k : Fin 1024) (h : 1024 * t.val + r.val < 32768) :
    iblk m c 0 t (ix2 r k) = (m ((c : Thread nD τ).loc main_arg1) : S32768x1024.Idx → EReal) (ix2 ⟨1024 * t.val + r.val, h⟩ k) :=
  (h_read (adm m) t (V m c main_arg1) r k h).trans (congrFun (V_arg1 m c) _)
theorem w_apply (c : Dev nD) (t : Fin (cfgM m).N) (r : Fin 1024) (k : Fin 2) (h : 1024 * t.val + r.val < 32768) :
    iblk m c 1 t (ix2 (n0 := 1024) (n1 := 128) r ⟨k.val, by omega⟩) = (m ((c : Thread nD τ).loc main_arg2) : S32768x2.Idx → EReal) (ix2 ⟨1024 * t.val + r.val, h⟩ k) :=
  (rw_read (adm m) t (V m c main_v0) r ⟨k.val, by omega⟩ h).trans ((congrFun (V_rw m c) _).trans (padded_apply _ _ _ k))
theorem g_apply (c : Dev nD) (t : Fin (cfgM m).N) (k : Fin 1024) :
    iblk m c 2 t (ix2 0 k) = (m ((c : Thread nD τ).loc main_arg4) : S1024.Idx → EReal) (ix1 k) :=
  (g_read (adm m) t (V m c main_v1) k).trans ((congrFun (V_g m c) _).trans (gain_apply _ k))

/-! ## The array -/

/-- The reference's result of the launch contents of the arguments. -/
abbrev G (c : Dev nD) : FVec Ideal S32768x1024 .f32 :=
  Cert.CombineRefIdeal.Read.val_main_v35 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a point leaves is its rows of the reference. -/
theorem out_eq (hx : Rows (places m)) (t : Fin (cfgM m).N) (r l : Fin 1024) (h : 1024 * t.val + r.val < 32768) :
    (outAt m 0 t (ix2 r l) : EReal) = G m 0 (ix2 (n0 := 32768) (n1 := 1024) ⟨1024 * t.val + r.val, h⟩ l) := by
  have ht : t.val < 32 := t.isLt
  refine Eq.trans ?_ (ref_apply (x0 := places m) _ _ _ _ hx ⟨1024 * t.val + r.val, h⟩ l).symm
  unfold outAt
  refine (blk_apply _ _ _ _ _ r l).trans ?_
  congr 1
  · congr 1
    · funext k; exact h_apply m 0 t r k h
    · exact w_apply m 0 t r 0 h
    · exact w_apply m 0 t r 1 h
    · funext k
      rw [V_arg3]
      refine gath0_apply (places m) _ _ hx ⟨2 * (1024 * t.val + r.val), by omega⟩ r k fun j hj => word0_eq m _ j _ ?_
      show 2 * (1024 * t.val + r.val) = 2048 * (grid0.coords t 0).val + 2 * j.val
      rw [coord t, hj]; omega
    · funext k
      rw [V_arg3]
      refine gath1_apply (places m) _ _ hx ⟨2 * (1024 * t.val + r.val) + 1, by omega⟩ r k fun j hj => word1_eq m _ j _ ?_
      show 2 * (1024 * t.val + r.val) + 1 = 2048 * (grid0.coords t 0).val + 2 * j.val + 1
      rw [coord t, hj]; omega
  · funext k; exact g_apply m 0 t k

theorem flushed_eq (hx : Rows (places m)) (t : Fin (cfgM m).N) :
    (dats m 0 0).flushed 3 t = (((cfgM m).win 3).blk t).view.read (Elt Ideal) (G m 0) := by
  refine (after3 m 0 t).trans ?_
  have ht : t.val < 32 := t.isLt
  refine funext fun (z : S1024x1024.Idx) => ?_
  obtain ⟨r, l, rfl⟩ : ∃ (r l : Fin 1024), z = ix2 r l := ⟨z 0, z 1, eq_ix2 (n0 := 1024) (n1 := 1024) z⟩
  exact (out_eq m hx t r l (by omega)).trans (out_read (adm m) t (G m 0) r l (by omega)).symm

theorem cover (i : S32768x1024.Idx) :
    ∃ t : Fin (cfgM m).N, ((cfgM m).win 3).flush t = true ∧ i ∈ (((cfgM m).win 3).blk t).view.set := by
  have h0 : (i 0 : Nat) < 32768 := (i 0).isLt
  have ht : (i 0 : Nat) / 1024 < 32 := by omega
  exact ⟨⟨_, ht⟩, flush3 (adm m) _, out_mem (adm m) i ⟨_, ht⟩ rfl⟩

theorem final (hx : Rows (places m)) : (dats m 0 0).arrAt 3 (cfgM m).N = G m 0 :=
  (dats m 0 0).arrAt_eq_of_cover 3 (G m 0) (fun t _ => flushed_eq m hx t) (cover m)

end Cert.Proof.Cmb

end
-- ==== Proof.Cmb.Claims.lean ====
/-
The combination's claims. What the precondition says of the places in words is that each is a row.
-/
module

public import proofs.«01_k».proof.Proof.Cmb.Value
public import proofs.«01_k».proof.Defs
public import proofs.«01_k».proof.Proof.CmbBits.Words
public import proofs.«01_k».proof.Proof.Gen.CombineRefIdeal.Run
public import proofs.«01_k».proof.Proof.Gen.Pre_rows_in
public import Idealize.ShloMosaic.Lib.ReduceAll
public import Idealize.ShloMosaic.Lib.Quiescent

@[expose] public section

set_option maxRecDepth 16384

noncomputable section

namespace Cert.Proof.Cmb

open Idealize.ShloMosaic Idealize.ShloMosaic.TcCoe Idealize.SL.Sem
open Cert.CombineIdeal.Cmb (Rows places good run_quiescent)

/-- A word from zero to below 69632, signed, is a number below 69632. -/
theorem lt_of_words (w : BitVec 32) (h0 : IntOp.cmpi .sge w 0#32 = 1#1) (h1 : IntOp.cmpi .slt w 69632#32 = 1#1) : w.toNat < 69632 := by
  have e0 : BitVec.sle 0#32 w = true := by
    cases h : BitVec.sle 0#32 w
    · exact absurd h0 (by show ¬ BitVec.ofBool (BitVec.sle 0#32 w) = 1#1; rw [h]; decide)
    · rfl
  have e1 : BitVec.slt w 69632#32 = true := by
    cases h : BitVec.slt w 69632#32
    · exact absurd h1 (by show ¬ BitVec.ofBool (BitVec.slt w 69632#32) = 1#1; rw [h]; decide)
    · rfl
  rw [BitVec.sle_eq_decide, decide_eq_true_eq] at e0
  rw [BitVec.slt_eq_decide, decide_eq_true_eq] at e1
  have hw := w.isLt
  have z0 : (0#32 : BitVec 32).toInt = 0 := by decide
  have z1 : (69632#32 : BitVec 32).toInt = 69632 := by decide
  rw [z0] at e0
  rw [z1] at e1
  rw [BitVec.toInt_eq_toNat_cond] at e0 e1
  split at e0 <;> omega

/-- The precondition is `Rows`. -/
theorem rows_of_pre {F : FTy → Type} [FloatOps F] (x0 : IVec Cert.Pre_rows_in.S65536 32) (x1 : FVec F Cert.Pre_rows_in.S32768x1024 .f32)
    (x2 : FVec F Cert.Pre_rows_in.S32768x2 .f32) (x3 : FVec F Cert.Pre_rows_in.S557056x128 .f32) (x4 : FVec F Cert.Pre_rows_in.S1024 .f32)
    (h : Cert.Pre_rows_in.fn (F := F) x0 x1 x2 x3 x4 = fun _ => 1#1) : ∀ j, (x0 j).toNat < 69632 := by
  have h' := congrFun h ValueIdx.ix0
  unfold Cert.Pre_rows_in.fn at h'
  obtain ⟨h1, h2⟩ := IntOp.andi_eq_one.1 h'
  intro j
  haveI : Subsingleton Cert.Pre_rows_in.S_.Idx := ⟨fun a b => funext fun i => i.elim0⟩
  exact lt_of_words _ (Host.reduce_andi_all _ _ _ _ _ h1 j) (Host.reduce_andi_all _ _ _ _ _ h2 j)

theorem frame : Cert.quiescent_Combine := fun m ρ hp =>
  Cert.Combine.Cmb.frame (F := Bits) m ρ (Cert.Combine.Cmb.good m (rows_of_pre _ _ _ _ _ (hp 0)))

theorem frame_ideal : Cert.quiescent_CombineIdeal := fun m ρ hp =>
  Cert.CombineIdeal.Cmb.frame (F := Ideal) m ρ (good m (rows_of_pre _ _ _ _ _ (hp 0)))

theorem frame_ref : Cert.quiescent_CombineRefIdeal := fun m ρ _ =>
  (θ_run Cert.CombineRefIdeal.defs _ _).mono (fun r h => ⟨fun c => (h c).2,
      Idealize.ShloMosaic.sem_eq_zero_of_no_sems (by decide) r.2⟩)
    (Cert.CombineRefIdeal.Value.run (F := Ideal) m ρ)

/-- Both programs end with the reference's function of the arguments. -/
theorem algebraic : Cert.algebraic_CombineIdeal_CombineRefIdeal := by
  intro m ρ m' ρ' hp hagree
  have hx : Rows (places m) := rows_of_pre _ _ _ _ _ (hp 0)
  refine ⟨fun c => G m c, ?_, ?_⟩
  · refine (θ_run Cert.CombineIdeal.defs _ _).mono (fun r h c => ⟨?_, Cert.CombineIdeal.Cmb.args_of m h.1 c⟩) (run_quiescent (F := Ideal) m ρ (good m hx))
    obtain rfl : c = 0 := Subsingleton.elim _ _
    exact ((h.1 0).1 3).trans (final m hx)
  refine (θ_run Cert.CombineRefIdeal.defs _ _).mono (fun _ h c => ⟨(h c).1.trans ?_, (h c).2⟩)
    (Cert.CombineRefIdeal.Value.run (F := Ideal) m' ρ')
  refine (Cert.CombineRefIdeal.Read.val_main_v35_eq m' c).trans ?_
  rw [(hagree c).1, (hagree c).2.1, (hagree c).2.2.1, (hagree c).2.2.2.1, (hagree c).2.2.2.2]

end Cert.Proof.Cmb

end
-- ==== Proof.Conv.Outs.lean ====
/-
  What the body leaves in the result's block and in the carried rows, as terms of the blocks it reads: at a batch's first
  tile the carried rows are zeros, at a later tile they are what the tile before left.
-/
module

public import proofs.«01_k».proof.Proof.Gen.ConvIdeal.Value
public import Idealize.ShloMosaic.Lib.WholeRead

@[expose] public section

set_option maxRecDepth 16384

noncomputable section

namespace Cert.Proof.Conv

open Idealize.ShloMosaic Idealize.ShloMosaic.TcCoe Idealize.SL.Sem
open Cert.ConvIdeal Cert.ConvIdeal.Gen

variable {F : FTy → Type} [FloatOps F]

theorem hz2 : (![0, 0] : Fin 2 → Nat) = fun _ => 0 := funext fun a => by fin_cases a <;> rfl

/-- The columns of the input projection from `o` on. -/
def cols (o : Nat) (h : ∀ a, (![0, o] : Fin 2 → Nat) a + S1024x1024.size a ≤ S1024x3072.size a) (w : Vec F S1024x3072 .bf16) : Vec F S1024x1024 .bf16 :=
  View.ld w (Rect.unit (s := S1024x3072) ![0, o] S1024x1024.size h)

/-- A row of the convolution's weights. -/
def tapRow (o : Nat) (h : ∀ a, (![o, 0] : Fin 2 → Nat) a + S1x1024.size a ≤ S3x1024.size a) (w : Vec F S3x1024 .f32) : Vec F S1x1024 .f32 :=
  View.ld w (Rect.unit (s := S3x1024) ![o, 0] S1x1024.size h)

/-- The result's block, from the carried rows `T`. -/
def blkOut (x0 : Vec F S1024x1024 .f32) (x1 : Vec F S1x1024 .f32) (x2 : Vec F S1024x3072 .bf16) (x3 : Vec F S3x1024 .f32)
    (x4 : Vec F S1024x1024 .bf16) (T : Vec F S8x1024 .f32) : Vec F S1024x1024 .f32 :=
  k0_pay1 x0 (k0_pay4 x0 x1 (cols 0 inb_S1024x3072_S1024x1024_0_0 x2))
    (k0_pay6 x0 x1 (cols 1024 inb_S1024x3072_S1024x1024_0_1024 x2) (cols 2048 inb_S1024x3072_S1024x1024_0_2048 x2) T)
    (tapRow 0 inb_S3x1024_S1x1024_0_0 x3) (tapRow 1 inb_S3x1024_S1x1024_1_0 x3) (tapRow 2 inb_S3x1024_S1x1024_2_0 x3) x4

/-- The rows it carries on. -/
def blkTail (x0 : Vec F S1024x1024 .f32) (x1 : Vec F S1x1024 .f32) (x2 : Vec F S1024x3072 .bf16) : Vec F S8x1024 .f32 :=
  k0_pay7 x0 x1 (cols 1024 inb_S1024x3072_S1024x1024_0_1024 x2) (cols 2048 inb_S1024x3072_S1024x1024_0_2048 x2)

/-- A load of a buffer that holds `x` reads `x` through its box. -/
theorem load_ld {s : Shape} {e : EltTy} {M : Memref sig .tc .vmem s e} (hM : M.IsWhole) (x : Vec F s e) (r : Rect s) :
    View.readAt (Elt F) M.view r.toLoadRect (hM.unread x) = View.ld x r := by
  funext j
  rw [Memref.IsWhole.readAt_unread]

section

variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S1024x3072 .bf16) (harg4 : arg4.IsWhole)
  (arg5 : Memref sig .tc .vmem S3x1024 .f32) (harg5 : arg5.IsWhole) (arg6 : Memref sig .tc .vmem S1024x1024 .bf16) (harg6 : arg6.IsWhole)
  (arg7 : Memref sig .tc .vmem S1024x1024 .f32) (harg7 : arg7.IsWhole) (arg8 : Memref sig .tc .vmem S8x1024 .f32) (harg8 : arg8.IsWhole)
  (x0 : Vec F S1024x1024 .f32) (x1 : Vec F S1x1024 .f32) (x2 : Vec F S1024x3072 .bf16) (x3 : Vec F S3x1024 .f32) (x4 : Vec F S1024x1024 .bf16)

set_option maxHeartbeats 1000000 in
theorem out_A (hc0 : cond0_0 i) :
    out0_A_5 c i arg2 harg2 arg3 harg3 arg4 harg4 arg5 harg5 arg6 harg6 arg7 harg7 arg8 harg8 hc0 x0 x1 x2 x3 x4
      = blkOut x0 x1 x2 x3 x4 k0_pay2 := by
  unfold out0_A_5
  rw [View.read_writes_junk_eq_canon]
  unfold kernelRun0_A
  refine (View.canon_unit_zero hz2 inb_S1024x1024_S1024x1024_0_0 _).trans ?_
  sl_unfold_run_names
  simp only [load_ld]
  rw [View.ld_unit_zero (S := S1024x1024) hz2 inb_S1024x1024_S1024x1024_0_0 x0, View.ld_unit_zero (S := S1x1024) hz2 inb_S1x1024_S1x1024_0_0 x1,
    View.ld_unit_zero (S := S1024x1024) hz2 inb_S1024x1024_S1024x1024_0_0 x4, View.readCov_cons_toLoadRect]
  rfl

set_option maxHeartbeats 1000000 in
theorem out_B (hc0 : ¬cond0_0 i) (T : Vec F S8x1024 .f32) :
    out0_B_5 c i arg2 harg2 arg3 harg3 arg4 harg4 arg5 harg5 arg6 harg6 arg7 harg7 arg8 harg8 hc0 x0 x1 x2 x3 x4 T
      = blkOut x0 x1 x2 x3 x4 T := by
  unfold out0_B_5
  rw [View.read_writes_junk_eq_canon]
  unfold kernelRun0_B
  refine (View.canon_unit_zero hz2 inb_S1024x1024_S1024x1024_0_0 _).trans ?_
  sl_unfold_run_names
  simp only [load_ld]
  rw [View.ld_unit_zero (S := S1024x1024) hz2 inb_S1024x1024_S1024x1024_0_0 x0, View.ld_unit_zero (S := S1x1024) hz2 inb_S1x1024_S1x1024_0_0 x1,
    View.ld_unit_zero (S := S1024x1024) hz2 inb_S1024x1024_S1024x1024_0_0 x4, View.ld_unit_zero (S := S8x1024) hz2 inb_S8x1024_S8x1024_0_0 T]
  rfl

set_option maxHeartbeats 1000000 in
theorem tail_A (hc0 : cond0_0 i) :
    sout0_A_0 c i arg2 harg2 arg3 harg3 arg4 harg4 arg5 harg5 arg6 harg6 arg7 harg7 arg8 harg8 hc0 x0 x1 x2 x3 x4
      = blkTail x0 x1 x2 := by
  unfold sout0_A_0
  rw [View.read_writes_junk_eq_canon]
  unfold kernelRun0_A
  refine (View.canon_cons_unit_zero (S := S8x1024) hz2 inb_S8x1024_S8x1024_0_0 _ _).trans ?_
  sl_unfold_run_names
  simp only [load_ld]
  rw [View.ld_unit_zero (S := S1024x1024) hz2 inb_S1024x1024_S1024x1024_0_0 x0, View.ld_unit_zero (S := S1x1024) hz2 inb_S1x1024_S1x1024_0_0 x1]
  rfl

set_option maxHeartbeats 1000000 in
theorem tail_B (hc0 : ¬cond0_0 i) (T : Vec F S8x1024 .f32) :
    sout0_B_0 c i arg2 harg2 arg3 harg3 arg4 harg4 arg5 harg5 arg6 harg6 arg7 harg7 arg8 harg8 hc0 x0 x1 x2 x3 x4 T
      = blkTail x0 x1 x2 := by
  unfold sout0_B_0
  rw [View.read_writes_junk_eq_canon]
  unfold kernelRun0_B
  refine (View.canon_unit_zero hz2 inb_S8x1024_S8x1024_0_0 _).trans ?_
  sl_unfold_run_names
  simp only [load_ld]
  rw [View.ld_unit_zero (S := S1024x1024) hz2 inb_S1024x1024_S1024x1024_0_0 x0, View.ld_unit_zero (S := S1x1024) hz2 inb_S1x1024_S1x1024_0_0 x1]
  rfl

end

end Cert.Proof.Conv

end
-- ==== Proof.Conv.Pure.lean ====
/-
  The short convolution's payloads at an index. `lin` is one entry of the normalised row times a weight column; the
  convolved rows are those of a block with the eight rows carried from the block before put in front of it.
-/
module

public import proofs.«01_k».proof.Proof.Gen.ConvIdeal.Value
public import Idealize.ShloMosaic.Lib.Pointwise

@[expose] public section

set_option maxRecDepth 16384

noncomputable section

namespace Cert.Proof.Conv

open Idealize.ShloMosaic Idealize.ShloMosaic.TcCoe Idealize.SL.Sem
open Cert.ConvIdeal Cert.ConvIdeal.Gen

/-- The reciprocal root mean square of a row of length 1024. -/
def scale (x : Fin 1024 → EReal) : EReal :=
  Ideal.rsqrt (Ideal.div (∑ k, x k * x k) (Ideal.ofBits .f32 0x44800000#32) + Ideal.ofBits .f32 0x358637BD#32)

/-- A normalised row times a weight column. -/
def lin (x g w : Fin 1024 → EReal) : EReal := ∑ k, (x k * scale x * g k) * w k

theorem pay3_apply (x : FVec Ideal S1024x1024 .f32) (g : FVec Ideal S1x1024 .f32) (r k : Fin 1024) :
    (k0_pay3 (F := Ideal) x g (ix2 r k) : EReal) = (x (ix2 r k) : EReal) * scale (fun k => x (ix2 r k)) * g (ix2 0 k) := by
  pointwise [k0_pay3, scale]

theorem pay4_apply (x : FVec Ideal S1024x1024 .f32) (g : FVec Ideal S1x1024 .f32) (w : FVec Ideal S1024x1024 .bf16) (r l : Fin 1024) :
    (k0_pay4 (F := Ideal) x g w (ix2 r l) : EReal) = lin (fun k => x (ix2 r k)) (fun k => g (ix2 0 k)) (fun k => w (ix2 k l)) := by
  unfold lin
  simp only [← pay3_apply]
  unfold k0_pay4
  generalize k0_pay3 (F := Ideal) x g = y
  pointwise

theorem pay5_apply (x : FVec Ideal S1024x1024 .f32) (g : FVec Ideal S1x1024 .f32) (u v : FVec Ideal S1024x1024 .bf16) (r l : Fin 1024) :
    (k0_pay5 (F := Ideal) x g u v (ix2 r l) : EReal)
      = lin (fun k => x (ix2 r k)) (fun k => g (ix2 0 k)) (fun k => u (ix2 k l))
        * lin (fun k => x (ix2 r k)) (fun k => g (ix2 0 k)) (fun k => v (ix2 k l)) := by
  unfold lin
  simp only [← pay3_apply]
  unfold k0_pay5
  generalize k0_pay3 (F := Ideal) x g = y
  pointwise

/-- The carried rows, then the block's. -/
theorem pay6_apply (x : FVec Ideal S1024x1024 .f32) (g : FVec Ideal S1x1024 .f32) (u v : FVec Ideal S1024x1024 .bf16)
    (T : FVec Ideal S8x1024 .f32) (i : Fin 1032) (l : Fin 1024) :
    (k0_pay6 (F := Ideal) x g u v T (ix2 i l) : EReal)
      = if h : i.val < 8 then (T (ix2 ⟨i.val, h⟩ l) : EReal) else k0_pay5 (F := Ideal) x g u v (ix2 ⟨i.val - 8, by omega⟩ l) := by
  unfold k0_pay6
  generalize k0_pay5 (F := Ideal) x g u v = y
  pointwise

/-- What is carried: the block's last eight rows. -/
theorem pay7_apply (x : FVec Ideal S1024x1024 .f32) (g : FVec Ideal S1x1024 .f32) (u v : FVec Ideal S1024x1024 .bf16) (i : Fin 8) (l : Fin 1024) :
    (k0_pay7 (F := Ideal) x g u v (ix2 i l) : EReal) = k0_pay5 (F := Ideal) x g u v (ix2 ⟨1016 + i.val, by omega⟩ l) := by
  unfold k0_pay7
  generalize k0_pay5 (F := Ideal) x g u v = y
  pointwise

theorem pay2_apply (i : Fin 8) (l : Fin 1024) : (k0_pay2 (F := Ideal) (ix2 i l) : EReal) = 0 := by
  refine Eq.trans ?_ Ideal.ofBits_zero_f32
  pointwise [k0_pay2]

/-- The stored block from the extended rows `y`. -/
theorem pay1_apply (x b : FVec Ideal S1024x1024 .f32) (y : FVec Ideal S1032x1024 .f32) (c0 c1 c2 : FVec Ideal S1x1024 .f32)
    (w : FVec Ideal S1024x1024 .bf16) (r l : Fin 1024) :
    (k0_pay1 (F := Ideal) x b y c0 c1 c2 w (ix2 r l) : EReal)
      = (x (ix2 r l) : EReal) + ∑ k : Fin 1024, ((b (ix2 r k) : EReal)
          * (((Ideal.ofBits .f32 0x00000000#32 + (c0 (ix2 0 k) : EReal) * y (ix2 ⟨r.val + 6, by omega⟩ k))
            + (c1 (ix2 0 k) : EReal) * y (ix2 ⟨r.val + 7, by omega⟩ k)) + (c2 (ix2 0 k) : EReal) * y (ix2 ⟨r.val + 8, by omega⟩ k)))
          * (w (ix2 k l) : EReal) := by
  have h6 : (⟨r.val + 6, by omega⟩ : Fin 1032) = ⟨(8 + r.val + 1032 - 2) % 1032, by omega⟩ := Fin.ext (by show r.val + 6 = (8 + r.val + 1032 - 2) % 1032; omega)
  have h7 : (⟨r.val + 7, by omega⟩ : Fin 1032) = ⟨(8 + r.val + 1032 - 1) % 1032, by omega⟩ := Fin.ext (by show r.val + 7 = (8 + r.val + 1032 - 1) % 1032; omega)
  have h8 : (⟨r.val + 8, by omega⟩ : Fin 1032) = ⟨8 + r.val, by omega⟩ := Fin.ext (by show r.val + 8 = 8 + r.val; omega)
  rw [h6, h7, h8]
  pointwise [k0_pay1]

end Cert.Proof.Conv

end
-- ==== Proof.Conv.Ref.lean ====
/-
  The reference's short convolution at an index: row `R` of the flat array is row `R % 4096` of batch `R / 4096`, and
  the rows before a batch's first count as zero.
-/
module

public import proofs.«01_k».proof.Proof.Conv.Pure
public import proofs.«01_k».proof.Proof.Gen.ConvRefIdeal.Read
public import Idealize.ShloMosaic.Lib.KernelVsHost

@[expose] public section

set_option maxRecDepth 16384

noncomputable section

namespace Cert.Proof.Conv

open Idealize.ShloMosaic Idealize.ShloMosaic.TcCoe Idealize.SL.Sem
open Cert.ConvRefIdeal Cert.ConvRefIdeal.Read

theorem nrm_apply (x : FVec Ideal S32768x1024 .f32) (g : FVec Ideal S1024 .f32) (b : Fin 8) (t : Fin 4096) (k : Fin 1024) :
    (val_main_v13 (F := Ideal) x g (ix3 b t k) : EReal)
      = (x (ix2 ⟨b.val * 4096 + t.val, by omega⟩ k) : EReal) * scale (fun k => x (ix2 ⟨b.val * 4096 + t.val, by omega⟩ k)) * g (ix1 k) := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, scale]

theorem proj_apply (x : FVec Ideal S32768x1024 .f32) (g : FVec Ideal S1024 .f32) (w : FVec Ideal S1024x3072 .f32) (b : Fin 8) (t : Fin 4096) (c : Fin 3072) :
    (val_main_v14 (F := Ideal) x g w (ix3 b t c) : EReal)
      = lin (fun k => x (ix2 ⟨b.val * 4096 + t.val, by omega⟩ k)) (fun k => g (ix1 k)) (fun k => w (ix2 k c)) := by
  unfold lin
  simp only [← nrm_apply]
  unfold val_main_v14
  generalize val_main_v13 (F := Ideal) x g = y
  pointwise

/-- One entry of the rows that are convolved: two of the three projections multiplied. -/
def cvG (x : FVec Ideal S32768x1024 .f32) (g : FVec Ideal S1024 .f32) (w : FVec Ideal S1024x3072 .f32) (R : Fin 32768) (k : Fin 1024) : EReal :=
  lin (fun j => x (ix2 R j)) (fun j => g (ix1 j)) (fun j => w (ix2 j ⟨1024 + k.val, by omega⟩))
    * lin (fun j => x (ix2 R j)) (fun j => g (ix1 j)) (fun j => w (ix2 j ⟨2048 + k.val, by omega⟩))

theorem gate_apply (x : FVec Ideal S32768x1024 .f32) (g : FVec Ideal S1024 .f32) (w : FVec Ideal S1024x3072 .f32) (b : Fin 8) (t : Fin 4096) (k : Fin 1024) :
    (val_main_v15 (F := Ideal) x g w (ix3 b t k) : EReal)
      = lin (fun j => x (ix2 ⟨b.val * 4096 + t.val, by omega⟩ j)) (fun j => g (ix1 j)) (fun j => w (ix2 j ⟨k.val, by omega⟩)) := by
  rw [← proj_apply]
  unfold val_main_v15
  generalize val_main_v14 (F := Ideal) x g w = y
  pointwise

theorem cv_apply (x : FVec Ideal S32768x1024 .f32) (g : FVec Ideal S1024 .f32) (w : FVec Ideal S1024x3072 .f32) (b : Fin 8) (t : Fin 4096) (k : Fin 1024) :
    (val_main_v18 (F := Ideal) x g w (ix3 b t k) : EReal) = cvG x g w ⟨b.val * 4096 + t.val, by omega⟩ k := by
  unfold cvG
  rw [← proj_apply, ← proj_apply]
  unfold val_main_v18 val_main_v17 val_main_v16
  generalize val_main_v14 (F := Ideal) x g w = y
  pointwise

theorem zero_apply (i : S_.Idx) : (val_main_call0_v0 (F := Ideal) i : EReal) = 0 := by
  show (((0#32 : BitVec 32).toInt : ℝ) : EReal) = 0
  simp

/-- The padded rows. -/
theorem pad_row (x : FVec Ideal S32768x1024 .f32) (g : FVec Ideal S1024 .f32) (w : FVec Ideal S1024x3072 .f32) (b : Fin 8) (j : Fin 4098) (k : Fin 1024) :
    (val_main_v19 (F := Ideal) x g w (ix3 b j k) : EReal)
      = if h : j.val < 2 then 0 else cvG x g w ⟨b.val * 4096 + (j.val - 2), by omega⟩ k := by
  split
  · rename_i h
    unfold val_main_v19
    refine (pad_apply_of_not_inside _ _ _ _ _ _ _ (ix3 b j k) 1 fun hin => ?_).trans (zero_apply _)
    have h2 : 2 ≤ j.val := hin.1
    omega
  · rw [← cv_apply x g w b ⟨j.val - 2, by omega⟩ k]
    unfold val_main_v19
    refine pad_apply_of_inside _ _ _ _ _ _ _ _ (ix3 b ⟨j.val - 2, by omega⟩ k) fun a => ?_
    match a with
    | ⟨0, _⟩ => show b.val = 0 + b.val * (0 + 1); omega
    | ⟨1, _⟩ => show j.val = 2 + (j.val - 2) * (0 + 1); omega
    | ⟨2, _⟩ => show k.val = 0 + k.val * (0 + 1); omega

/-- What tap `s` reads at row `R`. -/
def tap (x : FVec Ideal S32768x1024 .f32) (g : FVec Ideal S1024 .f32) (w : FVec Ideal S1024x3072 .f32) (s : Nat) (R : Fin 32768) (k : Fin 1024) : EReal :=
  if R.val % 4096 < s then 0 else cvG x g w ⟨R.val - s, by omega⟩ k

theorem pad_tap (x : FVec Ideal S32768x1024 .f32) (g : FVec Ideal S1024 .f32) (w : FVec Ideal S1024x3072 .f32) (s : Nat) (hs : s ≤ 2) (R : Fin 32768) (k : Fin 1024) :
    (val_main_v19 (F := Ideal) x g w (ix3 ⟨R.val / 4096, by omega⟩ ⟨(2 - s) + R.val % 4096, by omega⟩ k) : EReal) = tap x g w s R k := by
  rw [pad_row]
  unfold tap
  by_cases h : R.val % 4096 < s
  · rw [if_pos h, dif_pos (show (2 - s) + R.val % 4096 < 2 by omega)]
  · rw [if_neg h, dif_neg (show ¬ (2 - s) + R.val % 4096 < 2 by omega)]
    refine congrArg (fun R => cvG x g w R k) (Fin.ext ?_)
    show R.val / 4096 * 4096 + ((2 - s) + R.val % 4096 - 2) = R.val - s
    omega

/-- The convolved row. -/
theorem conv_apply (x : FVec Ideal S32768x1024 .f32) (g : FVec Ideal S1024 .f32) (w : FVec Ideal S1024x3072 .f32) (cw : FVec Ideal S3x1024 .f32)
    (b : Fin 8) (t : Fin 4096) (k : Fin 1024) :
    (val_main_v41 (F := Ideal) x g w cw (ix3 b t k) : EReal)
      = ((Ideal.ofBits .f32 0x00000000#32 + (cw (ix2 0 k) : EReal) * val_main_v19 (F := Ideal) x g w (ix3 b ⟨t.val, by omega⟩ k))
          + (cw (ix2 1 k) : EReal) * val_main_v19 (F := Ideal) x g w (ix3 b ⟨1 + t.val, by omega⟩ k))
        + (cw (ix2 2 k) : EReal) * val_main_v19 (F := Ideal) x g w (ix3 b ⟨2 + t.val, by omega⟩ k) := by
  unfold val_main_v41 val_main_v40 val_main_v37 val_main_v34 val_main_v33 val_main_v30 val_main_v27 val_main_v25 val_main_v22
  generalize val_main_v19 (F := Ideal) x g w = y
  pointwise [val_main_v39, val_main_v38, val_main_v36, val_main_v35, val_main_v32, val_main_v31, val_main_v29,
    val_main_v28, val_main_v26, val_main_v24, val_main_v23, val_main_v21, val_main_v20, val_main_cst_2]

/-- The result from the gate and the convolved rows. -/
theorem res_apply (x : FVec Ideal S32768x1024 .f32) (g : FVec Ideal S1024 .f32) (w : FVec Ideal S1024x3072 .f32) (cw : FVec Ideal S3x1024 .f32)
    (wo : FVec Ideal S1024x1024 .f32) (R : Fin 32768) (l : Fin 1024) :
    (val_main_v45 (F := Ideal) x g w cw wo (ix2 R l) : EReal)
      = (x (ix2 R l) : EReal) + ∑ k : Fin 1024, ((val_main_v15 (F := Ideal) x g w (ix3 ⟨R.val / 4096, by omega⟩ ⟨R.val % 4096, by omega⟩ k) : EReal)
          * val_main_v41 (F := Ideal) x g w cw (ix3 ⟨R.val / 4096, by omega⟩ ⟨R.val % 4096, by omega⟩ k)) * wo (ix2 k l) := by
  unfold val_main_v45 val_main_v44 val_main_v43 val_main_v42
  generalize val_main_v41 (F := Ideal) x g w cw = y
  generalize val_main_v15 (F := Ideal) x g w = z
  pointwise [val_main_v0]

/-- The reference's result at an index. -/
theorem ref_apply (x : FVec Ideal S32768x1024 .f32) (g : FVec Ideal S1024 .f32) (w : FVec Ideal S1024x3072 .f32) (cw : FVec Ideal S3x1024 .f32)
    (wo : FVec Ideal S1024x1024 .f32) (R : Fin 32768) (l : Fin 1024) :
    (val_main_v45 (F := Ideal) x g w cw wo (ix2 R l) : EReal)
      = (x (ix2 R l) : EReal) + ∑ k : Fin 1024,
          (lin (fun j => x (ix2 R j)) (fun j => g (ix1 j)) (fun j => w (ix2 j ⟨k.val, by omega⟩))
            * (((Ideal.ofBits .f32 0x00000000#32 + (cw (ix2 0 k) : EReal) * tap x g w 2 R k) + (cw (ix2 1 k) : EReal) * tap x g w 1 R k)
              + (cw (ix2 2 k) : EReal) * tap x g w 0 R k)) * wo (ix2 k l) := by
  rw [res_apply]
  refine congrArg ((x (ix2 R l) : EReal) + ·) (Finset.sum_congr rfl fun k _ => ?_)
  rw [gate_apply, conv_apply, ← pad_tap x g w 2 (by omega) R k, ← pad_tap x g w 1 (by omega) R k, ← pad_tap x g w 0 (by omega) R k]
  have hR : (⟨R.val / 4096 * 4096 + R.val % 4096, by omega⟩ : Fin 32768) = R := Fin.ext (show R.val / 4096 * 4096 + R.val % 4096 = R.val by omega)
  have h0 : (⟨(2 - 2) + R.val % 4096, by omega⟩ : Fin 4098) = ⟨R.val % 4096, by omega⟩ := Fin.ext (by show (2 - 2) + R.val % 4096 = R.val % 4096; omega)
  rw [h0, hR]

end Cert.Proof.Conv

end
-- ==== Proof.Conv.Value.lean ====
/-
  The short convolution's result array: every grid point writes its 1024 rows of the reference's result, and the 32
  blocks tile the array. A point needs of the points before it only the last rows of the block just before, which the
  body carries; at a batch's first tile it carries zeros.
-/
module

public import proofs.«01_k».proof.Proof.Conv.Outs
public import proofs.«01_k».proof.Proof.Conv.Ref

@[expose] public section

set_option maxRecDepth 16384

noncomputable section

namespace Cert.Proof.Conv

open Idealize.ShloMosaic Idealize.ShloMosaic.TcCoe Idealize.SL.Sem
open Idealize.ShloMosaic.Pipeline (Dat)
open Cert.ConvIdeal Cert.ConvIdeal.Gen

variable (m : (ℓ : Loc nD τ sig) → Buf (Elt Ideal) ℓ)

/-! ## The arrays the region finds -/

theorem V_gain (c : Dev nD) : V m c main_v0 = broadcastInDim S1x1024 ![1] bcast_S1024_S1x1024_1 (m ((c : Thread nD τ).loc main_arg1)) := by
  dsimp only [V, hostOps0]
  after_results <;> rfl

theorem V_win (c : Dev nD) : V m c main_v1 = (m ((c : Thread nD τ).loc main_arg2) : S1024x3072.Idx → EReal) := by
  dsimp only [V, hostOps0]
  after_results <;> rfl

theorem V_wout (c : Dev nD) : V m c main_v2 = (m ((c : Thread nD τ).loc main_arg4) : S1024x1024.Idx → EReal) := by
  dsimp only [V, hostOps0]
  after_results <;> rfl

theorem gain_apply (g : FVec Ideal S1024 .f32) (k : Fin 1024) :
    broadcastInDim S1x1024 ![1] bcast_S1024_S1x1024_1 g (ix2 0 k) = g (ix1 k) := by
  pointwise

/-! ## The blocks -/

theorem idx_facts : ∀ t : Fin grid0.N, (win0_0.index t = ![t.val, 0]) ∧ (win0_1.index t = ![0, 0]) ∧ (win0_2.index t = ![0, 0])
    ∧ (win0_3.index t = ![0, 0]) ∧ (win0_4.index t = ![0, 0]) ∧ (win0_5.index t = ![t.val, 0]) := by decide +kernel

theorem t_lt (t : Fin cfg0.N) : t.val < 32 := t.isLt

/-- The launch contents of the arguments. -/
abbrev aX (c : Dev nD) : FVec Ideal S32768x1024 .f32 := m ((c : Thread nD τ).loc main_arg0)
abbrev aG (c : Dev nD) : FVec Ideal S1024 .f32 := m ((c : Thread nD τ).loc main_arg1)
abbrev aW (c : Dev nD) : FVec Ideal S1024x3072 .f32 := m ((c : Thread nD τ).loc main_arg2)
abbrev aC (c : Dev nD) : FVec Ideal S3x1024 .f32 := m ((c : Thread nD τ).loc main_arg3)
abbrev aO (c : Dev nD) : FVec Ideal S1024x1024 .f32 := m ((c : Thread nD τ).loc main_arg4)

theorem x_apply (c : Dev nD) (t : Fin cfg0.N) (r k : Fin 1024) :
    iblk m c 0 t (ix2 r k) = (aX m c : S32768x1024.Idx → EReal) (ix2 ⟨t.val * 1024 + r.val, by have := t_lt t; omega⟩ k) := by
  unfold aX
  rw [← V_main_arg0 m c]
  show V m c main_arg0 _ = V m c main_arg0 _
  refine congrArg (V m c main_arg0) (funext fun a => Fin.ext ?_)
  match a with
  | ⟨0, _⟩ => show win0_0.index t 0 * 1024 + 1 * r.val = _; rw [(idx_facts t).1, Nat.one_mul]; rfl
  | ⟨1, _⟩ => show win0_0.index t 1 * 1024 + 1 * k.val = _; rw [(idx_facts t).1, Nat.one_mul]; exact Nat.zero_add _

theorem g_apply (c : Dev nD) (t : Fin cfg0.N) (k : Fin 1024) :
    iblk m c 1 t (ix2 0 k) = (aG m c : S1024.Idx → EReal) (ix1 k) := by
  refine Eq.trans ?_ ((congrFun (V_gain m c) _).trans (gain_apply _ k))
  show V m c main_v0 _ = V m c main_v0 _
  refine congrArg (V m c main_v0) (funext fun a => Fin.ext ?_)
  match a with
  | ⟨0, _⟩ => show win0_1.index t 0 * 1 + 1 * 0 = _; rw [(idx_facts t).2.1]; rfl
  | ⟨1, _⟩ => show win0_1.index t 1 * 1024 + 1 * k.val = _; rw [(idx_facts t).2.1, Nat.one_mul]; exact Nat.zero_add _

theorem w_apply (c : Dev nD) (t : Fin cfg0.N) (k : Fin 1024) (l : Fin 3072) :
    iblk m c 2 t (ix2 k l) = (aW m c : S1024x3072.Idx → EReal) (ix2 k l) := by
  refine Eq.trans ?_ (congrFun (V_win m c) _)
  show V m c main_v1 _ = V m c main_v1 _
  refine congrArg (V m c main_v1) (funext fun a => Fin.ext ?_)
  match a with
  | ⟨0, _⟩ => show win0_2.index t 0 * 1024 + 1 * k.val = _; rw [(idx_facts t).2.2.1, Nat.one_mul]; exact Nat.zero_add _
  | ⟨1, _⟩ => show win0_2.index t 1 * 3072 + 1 * l.val = _; rw [(idx_facts t).2.2.1, Nat.one_mul]; exact Nat.zero_add _

theorem c_apply (c : Dev nD) (t : Fin cfg0.N) (s : Fin 3) (k : Fin 1024) :
    iblk m c 3 t (ix2 s k) = (aC m c : S3x1024.Idx → EReal) (ix2 s k) := by
  unfold aC
  rw [← V_main_arg3 m c]
  show V m c main_arg3 _ = V m c main_arg3 _
  refine congrArg (V m c main_arg3) (funext fun a => Fin.ext ?_)
  match a with
  | ⟨0, _⟩ => show win0_3.index t 0 * 3 + 1 * s.val = _; rw [(idx_facts t).2.2.2.1, Nat.one_mul]; exact Nat.zero_add _
  | ⟨1, _⟩ => show win0_3.index t 1 * 1024 + 1 * k.val = _; rw [(idx_facts t).2.2.2.1, Nat.one_mul]; exact Nat.zero_add _

theorem o_apply (c : Dev nD) (t : Fin cfg0.N) (k l : Fin 1024) :
    iblk m c 4 t (ix2 k l) = (aO m c : S1024x1024.Idx → EReal) (ix2 k l) := by
  refine Eq.trans ?_ (congrFun (V_wout m c) _)
  show V m c main_v2 _ = V m c main_v2 _
  refine congrArg (V m c main_v2) (funext fun a => Fin.ext ?_)
  match a with
  | ⟨0, _⟩ => show win0_4.index t 0 * 1024 + 1 * k.val = _; rw [(idx_facts t).2.2.2.2.1, Nat.one_mul]; exact Nat.zero_add _
  | ⟨1, _⟩ => show win0_4.index t 1 * 1024 + 1 * l.val = _; rw [(idx_facts t).2.2.2.2.1, Nat.one_mul]; exact Nat.zero_add _

theorem out_idx (t : Fin cfg0.N) (r l : Fin 1024) :
    ((cfg0.win 5).blk t).view.emb (ix2 r l)
      = ix2 (n0 := 32768) (n1 := 1024) ⟨t.val * 1024 + r.val, by have := t_lt t; omega⟩ l := by
  refine funext fun a => Fin.ext ?_
  match a with
  | ⟨0, _⟩ => show win0_5.index t 0 * 1024 + 1 * r.val = _; rw [(idx_facts t).2.2.2.2.2, Nat.one_mul]; rfl
  | ⟨1, _⟩ => show win0_5.index t 1 * 1024 + 1 * l.val = _; rw [(idx_facts t).2.2.2.2.2, Nat.one_mul]; exact Nat.zero_add _

theorem cols_apply (o : Nat) (ho : o + 1024 ≤ 3072) (h : ∀ a, (![0, o] : Fin 2 → Nat) a + S1024x1024.size a ≤ S1024x3072.size a)
    (w : Vec Ideal S1024x3072 .bf16) (k l : Fin 1024) : cols o h w (ix2 k l) = w (ix2 k ⟨o + l.val, by omega⟩) := by
  refine congrArg w (funext fun a => Fin.ext ?_)
  match a with
  | ⟨0, _⟩ => show 0 + 1 * k.val = k.val; omega
  | ⟨1, _⟩ => show o + 1 * l.val = o + l.val; omega

theorem tapRow_apply (o : Nat) (ho : o < 3) (h : ∀ a, (![o, 0] : Fin 2 → Nat) a + S1x1024.size a ≤ S3x1024.size a)
    (w : Vec Ideal S3x1024 .f32) (k : Fin 1024) : tapRow o h w (ix2 0 k) = w (ix2 ⟨o, ho⟩ k) := by
  refine congrArg w (funext fun a => Fin.ext ?_)
  match a with
  | ⟨0, _⟩ => show o + 1 * 0 = o; omega
  | ⟨1, _⟩ => show 0 + 1 * k.val = k.val; omega

/-- The rows a point convolves are the array's. -/
theorem cv_block (c : Dev nD) (t : Fin cfg0.N) (r k : Fin 1024) :
    (k0_pay5 (F := Ideal) (iblk m c 0 t) (iblk m c 1 t) (cols 1024 inb_S1024x3072_S1024x1024_0_1024 (iblk m c 2 t))
        (cols 2048 inb_S1024x3072_S1024x1024_0_2048 (iblk m c 2 t)) (ix2 r k) : EReal)
      = cvG (aX m c) (aG m c) (aW m c) ⟨t.val * 1024 + r.val, by have := t_lt t; omega⟩ k := by
  refine (pay5_apply (iblk m c 0 t) (iblk m c 1 t) _ _ r k).trans ?_
  unfold cvG
  simp only [x_apply, g_apply, cols_apply 1024 (by omega), cols_apply 2048 (by omega), w_apply]

/-- What a point carries on: its last eight rows. -/
theorem carried (c : Dev nD) (t : Fin cfg0.N) :
    (outsAt0 m c t.val t.isLt).2 = blkTail (iblk m c 0 t) (iblk m c 1 t) (iblk m c 2 t) := by
  by_cases h0 : t.val % 4 = 0
  · rw [outsAt0_A m c t h0]; dsimp only; rw [tail_A]
  · rw [outsAt0_B m c t h0]; dsimp only; rw [tail_B]

theorem carried_apply (c : Dev nD) (t : Fin cfg0.N) (i : Fin 8) (k : Fin 1024) :
    ((outsAt0 m c t.val t.isLt).2 (ix2 i k) : EReal)
      = cvG (aX m c) (aG m c) (aW m c) ⟨t.val * 1024 + (1016 + i.val), by have := t_lt t; omega⟩ k := by
  rw [carried]
  unfold blkTail
  exact (pay7_apply _ _ _ _ i k).trans (cv_block m c t ⟨1016 + i.val, by omega⟩ k)

/-- The rows carried into a point are the rows just before its block, or zeros. -/
def Carries (c : Dev nD) (t : Fin cfg0.N) (T : FVec Ideal S8x1024 .f32) : Prop :=
  ∀ (s : Nat) (_ : s ≤ 2) (r : Fin 1024) (h : r.val < s) (k : Fin 1024),
    (T (ix2 ⟨r.val + (8 - s), by omega⟩ k) : EReal)
      = tap (aX m c) (aG m c) (aW m c) s ⟨t.val * 1024 + r.val, by have := t_lt t; omega⟩ k

theorem carries_first (c : Dev nD) (t : Fin cfg0.N) (h0 : t.val % 4 = 0) : Carries m c t (k0_pay2 (F := Ideal)) := by
  intro s hs r h k
  refine (pay2_apply _ k).trans ?_
  unfold tap
  rw [if_pos (show (t.val * 1024 + r.val) % 4096 < s by omega)]

theorem carries_next (c : Dev nD) (t : Fin cfg0.N) (h0 : ¬t.val % 4 = 0) (h : t.val - 1 < cfg0.N) :
    Carries m c t (outsAt0 m c (t.val - 1) h).2 := by
  intro s hs r hr k
  refine (carried_apply m c ⟨t.val - 1, h⟩ ⟨r.val + (8 - s), by omega⟩ k).trans ?_
  unfold tap
  rw [if_neg (show ¬ (t.val * 1024 + r.val) % 4096 < s by omega)]
  refine congrArg (fun R => cvG (aX m c) (aG m c) (aW m c) R k) (Fin.ext ?_)
  show (t.val - 1) * 1024 + (1016 + (r.val + (8 - s))) = t.val * 1024 + r.val - s
  omega

/-- The extended rows hold what tap `s` reads. -/
theorem ext_tap (c : Dev nD) (t : Fin cfg0.N) (T : FVec Ideal S8x1024 .f32) (hT : Carries m c t T) (s : Nat) (hs : s ≤ 2) (r k : Fin 1024) :
    (k0_pay6 (F := Ideal) (iblk m c 0 t) (iblk m c 1 t) (cols 1024 inb_S1024x3072_S1024x1024_0_1024 (iblk m c 2 t))
        (cols 2048 inb_S1024x3072_S1024x1024_0_2048 (iblk m c 2 t)) T (ix2 ⟨r.val + (8 - s), by omega⟩ k) : EReal)
      = tap (aX m c) (aG m c) (aW m c) s ⟨t.val * 1024 + r.val, by have := t_lt t; omega⟩ k := by
  refine (pay6_apply _ _ _ _ T _ k).trans ?_
  by_cases h : r.val < s
  · rw [dif_pos (show r.val + (8 - s) < 8 by omega)]
    exact hT s hs r h k
  · rw [dif_neg (show ¬ r.val + (8 - s) < 8 by omega)]
    refine (cv_block m c t ⟨r.val + (8 - s) - 8, by omega⟩ k).trans ?_
    unfold tap
    rw [if_neg (show ¬ (t.val * 1024 + r.val) % 4096 < s by omega)]
    refine congrArg (fun R => cvG (aX m c) (aG m c) (aW m c) R k) (Fin.ext ?_)
    show t.val * 1024 + (r.val + (8 - s) - 8) = t.val * 1024 + r.val - s
    omega

/-! ## The result array -/

/-- The reference's result of the launch contents of the arguments. -/
abbrev G (c : Dev nD) : FVec Ideal S32768x1024 .f32 :=
  Cert.ConvRefIdeal.Read.val_main_v45 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem block_apply (c : Dev nD) (t : Fin cfg0.N) (T : FVec Ideal S8x1024 .f32) (hT : Carries m c t T) (r l : Fin 1024) :
    (blkOut (F := Ideal) (iblk m c 0 t) (iblk m c 1 t) (iblk m c 2 t) (iblk m c 3 t) (iblk m c 4 t) T (ix2 r l) : EReal)
      = G m c (ix2 ⟨t.val * 1024 + r.val, by have := t_lt t; omega⟩ l) := by
  unfold blkOut
  refine (pay1_apply (iblk m c 0 t) _ _ _ _ _ (iblk m c 4 t) r l).trans ?_
  refine Eq.trans ?_ (ref_apply (aX m c) (aG m c) (aW m c) (aC m c) (aO m c) ⟨t.val * 1024 + r.val, by have := t_lt t; omega⟩ l).symm
  refine congrArg₂ (· + ·) (x_apply m c t r l) (Finset.sum_congr rfl fun k _ => ?_)
  refine congrArg₂ (· * ·) (congrArg₂ (· * ·) ?_ (congrArg₂ (· + ·) (congrArg₂ (· + ·) (congrArg (_ + ·) (congrArg₂ (· * ·) ?_ ?_))
    (congrArg₂ (· * ·) ?_ ?_)) (congrArg₂ (· * ·) ?_ ?_))) (o_apply m c t k l)
  · refine (pay4_apply (iblk m c 0 t) (iblk m c 1 t) _ r k).trans ?_
    simp only [x_apply, g_apply, cols_apply 0 (by omega), w_apply, Nat.zero_add]
  · exact (tapRow_apply 0 (by omega) _ _ k).trans (c_apply m c t 0 k)
  · exact ext_tap m c t T hT 2 (by omega) r k
  · exact (tapRow_apply 1 (by omega) _ _ k).trans (c_apply m c t 1 k)
  · exact ext_tap m c t T hT 1 (by omega) r k
  · exact (tapRow_apply 2 (by omega) _ _ k).trans (c_apply m c t 2 k)
  · exact ext_tap m c t T hT 0 (by omega) r k

/-- What a point stores is its rows of the reference. -/
theorem flushed_eq (c : Dev nD) (t : Fin cfg0.N) :
    (dats m 0 c).flushed 5 t = ((cfg0.win 5).blk t).view.read (Elt Ideal) (G m c) := by
  obtain ⟨T, hT, hf⟩ : ∃ T, Carries m c t T ∧ (outsAt0 m c t.val t.isLt).1
      = blkOut (iblk m c 0 t) (iblk m c 1 t) (iblk m c 2 t) (iblk m c 3 t) (iblk m c 4 t) T := by
    by_cases h0 : t.val % 4 = 0
    · refine ⟨_, carries_first m c t h0, ?_⟩
      rw [outsAt0_A m c t h0]; dsimp only; rw [out_A]
    · refine ⟨_, carries_next m c t h0 (Nat.lt_of_le_of_lt (Nat.sub_le _ _) t.isLt), ?_⟩
      rw [outsAt0_B m c t h0]; dsimp only; rw [out_B]
  rw [Cert.ConvIdeal.Value.flushed5, hf]
  funext y
  obtain ⟨r, l, rfl⟩ : ∃ (r l : Fin 1024), y = ix2 r l := ⟨y 0, y 1, eq_ix2 (n0 := 1024) (n1 := 1024) y⟩
  refine (block_apply m c t T hT r l).trans ?_
  show _ = G m c (((cfg0.win 5).blk t).view.emb (ix2 r l))
  rw [out_idx]

theorem cover (i : S32768x1024.Idx) :
    ∃ t : Fin cfg0.N, (cfg0.win 5).flush t = true ∧ i ∈ ((cfg0.win 5).blk t).view.set := by
  have h0 : (i 0 : Nat) < 32768 := (i 0).isLt
  have h1 : (i 1 : Nat) < 1024 := (i 1).isLt
  have ht : (i 0 : Nat) / 1024 < cfg0.N := by have : cfg0.N = 32 := N_0; omega
  refine ⟨⟨_, ht⟩, flush0_5 _, ?_⟩
  refine Eq.subst (motive := fun j => j ∈ _) ?_
    (View.emb_mem_set _ (ix2 (n0 := 1024) (n1 := 1024) ⟨(i 0 : Nat) % 1024, by omega⟩ ⟨(i 1 : Nat), h1⟩))
  rw [out_idx]
  funext a
  apply Fin.ext
  match a with
  | ⟨0, _⟩ => show (i 0 : Nat) / 1024 * 1024 + (i 0 : Nat) % 1024 = (i 0 : Nat); omega
  | ⟨1, _⟩ => rfl

theorem final (c : Dev nD) : (dats m 0 c).arrAt 5 cfg0.N = G m c :=
  (dats m 0 c).arrAt_eq_of_cover 5 (G m c) (fun t _ => flushed_eq m c t) cover

end Cert.Proof.Conv

end
-- ==== Proof.Conv.Claims.lean ====
/-
  The claims about the short convolution, assembled from its runs.
-/
module

public import proofs.«01_k».proof.Defs
public import proofs.«01_k».proof.Proof.Gen.Conv.Frame
public import proofs.«01_k».proof.Proof.Gen.ConvRefIdeal.Run
public import proofs.«01_k».proof.Proof.Conv.Value
public import Idealize.ShloMosaic.Lib.Quiescent

@[expose] public section

noncomputable section

namespace Cert.Proof.Conv

open Idealize.ShloMosaic Idealize.ShloMosaic.TcCoe Idealize.SL.Sem

theorem frame : Cert.quiescent_Conv := fun m ρ _ => Cert.Conv.Gen.frame m ρ

theorem frame_ideal : Cert.quiescent_ConvIdeal := fun m ρ _ => Cert.ConvIdeal.Gen.frame m ρ

theorem frame_ref : Cert.quiescent_ConvRefIdeal := fun m ρ _ =>
  (θ_run Cert.ConvRefIdeal.defs _ _).mono (fun r h => ⟨fun c => (h c).2,
      Idealize.ShloMosaic.sem_eq_zero_of_no_sems (by decide) r.2⟩)
    (Cert.ConvRefIdeal.Value.run (F := Ideal) m ρ)

/-- Both programs end with the reference's function of the arguments. -/
theorem algebraic : Cert.algebraic_ConvIdeal_ConvRefIdeal := by
  intro m ρ m' ρ' _ hagree
  refine ⟨fun c => G m c, ?_, ?_⟩
  · exact (θ_run Cert.ConvIdeal.defs _ _).mono (fun _ h c => ⟨(h c).1.trans (final m c), (h c).2⟩)
      (Cert.ConvIdeal.Value.run_blocks (F := Ideal) m ρ)
  refine (θ_run Cert.ConvRefIdeal.defs _ _).mono (fun _ h c => ⟨(h c).1.trans ?_, (h c).2⟩)
    (Cert.ConvRefIdeal.Value.run (F := Ideal) m' ρ')
  refine (Cert.ConvRefIdeal.Read.val_main_v45_eq (F := Ideal) m' c).trans ?_
  rw [(hagree c).1, (hagree c).2.1, (hagree c).2.2.1, (hagree c).2.2.2.1, (hagree c).2.2.2.2]

end Cert.Proof.Conv

end
-- ==== Proof.Out.Pure.lean ====
/-
  The even mixer's output projection at an index: the kernel adds the two halves' products one after the other, the
  reference multiplies the two activations side by side with the whole weight.
-/
module

public import proofs.«01_k».proof.Proof.Gen.OutProjIdeal.Value
public import proofs.«01_k».proof.Proof.Gen.OutProjRefIdeal.Read
public import Idealize.ShloMosaic.Lib.Pointwise

@[expose] public section

set_option maxRecDepth 16384

noncomputable section

namespace Cert.Proof.Out

open Idealize.ShloMosaic Idealize.ShloMosaic.TcCoe Idealize.SL.Sem

/-- What one grid point stores, at an index. -/
theorem pay_apply (x : FVec Ideal Cert.OutProjIdeal.S1024x1024 .f32) (a : FVec Ideal Cert.OutProjIdeal.S1024x512 .bf16)
    (u : FVec Ideal Cert.OutProjIdeal.S512x1024 .bf16) (b : FVec Ideal Cert.OutProjIdeal.S1024x512 .bf16)
    (v : FVec Ideal Cert.OutProjIdeal.S512x1024 .bf16) (r l : Fin 1024) :
    (Cert.OutProjIdeal.Gen.k0_pay1 (F := Ideal) x a u b v (ix2 r l) : EReal)
      = ((x (ix2 r l) : EReal) + ∑ k : Fin 512, (a (ix2 r k) : EReal) * u (ix2 k l))
        + ∑ k : Fin 512, (b (ix2 r k) : EReal) * v (ix2 k l) := by
  pointwise [Cert.OutProjIdeal.Gen.k0_pay1]

/-- The reference's result at an index. -/
theorem ref_apply' (x : FVec Ideal Cert.OutProjIdeal.S32768x1024 .f32) (a b : FVec Ideal Cert.OutProjIdeal.S32768x512 .bf16)
    (w : FVec Ideal Cert.OutProjIdeal.S1024x1024 .f32) (R : Fin 32768) (l : Fin 1024) :
    (Cert.OutProjRefIdeal.Read.val_main_v4 (F := Ideal) x a b w (ix2 R l) : EReal)
      = (x (ix2 R l) : EReal) + ∑ k : Fin 1024,
          ((if h : k.val < 512 then (a (ix2 R ⟨k.val, h⟩) : EReal) else b (ix2 R ⟨k.val - 512, by omega⟩)) : EReal) * w (ix2 k l) := by
  pointwise [Cert.OutProjRefIdeal.Read.val_main_v4, Cert.OutProjRefIdeal.Read.val_main_v3, Cert.OutProjRefIdeal.Read.val_main_v2,
    Cert.OutProjRefIdeal.Read.val_main_v1, Cert.OutProjRefIdeal.Read.val_main_v0]

/-- The same, the sum taken over the two halves of the weight's rows. -/
theorem ref_apply (x : FVec Ideal Cert.OutProjIdeal.S32768x1024 .f32) (a b : FVec Ideal Cert.OutProjIdeal.S32768x512 .bf16)
    (w : FVec Ideal Cert.OutProjIdeal.S1024x1024 .f32) (R : Fin 32768) (l : Fin 1024) :
    (Cert.OutProjRefIdeal.Read.val_main_v4 (F := Ideal) x a b w (ix2 R l) : EReal)
      = ((x (ix2 R l) : EReal) + ∑ k : Fin 512, (a (ix2 R k) : EReal) * w (ix2 ⟨k.val, by omega⟩ l))
        + ∑ k : Fin 512, (b (ix2 R k) : EReal) * w (ix2 ⟨512 + k.val, by omega⟩ l) := by
  rw [ref_apply', add_assoc]
  refine congrArg ((x (ix2 R l) : EReal) + ·) ?_
  refine (Fin.sum_univ_add (M := EReal) (a := 512) (b := 512) _).trans ?_
  refine congrArg₂ (· + ·) (Finset.sum_congr rfl fun k _ => ?_) (Finset.sum_congr rfl fun k _ => ?_)
  · rw [dif_pos (show (Fin.castAdd 512 k).val < 512 from k.isLt)]; rfl
  · rw [dif_neg (show ¬ (Fin.natAdd 512 k).val < 512 from by show ¬ 512 + k.val < 512; omega)]
    refine congrArg₂ (· * ·) (congrArg b (congrArg (ix2 R) (Fin.ext ?_))) rfl
    show 512 + k.val - 512 = k.val
    omega

end Cert.Proof.Out

end
-- ==== Proof.Out.Value.lean ====
/-
  The output projection's result array: every grid point writes its 1024 rows of the reference's result, and the 32
  blocks tile the array.
-/
module

public import proofs.«01_k».proof.Proof.Out.Pure

@[expose] public section

set_option maxRecDepth 16384

noncomputable section

namespace Cert.Proof.Out

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

theorem hz2 : (![0, 0] : Fin 2 → Nat) = fun _ => 0 := funext fun a => by fin_cases a <;> rfl

/-! ## The weight's halves -/

theorem V_top (c : Dev nD) : V m c main_v1 = extractStridedSlice S512x1024 ![0, 0]
    (truncf .bf16 (m ((c : Thread nD τ).loc main_arg3) : FVec Ideal S1024x1024 .f32) bitsLt_bf16_f32 : FVec Ideal S1024x1024 .bf16)
    slices_S1024x1024_S512x1024_0_0 := by
  dsimp only [V, hostOps0]
  after_results <;> rfl

theorem V_bot (c : Dev nD) : V m c main_v2 = extractStridedSlice S512x1024 ![512, 0]
    (truncf .bf16 (m ((c : Thread nD τ).loc main_arg3) : FVec Ideal S1024x1024 .f32) bitsLt_bf16_f32 : FVec Ideal S1024x1024 .bf16)
    slices_S1024x1024_S512x1024_512_0 := by
  dsimp only [V, hostOps0]
  after_results <;> rfl

theorem top_apply (w : FVec Ideal S1024x1024 .f32) (k : Fin 512) (l : Fin 1024) :
    (extractStridedSlice S512x1024 ![0, 0] (truncf .bf16 w bitsLt_bf16_f32 : FVec Ideal S1024x1024 .bf16)
      slices_S1024x1024_S512x1024_0_0 (ix2 k l) : EReal) = w (ix2 ⟨k.val, by omega⟩ l) := by
  pointwise

theorem bot_apply (w : FVec Ideal S1024x1024 .f32) (k : Fin 512) (l : Fin 1024) :
    (extractStridedSlice S512x1024 ![512, 0] (truncf .bf16 w bitsLt_bf16_f32 : FVec Ideal S1024x1024 .bf16)
      slices_S1024x1024_S512x1024_512_0 (ix2 k l) : EReal) = w (ix2 ⟨512 + k.val, by omega⟩ l) := by
  pointwise

/-! ## The blocks -/

theorem idx_facts : ∀ t : Fin grid0.N, (win0_0.index t = ![t.val, 0]) ∧ (win0_1.index t = ![t.val, 0]) ∧ (win0_2.index t = ![t.val, 0])
    ∧ (win0_3.index t = ![0, 0]) ∧ (win0_4.index t = ![0, 0]) ∧ (win0_5.index t = ![t.val, 0]) := by decide +kernel

theorem t_lt (t : Fin cfg0.N) : t.val < 32 := t.isLt

theorem x_apply (c : Dev nD) (t : Fin cfg0.N) (r k : Fin 1024) :
    iblk m c 0 t (ix2 r k) = (m ((c : Thread nD τ).loc main_arg0) : S32768x1024.Idx → EReal)
      (ix2 ⟨t.val * 1024 + r.val, by have := t_lt t; omega⟩ k) := by
  rw [← V_main_arg0 m c]
  show V m c main_arg0 _ = V m c main_arg0 _
  refine congrArg (V m c main_arg0) (funext fun a => Fin.ext ?_)
  match a with
  | ⟨0, _⟩ => show win0_0.index t 0 * 1024 + 1 * r.val = _; rw [(idx_facts t).1, Nat.one_mul]; rfl
  | ⟨1, _⟩ => show win0_0.index t 1 * 1024 + 1 * k.val = _; rw [(idx_facts t).1, Nat.one_mul]; exact Nat.zero_add _

theorem a_apply (c : Dev nD) (t : Fin cfg0.N) (r : Fin 1024) (k : Fin 512) :
    iblk m c 1 t (ix2 r k) = (m ((c : Thread nD τ).loc main_arg1) : S32768x512.Idx → EReal)
      (ix2 ⟨t.val * 1024 + r.val, by have := t_lt t; omega⟩ k) := by
  rw [← V_main_arg1 m c]
  show V m c main_arg1 _ = V m c main_arg1 _
  refine congrArg (V m c main_arg1) (funext fun a => Fin.ext ?_)
  match a with
  | ⟨0, _⟩ => show win0_1.index t 0 * 1024 + 1 * r.val = _; rw [(idx_facts t).2.1, Nat.one_mul]; rfl
  | ⟨1, _⟩ => show win0_1.index t 1 * 512 + 1 * k.val = _; rw [(idx_facts t).2.1, Nat.one_mul]; exact Nat.zero_add _

theorem b_apply (c : Dev nD) (t : Fin cfg0.N) (r : Fin 1024) (k : Fin 512) :
    iblk m c 2 t (ix2 r k) = (m ((c : Thread nD τ).loc main_arg2) : S32768x512.Idx → EReal)
      (ix2 ⟨t.val * 1024 + r.val, by have := t_lt t; omega⟩ k) := by
  rw [← V_main_arg2 m c]
  show V m c main_arg2 _ = V m c main_arg2 _
  refine congrArg (V m c main_arg2) (funext fun a => Fin.ext ?_)
  match a with
  | ⟨0, _⟩ => show win0_2.index t 0 * 1024 + 1 * r.val = _; rw [(idx_facts t).2.2.1, Nat.one_mul]; rfl
  | ⟨1, _⟩ => show win0_2.index t 1 * 512 + 1 * k.val = _; rw [(idx_facts t).2.2.1, Nat.one_mul]; exact Nat.zero_add _

theorem u_apply (c : Dev nD) (t : Fin cfg0.N) (k : Fin 512) (l : Fin 1024) :
    iblk m c 3 t (ix2 k l) = (m ((c : Thread nD τ).loc main_arg3) : S1024x1024.Idx → EReal) (ix2 ⟨k.val, by omega⟩ l) := by
  refine Eq.trans ?_ ((congrFun (V_top m c) (ix2 k l)).trans (top_apply _ k l))
  show V m c main_v1 _ = V m c main_v1 _
  refine congrArg (V m c main_v1) (funext fun a => Fin.ext ?_)
  match a with
  | ⟨0, _⟩ => show win0_3.index t 0 * 512 + 1 * k.val = _; rw [(idx_facts t).2.2.2.1, Nat.one_mul]; exact Nat.zero_add _
  | ⟨1, _⟩ => show win0_3.index t 1 * 1024 + 1 * l.val = _; rw [(idx_facts t).2.2.2.1, Nat.one_mul]; exact Nat.zero_add _

theorem v_apply (c : Dev nD) (t : Fin cfg0.N) (k : Fin 512) (l : Fin 1024) :
    iblk m c 4 t (ix2 k l) = (m ((c : Thread nD τ).loc main_arg3) : S1024x1024.Idx → EReal) (ix2 ⟨512 + k.val, by omega⟩ l) := by
  refine Eq.trans ?_ ((congrFun (V_bot m c) (ix2 k l)).trans (bot_apply _ k l))
  show V m c main_v2 _ = V m c main_v2 _
  refine congrArg (V m c main_v2) (funext fun a => Fin.ext ?_)
  match a with
  | ⟨0, _⟩ => show win0_4.index t 0 * 512 + 1 * k.val = _; rw [(idx_facts t).2.2.2.2.1, Nat.one_mul]; exact Nat.zero_add _
  | ⟨1, _⟩ => show win0_4.index t 1 * 1024 + 1 * l.val = _; rw [(idx_facts t).2.2.2.2.1, Nat.one_mul]; exact Nat.zero_add _

theorem out_idx (t : Fin cfg0.N) (r l : Fin 1024) :
    ((cfg0.win 5).blk t).view.emb (ix2 r l)
      = ix2 (n0 := 32768) (n1 := 1024) ⟨t.val * 1024 + r.val, by have := t_lt t; omega⟩ l := by
  refine funext fun a => Fin.ext ?_
  match a with
  | ⟨0, _⟩ => show win0_5.index t 0 * 1024 + 1 * r.val = _; rw [(idx_facts t).2.2.2.2.2, Nat.one_mul]; rfl
  | ⟨1, _⟩ => show win0_5.index t 1 * 1024 + 1 * l.val = _; rw [(idx_facts t).2.2.2.2.2, Nat.one_mul]; exact Nat.zero_add _

/-! ## The result array -/

/-- The reference's result of the launch contents of the arguments. -/
abbrev G (c : Dev nD) : FVec Ideal S32768x1024 .f32 :=
  Cert.OutProjRefIdeal.Read.val_main_v4 (F := Ideal) (m ((c : Thread nD τ).loc main_arg0)) (m ((c : Thread nD τ).loc main_arg1))
    (m ((c : Thread nD τ).loc main_arg2)) (m ((c : Thread nD τ).loc main_arg3))

/-- What a point stores is its rows of the reference. -/
theorem flushed_eq (c : Dev nD) (t : Fin cfg0.N) :
    (dats m 0 c).flushed 5 t = ((cfg0.win 5).blk t).view.read (Elt Ideal) (G m c) := by
  rw [Cert.OutProjIdeal.Value.flushed5]
  unfold out0_5
  rw [View.canon_unit_zero hz2, View.ld_unit_zero (S := S1024x1024) hz2, View.ld_unit_zero (S := S1024x512) hz2,
    View.ld_unit_zero (S := S512x1024) hz2, View.ld_unit_zero (S := S1024x512) hz2, View.ld_unit_zero (S := S512x1024) hz2]
  funext y
  obtain ⟨r, l, rfl⟩ : ∃ (r l : Fin 1024), y = ix2 r l := ⟨y 0, y 1, eq_ix2 (n0 := 1024) (n1 := 1024) y⟩
  refine (pay_apply (iblk m c 0 t) (iblk m c 1 t) (iblk m c 3 t) (iblk m c 2 t) (iblk m c 4 t) r l).trans ?_
  show _ = G m c (((cfg0.win 5).blk t).view.emb (ix2 r l))
  rw [out_idx]
  refine Eq.trans ?_ (ref_apply (m ((c : Thread nD τ).loc main_arg0)) (m ((c : Thread nD τ).loc main_arg1))
    (m ((c : Thread nD τ).loc main_arg2)) (m ((c : Thread nD τ).loc main_arg3))
    ⟨t.val * 1024 + r.val, by have := t_lt t; omega⟩ l).symm
  simp only [x_apply, a_apply, b_apply, u_apply, v_apply]

theorem cover (i : S32768x1024.Idx) :
    ∃ t : Fin cfg0.N, (cfg0.win 5).flush t = true ∧ i ∈ ((cfg0.win 5).blk t).view.set := by
  have h0 : (i 0 : Nat) < 32768 := (i 0).isLt
  have h1 : (i 1 : Nat) < 1024 := (i 1).isLt
  have ht : (i 0 : Nat) / 1024 < cfg0.N := by have : cfg0.N = 32 := N_0; omega
  refine ⟨⟨_, ht⟩, flush0_5 _, ?_⟩
  refine Eq.subst (motive := fun j => j ∈ _) ?_
    (View.emb_mem_set _ (ix2 (n0 := 1024) (n1 := 1024) ⟨(i 0 : Nat) % 1024, by omega⟩ ⟨(i 1 : Nat), h1⟩))
  rw [out_idx]
  funext a
  apply Fin.ext
  match a with
  | ⟨0, _⟩ => show (i 0 : Nat) / 1024 * 1024 + (i 0 : Nat) % 1024 = (i 0 : Nat); omega
  | ⟨1, _⟩ => rfl

theorem final (c : Dev nD) : (dats m 0 c).arrAt 5 cfg0.N = G m c :=
  (dats m 0 c).arrAt_eq_of_cover 5 (G m c) (fun t _ => flushed_eq m c t) cover

end Cert.Proof.Out

end
-- ==== Proof.Out.Claims.lean ====
/-
  The claims about the output projection, assembled from its runs.
-/
module

public import proofs.«01_k».proof.Defs
public import proofs.«01_k».proof.Proof.Gen.OutProj.Frame
public import proofs.«01_k».proof.Proof.Gen.OutProjRefIdeal.Run
public import proofs.«01_k».proof.Proof.Out.Value
public import Idealize.ShloMosaic.Lib.Quiescent

@[expose] public section

noncomputable section

namespace Cert.Proof.Out

open Idealize.ShloMosaic Idealize.ShloMosaic.TcCoe Idealize.SL.Sem

theorem frame : Cert.quiescent_OutProj := fun m ρ _ => Cert.OutProj.Gen.frame m ρ

theorem frame_ideal : Cert.quiescent_OutProjIdeal := fun m ρ _ => Cert.OutProjIdeal.Gen.frame m ρ

theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- Both programs end with the reference's function of the arguments. -/
theorem algebraic : Cert.algebraic_OutProjIdeal_OutProjRefIdeal := by
  intro m ρ m' ρ' _ hagree
  refine ⟨fun c => G m c, ?_, ?_⟩
  · exact (θ_run Cert.OutProjIdeal.defs _ _).mono (fun _ h c => ⟨(h c).1.trans (final m c), (h c).2⟩)
      (Cert.OutProjIdeal.Value.run_blocks (F := Ideal) m ρ)
  refine (θ_run Cert.OutProjRefIdeal.defs _ _).mono (fun _ h c => ⟨(h c).1.trans ?_, (h c).2⟩)
    (Cert.OutProjRefIdeal.Value.run (F := Ideal) m' ρ')
  refine (Cert.OutProjRefIdeal.Read.val_main_v4_eq (F := Ideal) _ _ _ _).trans ?_
  rw [(hagree c).1, (hagree c).2.1, (hagree c).2.2.1, (hagree c).2.2.2]

end Cert.Proof.Out

end
-- ==== Proof.lean ====
/- The claims about the layer's calls, gathered from the modules that prove each. -/
module

public import proofs.«01_k».proof.Defs
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.MemKvIdeal.Value
public import proofs.«01_k».proof.Proof.Gen.AttnIdeal.Value
public import proofs.«01_k».proof.Proof.Gen.MemKvRefIdeal.Run
public import proofs.«01_k».proof.Proof.Gen.MemKvRefIdeal.Read
public import proofs.«01_k».proof.Proof.Gen.AttnRefIdeal.Run
public import proofs.«01_k».proof.Proof.Gen.AttnRefIdeal.Read
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_tokens
public import proofs.«01_k».proof.Proof.Gen.Combine
public import proofs.«01_k».proof.Proof.Gen.Combine.Skeleton
public import proofs.«01_k».proof.Proof.Gen.Combine.Loops
public import proofs.«01_k».proof.Proof.Gen.Combine.Launch
public import proofs.«01_k».proof.Proof.Gen.Combine.Flash
public import proofs.«01_k».proof.Proof.Gen.CombineIdeal
public import proofs.«01_k».proof.Proof.Gen.CombineIdeal.Skeleton
public import proofs.«01_k».proof.Proof.Gen.CombineIdeal.Loops
public import proofs.«01_k».proof.Proof.Gen.CombineIdeal.Launch
public import proofs.«01_k».proof.Proof.Gen.CombineIdeal.Flash
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.Pre_rows_in
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Mem.Claims
public import proofs.«01_k».proof.Proof.Attn.Claims
public import proofs.«01_k».proof.Proof.Exp.Claims
public import proofs.«01_k».proof.Proof.Cmb.Claims
public import proofs.«01_k».proof.Proof.Conv.Claims
public import proofs.«01_k».proof.Proof.Out.Claims
public import Idealize.ShloMosaic.Adequacy
public import Idealize.ShloMosaic.Init

@[expose] public section

noncomputable section

namespace Cert.Proof

open Idealize.ShloMosaic Idealize.SL.Sem Cert.MemKv

theorem claim : Cert.Claim := ⟨Cert.MemKv.Gen.facts, Cert.MemKvIdeal.Gen.facts, Cert.MemKvRefIdeal.Gen.facts,
  Cert.Attn.Gen.facts, Cert.AttnIdeal.Gen.facts, Cert.AttnRefIdeal.Gen.facts,
  Cert.Experts.Gen.facts, Cert.ExpertsIdeal.Gen.facts, Cert.ExpertsRefIdeal.Gen.facts,
  Cert.Combine.Gen.facts, Cert.CombineIdeal.Gen.facts, Cert.CombineRefIdeal.Gen.facts,
  Cert.Conv.Gen.facts, Cert.ConvIdeal.Gen.facts, Cert.ConvRefIdeal.Gen.facts, Cert.OutProj.Gen.facts, Cert.OutProjIdeal.Gen.facts, Cert.OutProjRefIdeal.Gen.facts,
  Cert.Pre_tokens.Gen.facts, Cert.Pre_rows_in.Gen.facts,
  Mem.frame, Mem.frame_ideal, Mem.frame_ref, Attn.frame, Attn.frame_ideal, Attn.frame_ref,
  Exp.frame, Exp.frame_ideal, Exp.frame_ref, Cmb.frame, Cmb.frame_ideal, Cmb.frame_ref,
  Conv.frame, Conv.frame_ideal, Conv.frame_ref, Out.frame, Out.frame_ideal, Out.frame_ref,
  trivial, Mem.algebraic, trivial, Attn.algebraic, trivial, Exp.algebraic, trivial, Cmb.algebraic,
  trivial, Conv.algebraic, trivial, Out.algebraic⟩

end Cert.Proof

end
